-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "gelu_b" .f32 0xBDD2D3E8#32 (((-((2 * (Real.sqrt (2 * Real.pi⁻¹))) * (Real.log 2)⁻¹)) * (8943 / 200000) : ℝ) : EReal)
  ∧ IdealRules.named_const.Statement Cert.KernelIdeal.κ "gelu_a" .f32 0xC0135761#32 ((-((2 * (Real.sqrt (2 * Real.pi⁻¹))) * (Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v421) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x1024 : Shape := ⟨3, ![16, 2048, 1024]⟩
abbrev S1x1024 : Shape := ⟨2, ![1, 1024]⟩
abbrev S1x1024x2568 : Shape := ⟨3, ![1, 1024, 2568]⟩
abbrev S1x8x64 : Shape := ⟨3, ![1, 8, 64]⟩
abbrev S1x8x128x128 : Shape := ⟨4, ![1, 8, 128, 128]⟩
abbrev S1x8x128 : Shape := ⟨3, ![1, 8, 128]⟩
abbrev S1x4x1024 : Shape := ⟨3, ![1, 4, 1024]⟩
abbrev S1x8 : Shape := ⟨2, ![1, 8]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S32768x1024 : Shape := ⟨2, ![32768, 1024]⟩
abbrev S1024 : Shape := ⟨1, ![1024]⟩
abbrev S1024x2568 : Shape := ⟨2, ![1024, 2568]⟩
abbrev S8x64 : Shape := ⟨2, ![8, 64]⟩
abbrev S8x128x128 : Shape := ⟨3, ![8, 128, 128]⟩
abbrev S8x128 : Shape := ⟨2, ![8, 128]⟩
abbrev S4x1024 : Shape := ⟨2, ![4, 1024]⟩
abbrev S8 : Shape := ⟨1, ![8]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S1024x2560 : Shape := ⟨2, ![1024, 2560]⟩
abbrev S1024x8 : Shape := ⟨2, ![1024, 8]⟩
abbrev S_ : Shape := ⟨0, ![]⟩
abbrev S1024x128 : Shape := ⟨2, ![1024, 128]⟩
abbrev S128x128 : Shape := ⟨2, ![128, 128]⟩
abbrev S1x128x128 : Shape := ⟨3, ![1, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S128 : Shape := ⟨1, ![128]⟩
abbrev S1x128 : Shape := ⟨2, ![1, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x1024 : Shape := ⟨2, ![512, 1024]⟩
abbrev S256x1024 : Shape := ⟨2, ![256, 1024]⟩
abbrev S512x2560 : Shape := ⟨2, ![512, 2560]⟩
abbrev S512x128 : Shape := ⟨2, ![512, 128]⟩
abbrev S520x1024 : Shape := ⟨2, ![520, 1024]⟩
abbrev S2x128x256 : Shape := ⟨3, ![2, 128, 256]⟩
abbrev S1024x512 : Shape := ⟨2, ![1024, 512]⟩
abbrev S256x512 : Shape := ⟨2, ![256, 512]⟩
abbrev S256x128 : Shape := ⟨2, ![256, 128]⟩
abbrev S8x1024 : Shape := ⟨2, ![8, 1024]⟩
abbrev S128x256 : Shape := ⟨2, ![128, 256]⟩
abbrev S128x384 : Shape := ⟨2, ![128, 384]⟩
abbrev S512x512 : Shape := ⟨2, ![512, 512]⟩
abbrev S128x1024 : Shape := ⟨2, ![128, 1024]⟩
abbrev S1x128x256 : Shape := ⟨3, ![1, 128, 256]⟩
abbrev S128x1 : Shape := ⟨2, ![128, 1]⟩

abbrev nBuf : Space → Nat
  | .hbm => 125
  | .vmem => 35
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2568, .f32⟩
  | .hbm, ⟨3, _⟩ => ⟨S1x8x64, .f32⟩
  | .hbm, ⟨4, _⟩ => ⟨S1x8x64, .f32⟩
  | .hbm, ⟨5, _⟩ => ⟨S1x8x128x128, .f32⟩
  | .hbm, ⟨6, _⟩ => ⟨S1x8x128, .f32⟩
  | .hbm, ⟨7, _⟩ => ⟨S1x4x1024, .f32⟩
  | .hbm, ⟨8, _⟩ => ⟨S1x1024, .f32⟩
  | .hbm, ⟨9, _⟩ => ⟨S1x8, .f32⟩
  | .hbm, ⟨10, _⟩ => ⟨S1x8, .f32⟩
  | .hbm, ⟨11, _⟩ => ⟨S1x8, .f32⟩
  | .hbm, ⟨12, _⟩ => ⟨S1x512, .f32⟩
  | .hbm, ⟨13, _⟩ => ⟨S1x1024x1024, .f32⟩
  | .hbm, ⟨14, _⟩ => ⟨S1x1024, .f32⟩
  | .hbm, ⟨15, _⟩ => ⟨S1x1024, .f32⟩
  | .hbm, ⟨16, _⟩ => ⟨S1x1024x4096, .f32⟩
  | .hbm, ⟨17, _⟩ => ⟨S1x4096x1024, .f32⟩
  | .hbm, ⟨18, _⟩ => ⟨S1x1024, .f32⟩
  | .hbm, ⟨19, _⟩ => ⟨S32768x1024, .f32⟩
  | .hbm, ⟨20, _⟩ => ⟨S1024, .f32⟩
  | .hbm, ⟨21, _⟩ => ⟨S1024x2568, .f32⟩
  | .hbm, ⟨22, _⟩ => ⟨S8x64, .f32⟩
  | .hbm, ⟨23, _⟩ => ⟨S8x64, .f32⟩
  | .hbm, ⟨24, _⟩ => ⟨S8x128x128, .f32⟩
  | .hbm, ⟨25, _⟩ => ⟨S8x128, .f32⟩
  | .hbm, ⟨26, _⟩ => ⟨S4x1024, .f32⟩
  | .hbm, ⟨27, _⟩ => ⟨S1024, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S512, .f32⟩
  | .hbm, ⟨32, _⟩ => ⟨S1024x1024, .f32⟩
  | .hbm, ⟨33, _⟩ => ⟨S1024, .f32⟩
  | .hbm, ⟨34, _⟩ => ⟨S1024, .f32⟩
  | .hbm, ⟨35, _⟩ => ⟨S1024x4096, .f32⟩
  | .hbm, ⟨36, _⟩ => ⟨S4096x1024, .f32⟩
  | .hbm, ⟨37, _⟩ => ⟨S1024, .f32⟩
  | .hbm, ⟨38, _⟩ => ⟨S1024x2560, .f32⟩
  | .hbm, ⟨39, _⟩ => ⟨S1024x2560, .bf16⟩
  | .hbm, ⟨40, _⟩ => ⟨S1024x8, .f32⟩
  | .hbm, ⟨41, _⟩ => ⟨S_, .i32⟩
  | .hbm, ⟨42, _⟩ => ⟨S_, .f32⟩
  | .hbm, ⟨43, _⟩ => ⟨S1024x128, .f32⟩
  | .hbm, ⟨44, _⟩ => ⟨S1024x128, .bf16⟩
  | .hbm, ⟨45, _⟩ => ⟨S_, .i1⟩
  | .hbm, ⟨46, _⟩ => ⟨S128x128, .i1⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S_, .i1⟩
  | .hbm, ⟨54, _⟩ => ⟨S128x128, .i1⟩
  | .hbm, ⟨55, _⟩ => ⟨S128x128, .i1⟩
  | .hbm, ⟨56, _⟩ => ⟨S1x128x128, .i1⟩
  | .hbm, ⟨57, _⟩ => ⟨S_, .f32⟩
  | .hbm, ⟨58, _⟩ => ⟨S_, .f32⟩
  | .hbm, ⟨59, _⟩ => ⟨S8x128x128, .i1⟩
  | .hbm, ⟨60, _⟩ => ⟨S8x128x128, .f32⟩
  | .hbm, ⟨61, _⟩ => ⟨S8x128x128, .f32⟩
  | .hbm, ⟨62, _⟩ => ⟨S8x128x128, .bf16⟩
  | .hbm, ⟨63, _⟩ => ⟨S4x2x128x128, .bf16⟩
  | .hbm, ⟨64, _⟩ => ⟨S4x128x2x128, .bf16⟩
  | .hbm, ⟨65, _⟩ => ⟨S4x128x256, .bf16⟩
  | .hbm, ⟨66, _⟩ => ⟨S128x8, .f32⟩
  | .hbm, ⟨67, _⟩ => ⟨S128x8x64, .f32⟩
  | .hbm, ⟨68, _⟩ => ⟨S128x512, .f32⟩
  | .hbm, ⟨69, _⟩ => ⟨S_, .i32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S8, .f32⟩
  | .hbm, ⟨74, _⟩ => ⟨S8, .f32⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S1x128, .f32⟩
  | .hbm, ⟨79, _⟩ => ⟨S8x64, .f32⟩
  | .hbm, ⟨80, _⟩ => ⟨S512, .f32⟩
  | .hbm, ⟨81, _⟩ => ⟨S1x512, .f32⟩
  | .hbm, ⟨82, _⟩ => ⟨S256, .i32⟩
  | .hbm, ⟨83, _⟩ => ⟨S_, .i32⟩
  | .hbm, ⟨84, _⟩ => ⟨S_, .i32⟩
  | .hbm, ⟨85, _⟩ => ⟨S256, .i32⟩
  | .hbm, ⟨86, _⟩ => ⟨S256, .i32⟩
  | .hbm, ⟨87, _⟩ => ⟨S256, .i32⟩
  | .hbm, ⟨88, _⟩ => ⟨S_, .i32⟩
  | .hbm, ⟨89, _⟩ => ⟨S256, .i32⟩
  | .hbm, ⟨90, _⟩ => ⟨S256, .i1⟩
  | .hbm, ⟨91, _⟩ => ⟨S256, .i32⟩
  | .hbm, ⟨92, _⟩ => ⟨S256, .i32⟩
  | .hbm, ⟨93, _⟩ => ⟨S_, .i32⟩
  | .hbm, ⟨94, _⟩ => ⟨S256, .i32⟩
  | .hbm, ⟨95, _⟩ => ⟨S256, .i1⟩
  | .hbm, ⟨96, _⟩ => ⟨S256, .i1⟩
  | .hbm, ⟨97, _⟩ => ⟨S_, .i32⟩
  | .hbm, ⟨98, _⟩ => ⟨S256, .i32⟩
  | .hbm, ⟨99, _⟩ => ⟨S256, .i32⟩
  | .hbm, ⟨100, _⟩ => ⟨S256, .i32⟩
  | .hbm, ⟨101, _⟩ => ⟨S256x1, .i32⟩
  | .hbm, ⟨102, _⟩ => ⟨S1x256, .i32⟩
  | .hbm, ⟨103, _⟩ => ⟨S256x256, .i32⟩
  | .hbm, ⟨104, _⟩ => ⟨S256x256, .i32⟩
  | .hbm, ⟨105, _⟩ => ⟨S256x256, .i1⟩
  | .hbm, ⟨106, _⟩ => ⟨S_, .f32⟩
  | .hbm, ⟨107, _⟩ => ⟨S_, .f32⟩
  | .hbm, ⟨108, _⟩ => ⟨S256x256, .f32⟩
  | .hbm, ⟨109, _⟩ => ⟨S256x256, .f32⟩
  | .hbm, ⟨110, _⟩ => ⟨S256x256, .f32⟩
  | .hbm, ⟨111, _⟩ => ⟨S256x256, .bf16⟩
  | .hbm, ⟨112, _⟩ => ⟨S128x128, .bf16⟩
  | .hbm, ⟨113, _⟩ => ⟨S1x1024, .f32⟩
  | .hbm, ⟨114, _⟩ => ⟨S1x512, .f32⟩
  | .hbm, ⟨115, _⟩ => ⟨S1x512, .f32⟩
  | .hbm, ⟨116, _⟩ => ⟨S1x1024, .f32⟩
  | .hbm, ⟨117, _⟩ => ⟨S1x512, .f32⟩
  | .hbm, ⟨118, _⟩ => ⟨S1024x1024, .bf16⟩
  | .hbm, ⟨119, _⟩ => ⟨S1x1024, .f32⟩
  | .hbm, ⟨120, _⟩ => ⟨S1x1024, .f32⟩
  | .hbm, ⟨121, _⟩ => ⟨S1024x4096, .bf16⟩
  | .hbm, ⟨122, _⟩ => ⟨S4096x1024, .bf16⟩
  | .hbm, ⟨123, _⟩ => ⟨S1x1024, .f32⟩
  | .hbm, ⟨124, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x2560, .bf16⟩
  | .local _ .vmem, ⟨8, _⟩ => ⟨S1024x128, .bf16⟩
  | .local _ .vmem, ⟨9, _⟩ => ⟨S1x512, .f32⟩
  | .local _ .vmem, ⟨10, _⟩ => ⟨S1x512, .f32⟩
  | .local _ .vmem, ⟨11, _⟩ => ⟨S4x128x256, .bf16⟩
  | .local _ .vmem, ⟨12, _⟩ => ⟨S128x512, .f32⟩
  | .local _ .vmem, ⟨13, _⟩ => ⟨S4x1024, .f32⟩
  | .local _ .vmem, ⟨14, _⟩ => ⟨S1x1024, .f32⟩
  | .local _ .vmem, ⟨15, _⟩ => ⟨S1x128, .f32⟩
  | .local _ .vmem, ⟨16, _⟩ => ⟨S1x128, .f32⟩
  | .local _ .vmem, ⟨17, _⟩ => ⟨S1x512, .f32⟩
  | .local _ .vmem, ⟨18, _⟩ => ⟨S1x512, .f32⟩
  | .local _ .vmem, ⟨19, _⟩ => ⟨S256x256, .bf16⟩
  | .local _ .vmem, ⟨20, _⟩ => ⟨S128x128, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1024x4096, .bf16⟩
  | .local _ .vmem, ⟨25, _⟩ => ⟨S4096x1024, .bf16⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x2560, .f32⟩
  | .local _ .vmem, ⟨30, _⟩ => ⟨S512x128, .f32⟩
  | .local _ .vmem, ⟨31, _⟩ => ⟨S512x1024, .bf16⟩
  | .local _ .vmem, ⟨32, _⟩ => ⟨S520x1024, .f32⟩
  | .local _ .vmem, ⟨33, _⟩ => ⟨S2x128x256, .f32⟩
  | .local _ .vmem, ⟨34, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_call0_v0 : Ref sig .tc := ⟨.hbm, 42, rfl⟩
abbrev main_v22 : Ref sig .tc := ⟨.hbm, 43, rfl⟩
abbrev main_v23 : Ref sig .tc := ⟨.hbm, 44, rfl⟩
abbrev main_c_0 : Ref sig .tc := ⟨.hbm, 45, rfl⟩
abbrev main_v24 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v25 : Ref sig .tc := ⟨.hbm, 55, rfl⟩
abbrev main_v26 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_1 : Ref sig .tc := ⟨.hbm, 69, rfl⟩
abbrev main_call3_v0 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_2 : Ref sig .tc := ⟨.hbm, 75, rfl⟩
abbrev main_call4_v0 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_3 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_v5 : Ref sig .tc := ⟨.hbm, 89, rfl⟩
abbrev main_call5_v6 : Ref sig .tc := ⟨.hbm, 90, rfl⟩
abbrev main_call5_v7 : Ref sig .tc := ⟨.hbm, 91, rfl⟩
abbrev main_call5_v8 : Ref sig .tc := ⟨.hbm, 92, rfl⟩
abbrev main_call5_c : Ref sig .tc := ⟨.hbm, 93, rfl⟩
abbrev main_call5_v9 : Ref sig .tc := ⟨.hbm, 94, rfl⟩
abbrev main_call5_v10 : Ref sig .tc := ⟨.hbm, 95, rfl⟩
abbrev main_call5_v11 : Ref sig .tc := ⟨.hbm, 96, rfl⟩
abbrev main_call5_c_0 : Ref sig .tc := ⟨.hbm, 97, rfl⟩
abbrev main_call5_v12 : Ref sig .tc := ⟨.hbm, 98, rfl⟩
abbrev main_call5_v13 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_4 : Ref sig .tc := ⟨.hbm, 106, rfl⟩
abbrev main_cst_5 : Ref sig .tc := ⟨.hbm, 107, rfl⟩
abbrev main_call6_v0 : Ref sig .tc := ⟨.hbm, 108, rfl⟩
abbrev main_call6_v1 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg24_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem24_1 : DmaSem sig := 28

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli c2_i32 v0
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x4096 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4096x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== KernelIdeal.lean ====
variable {F : FTy → Type} [FloatOps F] [Named F]
def κ : String → Option EReal := fun
  | "gelu_a" => some ((-((2 * (Real.sqrt (2 * Real.pi⁻¹))) * (Real.log 2)⁻¹) : ℝ) : EReal)
  | "gelu_b" => some (((-((2 * (Real.sqrt (2 * Real.pi⁻¹))) * (Real.log 2)⁻¹)) * (8943 / 200000) : ℝ) : EReal)
  | "log2e" => some (((Real.log 2)⁻¹ : ℝ) : EReal)
  | "neg_log2e" => some ((-((Real.log 2)⁻¹) : ℝ) : EReal)
  | _ => none
-- ==== ReferenceIdeal.lean ====
abbrev S16x2048x1024 : Shape := ⟨3, ![16, 2048, 1024]⟩
abbrev S1x1024 : Shape := ⟨2, ![1, 1024]⟩
abbrev S1x1024x2568 : Shape := ⟨3, ![1, 1024, 2568]⟩
abbrev S1x8x64 : Shape := ⟨3, ![1, 8, 64]⟩
abbrev S1x8x128x128 : Shape := ⟨4, ![1, 8, 128, 128]⟩
abbrev S1x8x128 : Shape := ⟨3, ![1, 8, 128]⟩
abbrev S1x4x1024 : Shape := ⟨3, ![1, 4, 1024]⟩
abbrev S1x8 : Shape := ⟨2, ![1, 8]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2568 : Shape := ⟨2, ![1024, 2568]⟩
abbrev S16x2048x2568 : Shape := ⟨3, ![16, 2048, 2568]⟩
abbrev S16x2048x512 : Shape := ⟨3, ![16, 2048, 512]⟩
abbrev S16x2048x8 : Shape := ⟨3, ![16, 2048, 8]⟩
abbrev S8x64 : Shape := ⟨2, ![8, 64]⟩
abbrev S8x128x128 : Shape := ⟨3, ![8, 128, 128]⟩
abbrev S8x128 : Shape := ⟨2, ![8, 128]⟩
abbrev S16x2048x8x64 : Shape := ⟨4, ![16, 2048, 8, 64]⟩
abbrev S16x2048x8x1 : Shape := ⟨4, ![16, 2048, 8, 1]⟩
abbrev S1x1x8x64 : Shape := ⟨4, ![1, 1, 8, 64]⟩
abbrev S16x16x128x8x64 : Shape := ⟨5, ![16, 16, 128, 8, 64]⟩
abbrev S128x128 : Shape := ⟨2, ![128, 128]⟩
abbrev S1x128x128 : Shape := ⟨3, ![1, 128, 128]⟩
abbrev S8x16x16x64x128 : Shape := ⟨5, ![8, 16, 16, 64, 128]⟩
abbrev S128x8 : Shape := ⟨2, ![128, 8]⟩
abbrev S1x1x128x8x1 : Shape := ⟨5, ![1, 1, 128, 8, 1]⟩
abbrev S4x1024 : Shape := ⟨2, ![4, 1024]⟩
abbrev S8 : Shape := ⟨1, ![8]⟩
abbrev S512 : Shape := ⟨1, ![512]⟩
abbrev S16x2051x1024 : Shape := ⟨3, ![16, 2051, 1024]⟩
abbrev S16x2048x256 : Shape := ⟨3, ![16, 2048, 256]⟩
abbrev S16x2048x2x128 : Shape := ⟨4, ![16, 2048, 2, 128]⟩
abbrev S1x1x8 : Shape := ⟨3, ![1, 1, 8]⟩
abbrev S16x16x128x8 : Shape := ⟨4, ![16, 16, 128, 8]⟩
abbrev S16x2048x2x1x128 : Shape := ⟨5, ![16, 2048, 2, 1, 128]⟩
abbrev S16x2048x2x4x128 : Shape := ⟨5, ![16, 2048, 2, 4, 128]⟩
abbrev S16x2048x8x128 : Shape := ⟨4, ![16, 2048, 8, 128]⟩
abbrev S16x16x128x8x128 : Shape := ⟨5, ![16, 16, 128, 8, 128]⟩
abbrev S1x1x1x8 : Shape := ⟨4, ![1, 1, 1, 8]⟩
abbrev S16x16x128x8x1 : Shape := ⟨5, ![16, 16, 128, 8, 1]⟩
abbrev S128x128x1 : Shape := ⟨3, ![128, 128, 1]⟩
abbrev S16x16x128x1x8 : Shape := ⟨5, ![16, 16, 128, 1, 8]⟩
abbrev S16x16x1x128x8 : Shape := ⟨5, ![16, 16, 1, 128, 8]⟩
abbrev S16x16x128x128x8 : Shape := ⟨5, ![16, 16, 128, 128, 8]⟩
abbrev S16x16x8x128x128 : Shape := ⟨5, ![16, 16, 8, 128, 128]⟩
abbrev S16x16x8x64x128 : Shape := ⟨5, ![16, 16, 8, 64, 128]⟩
abbrev S16x16x1x8 : Shape := ⟨4, ![16, 16, 1, 8]⟩
abbrev S16x16x8 : Shape := ⟨3, ![16, 16, 8]⟩
abbrev S16x8x64x128 : Shape := ⟨4, ![16, 8, 64, 128]⟩
abbrev S16x1x8 : Shape := ⟨3, ![16, 1, 8]⟩
abbrev S16x8 : Shape := ⟨2, ![16, 8]⟩
abbrev S16x8x1x1 : Shape := ⟨4, ![16, 8, 1, 1]⟩
abbrev S16x1x8x64x128 : Shape := ⟨5, ![16, 1, 8, 64, 128]⟩
abbrev S8x1 : Shape := ⟨2, ![8, 1]⟩
abbrev S1x1x1x8x1 : Shape := ⟨5, ![1, 1, 1, 8, 1]⟩
abbrev S16x2048x2x256 : Shape := ⟨4, ![16, 2048, 2, 256]⟩
abbrev S16x2048x2 : Shape := ⟨3, ![16, 2048, 2]⟩
abbrev S16x2048x2x1 : Shape := ⟨4, ![16, 2048, 2, 1]⟩
abbrev S1x1x512 : Shape := ⟨3, ![1, 1, 512]⟩
abbrev S1024x1024 : Shape := ⟨2, ![1024, 1024]⟩
abbrev S1024x4096 : Shape := ⟨2, ![1024, 4096]⟩
abbrev S16x2048x4096 : Shape := ⟨3, ![16, 2048, 4096]⟩
abbrev S4096x1024 : Shape := ⟨2, ![4096, 1024]⟩
abbrev S32768x1024 : Shape := ⟨2, ![32768, 1024]⟩

abbrev nBuf : Space → Nat
  | .hbm => 536
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x2568, .f32⟩
  | 3 => ⟨S1x8x64, .f32⟩
  | 4 => ⟨S1x8x64, .f32⟩
  | 5 => ⟨S1x8x128x128, .f32⟩
  | 6 => ⟨S1x8x128, .f32⟩
  | 7 => ⟨S1x4x1024, .f32⟩
  | 8 => ⟨S1x1024, .f32⟩
  | 9 => ⟨S1x8, .f32⟩
  | 10 => ⟨S1x8, .f32⟩
  | 11 => ⟨S1x8, .f32⟩
  | 12 => ⟨S1x512, .f32⟩
  | 13 => ⟨S1x1024x1024, .f32⟩
  | 14 => ⟨S1x1024, .f32⟩
  | 15 => ⟨S1x1024, .f32⟩
  | 16 => ⟨S1x1024x4096, .f32⟩
  | 17 => ⟨S1x4096x1024, .f32⟩
  | 18 => ⟨S1x1024, .f32⟩
  | 19 => ⟨S1024, .f32⟩
  | 20 => ⟨S16x2048x1024, .f32⟩
  | 21 => ⟨S_, .f32⟩
  | 22 => ⟨S16x2048, .f32⟩
  | 23 => ⟨S16x2048x1, .f32⟩
  | 24 => ⟨S_, .f32⟩
  | 25 => ⟨S16x2048x1, .f32⟩
  | 26 => ⟨S16x2048x1, .f32⟩
  | 27 => ⟨S_, .f32⟩
  | 28 => ⟨S16x2048x1, .f32⟩
  | 29 => ⟨S16x2048x1, .f32⟩
  | 30 => ⟨S16x2048x1, .f32⟩
  | 31 => ⟨S16x2048x1024, .f32⟩
  | 32 => ⟨S16x2048x1024, .f32⟩
  | 33 => ⟨S1x1x1024, .f32⟩
  | 34 => ⟨S16x2048x1024, .f32⟩
  | 35 => ⟨S16x2048x1024, .f32⟩
  | 36 => ⟨S1024x2568, .f32⟩
  | 37 => ⟨S16x2048x2568, .f32⟩
  | 38 => ⟨S16x2048x512, .f32⟩
  | 39 => ⟨S16x2048x512, .f32⟩
  | 40 => ⟨S16x2048x512, .f32⟩
  | 41 => ⟨S16x2048x1024, .f32⟩
  | 42 => ⟨S16x2048x8, .f32⟩
  | 43 => ⟨S8x64, .f32⟩
  | 44 => ⟨S8x64, .f32⟩
  | 45 => ⟨S8x128x128, .f32⟩
  | 46 => ⟨S8x128, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S16x2048x512, .f32⟩
  | 58 => ⟨S16x2048x512, .f32⟩
  | 59 => ⟨S16x2048x512, .f32⟩
  | 60 => ⟨S16x2048x512, .f32⟩
  | 61 => ⟨S16x2048x512, .f32⟩
  | 62 => ⟨S16x2048x512, .f32⟩
  | 63 => ⟨S16x2048x512, .f32⟩
  | 64 => ⟨S16x2048x512, .f32⟩
  | 65 => ⟨S_, .f32⟩
  | 66 => ⟨S16x2048x512, .f32⟩
  | 67 => ⟨S16x2048x512, .f32⟩
  | 68 => ⟨S_, .f32⟩
  | 69 => ⟨S16x2048x512, .f32⟩
  | 70 => ⟨S16x2048x512, .f32⟩
  | 71 => ⟨S16x2048x512, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S16x2048x512, .f32⟩
  | 83 => ⟨S16x2048x512, .f32⟩
  | 84 => ⟨S16x2048x512, .f32⟩
  | 85 => ⟨S16x2048x512, .f32⟩
  | 86 => ⟨S16x2048x512, .f32⟩
  | 87 => ⟨S16x2048x512, .f32⟩
  | 88 => ⟨S16x2048x512, .f32⟩
  | 89 => ⟨S16x2048x512, .f32⟩
  | 90 => ⟨S_, .f32⟩
  | 91 => ⟨S16x2048x512, .f32⟩
  | 92 => ⟨S16x2048x512, .f32⟩
  | 93 => ⟨S_, .f32⟩
  | 94 => ⟨S16x2048x512, .f32⟩
  | 95 => ⟨S16x2048x512, .f32⟩
  | 96 => ⟨S16x2048x512, .f32⟩
  | 97 => ⟨S16x2048x8x64, .f32⟩
  | 98 => ⟨S_, .f32⟩
  | 99 => ⟨S16x2048x8, .f32⟩
  | 100 => ⟨S16x2048x8x1, .f32⟩
  | 101 => ⟨S_, .f32⟩
  | 102 => ⟨S16x2048x8x1, .f32⟩
  | 103 => ⟨S16x2048x8x1, .f32⟩
  | 104 => ⟨S16x2048x8x64, .f32⟩
  | 105 => ⟨S16x2048x8x64, .f32⟩
  | 106 => ⟨S16x2048x8x64, .f32⟩
  | 107 => ⟨S_, .f32⟩
  | 108 => ⟨S16x2048x8, .f32⟩
  | 109 => ⟨S16x2048x8x1, .f32⟩
  | 110 => ⟨S_, .f32⟩
  | 111 => ⟨S16x2048x8x1, .f32⟩
  | 112 => ⟨S16x2048x8x1, .f32⟩
  | 113 => ⟨S16x2048x8x64, .f32⟩
  | 114 => ⟨S16x2048x8x64, .f32⟩
  | 115 => ⟨S_, .f32⟩
  | 116 => ⟨S16x2048x8x1, .f32⟩
  | 117 => ⟨S16x2048x8x1, .f32⟩
  | 118 => ⟨S16x2048x8x1, .f32⟩
  | 119 => ⟨S16x2048x8x64, .f32⟩
  | 120 => ⟨S16x2048x8x64, .f32⟩
  | 121 => ⟨S1x1x8x64, .f32⟩
  | 122 => ⟨S16x2048x8x64, .f32⟩
  | 123 => ⟨S16x2048x8x64, .f32⟩
  | 124 => ⟨S1x1x8x64, .f32⟩
  | 125 => ⟨S16x2048x8x64, .f32⟩
  | 126 => ⟨S16x2048x8x64, .f32⟩
  | 127 => ⟨S16x16x128x8x64, .f32⟩
  | _ => ⟨S16x2048x1024, .f32⟩

abbrev hbmTy0_1 (i : Nat) : BufTy := match i % 128 with
  | 0 => ⟨S_, .i1⟩
  | 1 => ⟨S128x128, .i1⟩
  | 2 => ⟨S128x128, .i32⟩
  | 3 => ⟨S_, .i32⟩
  | 4 => ⟨S128x128, .i32⟩
  | 5 => ⟨S128x128, .i32⟩
  | 6 => ⟨S128x128, .i32⟩
  | 7 => ⟨S128x128, .i1⟩
  | 8 => ⟨S_, .i1⟩
  | 9 => ⟨S128x128, .i1⟩
  | 10 => ⟨S128x128, .i1⟩
  | 11 => ⟨S1x128x128, .i1⟩
  | 12 => ⟨S_, .f32⟩
  | 13 => ⟨S8x128x128, .i1⟩
  | 14 => ⟨S8x128x128, .f32⟩
  | 15 => ⟨S8x128x128, .f32⟩
  | 16 => ⟨S8x16x16x64x128, .f32⟩
  | 17 => ⟨S16x16x128x8x64, .f32⟩
  | 18 => ⟨S128x8, .f32⟩
  | 19 => ⟨S1x1x128x8x1, .f32⟩
  | 20 => ⟨S16x16x128x8x64, .f32⟩
  | 21 => ⟨S16x16x128x8x64, .f32⟩
  | 22 => ⟨S16x2048x512, .f32⟩
  | 23 => ⟨S16x2048x512, .f32⟩
  | 24 => ⟨S4x1024, .f32⟩
  | 25 => ⟨S1024, .f32⟩
  | 26 => ⟨S8, .f32⟩
  | 27 => ⟨S8, .f32⟩
  | 28 => ⟨S8, .f32⟩
  | 29 => ⟨S512, .f32⟩
  | 30 => ⟨S_, .i32⟩
  | 31 => ⟨S_, .f32⟩
  | 32 => ⟨S16x2051x1024, .f32⟩
  | 33 => ⟨S16x2048x1024, .f32⟩
  | 34 => ⟨S1x1024, .f32⟩
  | 35 => ⟨S1024, .f32⟩
  | 36 => ⟨S1x1x1024, .f32⟩
  | 37 => ⟨S16x2048x1024, .f32⟩
  | 38 => ⟨S16x2048x1024, .f32⟩
  | 39 => ⟨S16x2048x1024, .f32⟩
  | 40 => ⟨S1x1024, .f32⟩
  | 41 => ⟨S1024, .f32⟩
  | 42 => ⟨S1x1x1024, .f32⟩
  | 43 => ⟨S16x2048x1024, .f32⟩
  | 44 => ⟨S16x2048x1024, .f32⟩
  | 45 => ⟨S16x2048x1024, .f32⟩
  | 46 => ⟨S16x2048x1024, .f32⟩
  | 47 => ⟨S1x1024, .f32⟩
  | 48 => ⟨S1024, .f32⟩
  | 49 => ⟨S1x1x1024, .f32⟩
  | 50 => ⟨S16x2048x1024, .f32⟩
  | 51 => ⟨S16x2048x1024, .f32⟩
  | 52 => ⟨S16x2048x1024, .f32⟩
  | 53 => ⟨S16x2048x1024, .f32⟩
  | 54 => ⟨S1x1024, .f32⟩
  | 55 => ⟨S1024, .f32⟩
  | 56 => ⟨S1x1x1024, .f32⟩
  | 57 => ⟨S16x2048x1024, .f32⟩
  | 58 => ⟨S16x2048x1024, .f32⟩
  | 59 => ⟨S16x2048x1024, .f32⟩
  | 60 => ⟨S1x1x1024, .f32⟩
  | 61 => ⟨S16x2048x1024, .f32⟩
  | 62 => ⟨S16x2048x1024, .f32⟩
  | 63 => ⟨S16x2048x1024, .f32⟩
  | 64 => ⟨S16x2048x1024, .f32⟩
  | 65 => ⟨S_, .f32⟩
  | 66 => ⟨S16x2048x1024, .f32⟩
  | 67 => ⟨S16x2048x1024, .f32⟩
  | 68 => ⟨S_, .f32⟩
  | 69 => ⟨S16x2048x1024, .f32⟩
  | 70 => ⟨S16x2048x1024, .f32⟩
  | 71 => ⟨S16x2048x1024, .f32⟩
  | 72 => ⟨S16x2048x512, .f32⟩
  | 73 => ⟨S16x2048x8x64, .f32⟩
  | 74 => ⟨S16x2048x256, .f32⟩
  | 75 => ⟨S16x2048x2x128, .f32⟩
  | 76 => ⟨S16x2048x256, .f32⟩
  | 77 => ⟨S16x2048x2x128, .f32⟩
  | 78 => ⟨S1x1x8, .f32⟩
  | 79 => ⟨S16x2048x8, .f32⟩
  | 80 => ⟨S16x2048x8, .f32⟩
  | 81 => ⟨S_, .f32⟩
  | 82 => ⟨S16x2048x8, .f32⟩
  | 83 => ⟨S16x2048x8, .f32⟩
  | 84 => ⟨S16x2048x8, .f32⟩
  | 85 => ⟨S16x2048x8, .f32⟩
  | 86 => ⟨S16x2048x8, .i1⟩
  | 87 => ⟨S16x2048x8, .f32⟩
  | 88 => ⟨S16x2048x8, .f32⟩
  | 89 => ⟨S16x2048x8, .f32⟩
  | 90 => ⟨S16x2048x8, .f32⟩
  | 91 => ⟨S16x2048x8, .f32⟩
  | 92 => ⟨S16x2048x8, .f32⟩
  | 93 => ⟨S16x2048x8, .f32⟩
  | 94 => ⟨S16x2048x8, .f32⟩
  | 95 => ⟨S8, .f32⟩
  | 96 => ⟨S8, .f32⟩
  | 97 => ⟨S16x16x128x8x64, .f32⟩
  | 98 => ⟨S16x16x128x8, .f32⟩
  | 99 => ⟨S16x2048x2x1x128, .f32⟩
  | 100 => ⟨S16x2048x2x4x128, .f32⟩
  | 101 => ⟨S16x2048x8x128, .f32⟩
  | 102 => ⟨S16x16x128x8x128, .f32⟩
  | 103 => ⟨S16x2048x2x1x128, .f32⟩
  | 104 => ⟨S16x2048x2x4x128, .f32⟩
  | 105 => ⟨S16x2048x8x128, .f32⟩
  | 106 => ⟨S16x16x128x8x128, .f32⟩
  | 107 => ⟨S1x1x1x8, .f32⟩
  | 108 => ⟨S16x16x128x8, .f32⟩
  | 109 => ⟨S16x16x128x8, .f32⟩
  | 110 => ⟨S_, .f32⟩
  | 111 => ⟨S_, .f32⟩
  | 112 => ⟨S16x16x128x8, .f32⟩
  | 113 => ⟨S16x16x128x8x1, .f32⟩
  | 114 => ⟨S16x16x128x8x64, .f32⟩
  | 115 => ⟨S16x16x128x8x64, .f32⟩
  | 116 => ⟨S_, .i1⟩
  | 117 => ⟨S128x128, .i1⟩
  | 118 => ⟨S128x128, .i32⟩
  | 119 => ⟨S_, .i32⟩
  | 120 => ⟨S128x128, .i32⟩
  | 121 => ⟨S128x128, .i32⟩
  | 122 => ⟨S128x128, .i32⟩
  | 123 => ⟨S128x128, .i1⟩
  | 124 => ⟨S_, .i1⟩
  | 125 => ⟨S128x128, .i1⟩
  | 126 => ⟨S128x128, .i1⟩
  | 127 => ⟨S128x128x1, .i1⟩
  | _ => ⟨S16x2048x1024, .f32⟩

abbrev hbmTy0_2 (i : Nat) : BufTy := match i % 128 with
  | 0 => ⟨S16x16x128x1x8, .f32⟩
  | 1 => ⟨S16x16x1x128x8, .f32⟩
  | 2 => ⟨S16x16x128x128x8, .f32⟩
  | 3 => ⟨S16x16x128x128x8, .f32⟩
  | 4 => ⟨S16x16x128x128x8, .f32⟩
  | 5 => ⟨S_, .f32⟩
  | 6 => ⟨S_, .f32⟩
  | 7 => ⟨S16x16x128x128x8, .i1⟩
  | 8 => ⟨S16x16x128x128x8, .f32⟩
  | 9 => ⟨S16x16x128x128x8, .f32⟩
  | 10 => ⟨S16x16x128x128x8, .f32⟩
  | 11 => ⟨S16x16x8x128x128, .f32⟩
  | 12 => ⟨S16x16x128x128x8, .f32⟩
  | 13 => ⟨S16x16x128x128x8, .f32⟩
  | 14 => ⟨S16x16x8x64x128, .f32⟩
  | 15 => ⟨S16x16x128x8x64, .f32⟩
  | 16 => ⟨S16x16x1x8, .f32⟩
  | 17 => ⟨S16x16x128x8, .f32⟩
  | 18 => ⟨S16x16x128x8, .f32⟩
  | 19 => ⟨S16x16x128x8, .f32⟩
  | 20 => ⟨S16x16x128x8x1, .f32⟩
  | 21 => ⟨S16x16x128x8x128, .f32⟩
  | 22 => ⟨S16x16x128x8x128, .f32⟩
  | 23 => ⟨S16x16x8x64x128, .f32⟩
  | 24 => ⟨S16x16x1x8, .f32⟩
  | 25 => ⟨S16x16x8, .f32⟩
  | 26 => ⟨S16x16x8, .f32⟩
  | 27 => ⟨S_, .f32⟩
  | 28 => ⟨S16x8x64x128, .f32⟩
  | 29 => ⟨S16x1x8, .f32⟩
  | 30 => ⟨S16x8, .f32⟩
  | 31 => ⟨S16x8x1x1, .f32⟩
  | 32 => ⟨S16x8x64x128, .f32⟩
  | 33 => ⟨S16x8x64x128, .f32⟩
  | 34 => ⟨S16x1x8x64x128, .f32⟩
  | 35 => ⟨S16x8x64x128, .f32⟩
  | 36 => ⟨S16x8x64x128, .f32⟩
  | 37 => ⟨S16x1x8, .f32⟩
  | 38 => ⟨S16x8, .f32⟩
  | 39 => ⟨S16x8x1x1, .f32⟩
  | 40 => ⟨S16x8x64x128, .f32⟩
  | 41 => ⟨S16x8x64x128, .f32⟩
  | 42 => ⟨S16x1x8x64x128, .f32⟩
  | 43 => ⟨S16x8x64x128, .f32⟩
  | 44 => ⟨S16x8x64x128, .f32⟩
  | 45 => ⟨S16x1x8, .f32⟩
  | 46 => ⟨S16x8, .f32⟩
  | 47 => ⟨S16x8x1x1, .f32⟩
  | 48 => ⟨S16x8x64x128, .f32⟩
  | 49 => ⟨S16x8x64x128, .f32⟩
  | 50 => ⟨S16x1x8x64x128, .f32⟩
  | 51 => ⟨S16x8x64x128, .f32⟩
  | 52 => ⟨S16x8x64x128, .f32⟩
  | 53 => ⟨S16x1x8, .f32⟩
  | 54 => ⟨S16x8, .f32⟩
  | 55 => ⟨S16x8x1x1, .f32⟩
  | 56 => ⟨S16x8x64x128, .f32⟩
  | 57 => ⟨S16x8x64x128, .f32⟩
  | 58 => ⟨S16x1x8x64x128, .f32⟩
  | 59 => ⟨S16x8x64x128, .f32⟩
  | 60 => ⟨S16x8x64x128, .f32⟩
  | 61 => ⟨S16x1x8, .f32⟩
  | 62 => ⟨S16x8, .f32⟩
  | 63 => ⟨S16x8x1x1, .f32⟩
  | 64 => ⟨S16x8x64x128, .f32⟩
  | 65 => ⟨S16x8x64x128, .f32⟩
  | 66 => ⟨S16x1x8x64x128, .f32⟩
  | 67 => ⟨S16x8x64x128, .f32⟩
  | 68 => ⟨S16x8x64x128, .f32⟩
  | 69 => ⟨S16x1x8, .f32⟩
  | 70 => ⟨S16x8, .f32⟩
  | 71 => ⟨S16x8x1x1, .f32⟩
  | 72 => ⟨S16x8x64x128, .f32⟩
  | 73 => ⟨S16x8x64x128, .f32⟩
  | 74 => ⟨S16x1x8x64x128, .f32⟩
  | 75 => ⟨S16x8x64x128, .f32⟩
  | 76 => ⟨S16x8x64x128, .f32⟩
  | 77 => ⟨S16x1x8, .f32⟩
  | 78 => ⟨S16x8, .f32⟩
  | 79 => ⟨S16x8x1x1, .f32⟩
  | 80 => ⟨S16x8x64x128, .f32⟩
  | 81 => ⟨S16x8x64x128, .f32⟩
  | 82 => ⟨S16x1x8x64x128, .f32⟩
  | 83 => ⟨S16x8x64x128, .f32⟩
  | 84 => ⟨S16x8x64x128, .f32⟩
  | 85 => ⟨S16x1x8, .f32⟩
  | 86 => ⟨S16x8, .f32⟩
  | 87 => ⟨S16x8x1x1, .f32⟩
  | 88 => ⟨S16x8x64x128, .f32⟩
  | 89 => ⟨S16x8x64x128, .f32⟩
  | 90 => ⟨S16x1x8x64x128, .f32⟩
  | 91 => ⟨S16x8x64x128, .f32⟩
  | 92 => ⟨S16x8x64x128, .f32⟩
  | 93 => ⟨S16x1x8, .f32⟩
  | 94 => ⟨S16x8, .f32⟩
  | 95 => ⟨S16x8x1x1, .f32⟩
  | 96 => ⟨S16x8x64x128, .f32⟩
  | 97 => ⟨S16x8x64x128, .f32⟩
  | 98 => ⟨S16x1x8x64x128, .f32⟩
  | 99 => ⟨S16x8x64x128, .f32⟩
  | 100 => ⟨S16x8x64x128, .f32⟩
  | 101 => ⟨S16x1x8, .f32⟩
  | 102 => ⟨S16x8, .f32⟩
  | 103 => ⟨S16x8x1x1, .f32⟩
  | 104 => ⟨S16x8x64x128, .f32⟩
  | 105 => ⟨S16x8x64x128, .f32⟩
  | 106 => ⟨S16x1x8x64x128, .f32⟩
  | 107 => ⟨S16x8x64x128, .f32⟩
  | 108 => ⟨S16x8x64x128, .f32⟩
  | 109 => ⟨S16x1x8, .f32⟩
  | 110 => ⟨S16x8, .f32⟩
  | 111 => ⟨S16x8x1x1, .f32⟩
  | 112 => ⟨S16x8x64x128, .f32⟩
  | 113 => ⟨S16x8x64x128, .f32⟩
  | 114 => ⟨S16x1x8x64x128, .f32⟩
  | 115 => ⟨S16x8x64x128, .f32⟩
  | 116 => ⟨S16x8x64x128, .f32⟩
  | 117 => ⟨S16x1x8, .f32⟩
  | 118 => ⟨S16x8, .f32⟩
  | 119 => ⟨S16x8x1x1, .f32⟩
  | 120 => ⟨S16x8x64x128, .f32⟩
  | 121 => ⟨S16x8x64x128, .f32⟩
  | 122 => ⟨S16x1x8x64x128, .f32⟩
  | 123 => ⟨S16x8x64x128, .f32⟩
  | 124 => ⟨S16x8x64x128, .f32⟩
  | 125 => ⟨S16x1x8, .f32⟩
  | 126 => ⟨S16x8, .f32⟩
  | 127 => ⟨S16x8x1x1, .f32⟩
  | _ => ⟨S16x2048x1024, .f32⟩

abbrev hbmTy0_3 (i : Nat) : BufTy := match i % 128 with
  | 0 => ⟨S16x8x64x128, .f32⟩
  | 1 => ⟨S16x8x64x128, .f32⟩
  | 2 => ⟨S16x1x8x64x128, .f32⟩
  | 3 => ⟨S16x8x64x128, .f32⟩
  | 4 => ⟨S16x8x64x128, .f32⟩
  | 5 => ⟨S16x1x8, .f32⟩
  | 6 => ⟨S16x8, .f32⟩
  | 7 => ⟨S16x8x1x1, .f32⟩
  | 8 => ⟨S16x8x64x128, .f32⟩
  | 9 => ⟨S16x8x64x128, .f32⟩
  | 10 => ⟨S16x1x8x64x128, .f32⟩
  | 11 => ⟨S16x8x64x128, .f32⟩
  | 12 => ⟨S16x8x64x128, .f32⟩
  | 13 => ⟨S16x1x8, .f32⟩
  | 14 => ⟨S16x8, .f32⟩
  | 15 => ⟨S16x8x1x1, .f32⟩
  | 16 => ⟨S16x8x64x128, .f32⟩
  | 17 => ⟨S16x8x64x128, .f32⟩
  | 18 => ⟨S16x1x8x64x128, .f32⟩
  | 19 => ⟨S16x8x64x128, .f32⟩
  | 20 => ⟨S16x8x64x128, .f32⟩
  | 21 => ⟨S16x1x8, .f32⟩
  | 22 => ⟨S16x8, .f32⟩
  | 23 => ⟨S16x8x1x1, .f32⟩
  | 24 => ⟨S16x8x64x128, .f32⟩
  | 25 => ⟨S16x8x64x128, .f32⟩
  | 26 => ⟨S16x1x8x64x128, .f32⟩
  | 27 => ⟨S16x8x64x128, .f32⟩
  | 28 => ⟨S16x8x64x128, .f32⟩
  | 29 => ⟨S16x1x8x64x128, .f32⟩
  | 30 => ⟨S16x1x8x64x128, .f32⟩
  | 31 => ⟨S16x1x8x64x128, .f32⟩
  | 32 => ⟨S16x1x8x64x128, .f32⟩
  | 33 => ⟨S16x1x8x64x128, .f32⟩
  | 34 => ⟨S16x1x8x64x128, .f32⟩
  | 35 => ⟨S16x1x8x64x128, .f32⟩
  | 36 => ⟨S16x1x8x64x128, .f32⟩
  | 37 => ⟨S16x1x8x64x128, .f32⟩
  | 38 => ⟨S16x1x8x64x128, .f32⟩
  | 39 => ⟨S16x1x8x64x128, .f32⟩
  | 40 => ⟨S16x1x8x64x128, .f32⟩
  | 41 => ⟨S16x1x8x64x128, .f32⟩
  | 42 => ⟨S16x1x8x64x128, .f32⟩
  | 43 => ⟨S16x1x8x64x128, .f32⟩
  | 44 => ⟨S16x1x8x64x128, .f32⟩
  | 45 => ⟨S16x16x8x64x128, .f32⟩
  | 46 => ⟨S16x16x8x64x128, .f32⟩
  | 47 => ⟨S16x16x128x8x64, .f32⟩
  | 48 => ⟨S16x16x128x8, .f32⟩
  | 49 => ⟨S16x16x128x8x1, .f32⟩
  | 50 => ⟨S16x16x128x8x64, .f32⟩
  | 51 => ⟨S16x16x128x8x64, .f32⟩
  | 52 => ⟨S16x16x128x8x64, .f32⟩
  | 53 => ⟨S8x1, .f32⟩
  | 54 => ⟨S1x1x1x8x1, .f32⟩
  | 55 => ⟨S16x16x128x8x64, .f32⟩
  | 56 => ⟨S16x16x128x8x64, .f32⟩
  | 57 => ⟨S16x16x128x8x64, .f32⟩
  | 58 => ⟨S16x2048x512, .f32⟩
  | 59 => ⟨S16x2048x512, .f32⟩
  | 60 => ⟨S16x2048x512, .f32⟩
  | 61 => ⟨S_, .f32⟩
  | 62 => ⟨S16x2048x512, .f32⟩
  | 63 => ⟨S16x2048x512, .f32⟩
  | 64 => ⟨S_, .f32⟩
  | 65 => ⟨S16x2048x512, .f32⟩
  | 66 => ⟨S16x2048x512, .f32⟩
  | 67 => ⟨S16x2048x512, .f32⟩
  | 68 => ⟨S16x2048x512, .f32⟩
  | 69 => ⟨S16x2048x2x256, .f32⟩
  | 70 => ⟨S16x2048x2x256, .f32⟩
  | 71 => ⟨S_, .f32⟩
  | 72 => ⟨S16x2048x2, .f32⟩
  | 73 => ⟨S16x2048x2x1, .f32⟩
  | 74 => ⟨S_, .f32⟩
  | 75 => ⟨S16x2048x2x1, .f32⟩
  | 76 => ⟨S16x2048x2x1, .f32⟩
  | 77 => ⟨S_, .f32⟩
  | 78 => ⟨S16x2048x2x1, .f32⟩
  | 79 => ⟨S16x2048x2x1, .f32⟩
  | 80 => ⟨S16x2048x2x1, .f32⟩
  | 81 => ⟨S16x2048x2x256, .f32⟩
  | 82 => ⟨S16x2048x2x256, .f32⟩
  | 83 => ⟨S16x2048x512, .f32⟩
  | 84 => ⟨S1x1x512, .f32⟩
  | 85 => ⟨S16x2048x512, .f32⟩
  | 86 => ⟨S16x2048x512, .f32⟩
  | 87 => ⟨S16x2048x1024, .f32⟩
  | 88 => ⟨S1024x1024, .f32⟩
  | 89 => ⟨S16x2048x1024, .f32⟩
  | 90 => ⟨S1024, .f32⟩
  | 91 => ⟨S16x2048x1024, .f32⟩
  | 92 => ⟨S_, .f32⟩
  | 93 => ⟨S16x2048, .f32⟩
  | 94 => ⟨S16x2048x1, .f32⟩
  | 95 => ⟨S_, .f32⟩
  | 96 => ⟨S16x2048x1, .f32⟩
  | 97 => ⟨S16x2048x1, .f32⟩
  | 98 => ⟨S_, .f32⟩
  | 99 => ⟨S16x2048x1, .f32⟩
  | 100 => ⟨S16x2048x1, .f32⟩
  | 101 => ⟨S16x2048x1, .f32⟩
  | 102 => ⟨S16x2048x1024, .f32⟩
  | 103 => ⟨S16x2048x1024, .f32⟩
  | 104 => ⟨S1x1x1024, .f32⟩
  | 105 => ⟨S16x2048x1024, .f32⟩
  | 106 => ⟨S16x2048x1024, .f32⟩
  | 107 => ⟨S16x2048x1024, .f32⟩
  | 108 => ⟨S1024, .f32⟩
  | 109 => ⟨S16x2048x1024, .f32⟩
  | 110 => ⟨S_, .f32⟩
  | 111 => ⟨S16x2048, .f32⟩
  | 112 => ⟨S16x2048x1, .f32⟩
  | 113 => ⟨S_, .f32⟩
  | 114 => ⟨S16x2048x1, .f32⟩
  | 115 => ⟨S16x2048x1, .f32⟩
  | 116 => ⟨S_, .f32⟩
  | 117 => ⟨S16x2048x1, .f32⟩
  | 118 => ⟨S16x2048x1, .f32⟩
  | 119 => ⟨S16x2048x1, .f32⟩
  | 120 => ⟨S16x2048x1024, .f32⟩
  | 121 => ⟨S16x2048x1024, .f32⟩
  | 122 => ⟨S1x1x1024, .f32⟩
  | 123 => ⟨S16x2048x1024, .f32⟩
  | 124 => ⟨S16x2048x1024, .f32⟩
  | 125 => ⟨S1024x4096, .f32⟩
  | 126 => ⟨S16x2048x4096, .f32⟩
  | 127 => ⟨S_, .f32⟩
  | _ => ⟨S16x2048x1024, .f32⟩

abbrev hbmTy0_4 (i : Nat) : BufTy := match i % 128 with
  | 0 => ⟨S16x2048x4096, .f32⟩
  | 1 => ⟨S16x2048x4096, .f32⟩
  | 2 => ⟨S16x2048x4096, .f32⟩
  | 3 => ⟨S4096x1024, .f32⟩
  | 4 => ⟨S16x2048x1024, .f32⟩
  | 5 => ⟨S1024, .f32⟩
  | 6 => ⟨S16x2048x1024, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S_, .f32⟩
  | 14 => ⟨S16x2048x1, .f32⟩
  | 15 => ⟨S16x2048x1, .f32⟩
  | 16 => ⟨S16x2048x1, .f32⟩
  | 17 => ⟨S16x2048x1024, .f32⟩
  | 18 => ⟨S16x2048x1024, .f32⟩
  | 19 => ⟨S1x1x1024, .f32⟩
  | 20 => ⟨S16x2048x1024, .f32⟩
  | 21 => ⟨S16x2048x1024, .f32⟩
  | 22 => ⟨S16x2048x1024, .f32⟩
  | 23 => ⟨S32768x1024, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_20 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c : Ref sig .tc := ⟨.hbm, 128, rfl⟩
abbrev main_v87 : Ref sig .tc := ⟨.hbm, 129, rfl⟩
abbrev main_call0_v0 : Ref sig .tc := ⟨.hbm, 130, rfl⟩
abbrev main_call0_c : Ref sig .tc := ⟨.hbm, 131, rfl⟩
abbrev main_call0_v1 : Ref sig .tc := ⟨.hbm, 132, rfl⟩
abbrev main_call0_v2 : Ref sig .tc := ⟨.hbm, 133, rfl⟩
abbrev main_call0_v3 : Ref sig .tc := ⟨.hbm, 134, rfl⟩
abbrev main_call0_v4 : Ref sig .tc := ⟨.hbm, 135, rfl⟩
abbrev main_call0_c_0 : Ref sig .tc := ⟨.hbm, 136, rfl⟩
abbrev main_call0_v5 : Ref sig .tc := ⟨.hbm, 137, rfl⟩
abbrev main_v88 : Ref sig .tc := ⟨.hbm, 138, rfl⟩
abbrev main_v89 : Ref sig .tc := ⟨.hbm, 139, rfl⟩
abbrev main_cst_21 : Ref sig .tc := ⟨.hbm, 140, rfl⟩
abbrev main_call1_v0 : Ref sig .tc := ⟨.hbm, 141, rfl⟩
abbrev main_call1_v1 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_c_22 : Ref sig .tc := ⟨.hbm, 158, rfl⟩
abbrev main_call2_v0 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_call3_v0 : Ref sig .tc := ⟨.hbm, 191, rfl⟩
abbrev main_call3_v1 : Ref sig .tc := ⟨.hbm, 192, rfl⟩
abbrev main_call3_cst : Ref sig .tc := ⟨.hbm, 193, rfl⟩
abbrev main_call3_v2 : Ref sig .tc := ⟨.hbm, 194, rfl⟩
abbrev main_call3_v3 : Ref sig .tc := ⟨.hbm, 195, rfl⟩
abbrev main_call3_cst_0 : Ref sig .tc := ⟨.hbm, 196, rfl⟩
abbrev main_call3_v4 : Ref sig .tc := ⟨.hbm, 197, rfl⟩
abbrev main_call3_v5 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_call4_cst : Ref sig .tc := ⟨.hbm, 209, rfl⟩
abbrev main_call4_v0 : Ref sig .tc := ⟨.hbm, 210, rfl⟩
abbrev main_call4_v1 : Ref sig .tc := ⟨.hbm, 211, rfl⟩
abbrev main_call4_v2 : Ref sig .tc := ⟨.hbm, 212, rfl⟩
abbrev main_call4_v3 : Ref sig .tc := ⟨.hbm, 213, rfl⟩
abbrev main_call4_v4 : Ref sig .tc := ⟨.hbm, 214, rfl⟩
abbrev main_call4_v5 : Ref sig .tc := ⟨.hbm, 215, rfl⟩
abbrev main_call4_v6 : Ref sig .tc := ⟨.hbm, 216, rfl⟩
abbrev main_call4_v7 : Ref sig .tc := ⟨.hbm, 217, rfl⟩
abbrev main_call4_v8 : Ref sig .tc := ⟨.hbm, 218, rfl⟩
abbrev main_call4_v9 : Ref sig .tc := ⟨.hbm, 219, rfl⟩
abbrev main_call4_v10 : Ref sig .tc := ⟨.hbm, 220, rfl⟩
abbrev main_call4_v11 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_call5_call0_cst : Ref sig .tc := ⟨.hbm, 238, rfl⟩
abbrev main_call5_call0_v0 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_c_23 : Ref sig .tc := ⟨.hbm, 244, rfl⟩
abbrev main_v166 : Ref sig .tc := ⟨.hbm, 245, rfl⟩
abbrev main_call6_v0 : Ref sig .tc := ⟨.hbm, 246, rfl⟩
abbrev main_call6_c : Ref sig .tc := ⟨.hbm, 247, rfl⟩
abbrev main_call6_v1 : Ref sig .tc := ⟨.hbm, 248, rfl⟩
abbrev main_call6_v2 : Ref sig .tc := ⟨.hbm, 249, rfl⟩
abbrev main_call6_v3 : Ref sig .tc := ⟨.hbm, 250, rfl⟩
abbrev main_call6_v4 : Ref sig .tc := ⟨.hbm, 251, rfl⟩
abbrev main_call6_c_0 : Ref sig .tc := ⟨.hbm, 252, rfl⟩
abbrev main_call6_v5 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_cst_24 : Ref sig .tc := ⟨.hbm, 261, rfl⟩
abbrev main_call7_v0 : Ref sig .tc := ⟨.hbm, 262, rfl⟩
abbrev main_call7_v1 : Ref sig .tc := ⟨.hbm, 263, rfl⟩
abbrev main_call7_v2 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_cst_25 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_v306 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_v312 : Ref sig .tc := ⟨.hbm, 404, rfl⟩
abbrev main_v313 : Ref sig .tc := ⟨.hbm, 405, rfl⟩
abbrev main_v314 : Ref sig .tc := ⟨.hbm, 406, rfl⟩
abbrev main_v315 : Ref sig .tc := ⟨.hbm, 407, rfl⟩
abbrev main_v316 : Ref sig .tc := ⟨.hbm, 408, rfl⟩
abbrev main_v317 : Ref sig .tc := ⟨.hbm, 409, rfl⟩
abbrev main_v318 : Ref sig .tc := ⟨.hbm, 410, rfl⟩
abbrev main_v319 : Ref sig .tc := ⟨.hbm, 411, rfl⟩
abbrev main_v320 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_v347 : Ref sig .tc := ⟨.hbm, 439, rfl⟩
abbrev main_v348 : Ref sig .tc := ⟨.hbm, 440, rfl⟩
abbrev main_v349 : Ref sig .tc := ⟨.hbm, 441, rfl⟩
abbrev main_v350 : Ref sig .tc := ⟨.hbm, 442, rfl⟩
abbrev main_call8_v0 : Ref sig .tc := ⟨.hbm, 443, rfl⟩
abbrev main_call8_v1 : Ref sig .tc := ⟨.hbm, 444, rfl⟩
abbrev main_call8_cst : Ref sig .tc := ⟨.hbm, 445, rfl⟩
abbrev main_call8_v2 : Ref sig .tc := ⟨.hbm, 446, rfl⟩
abbrev main_call8_v3 : Ref sig .tc := ⟨.hbm, 447, rfl⟩
abbrev main_call8_cst_0 : Ref sig .tc := ⟨.hbm, 448, rfl⟩
abbrev main_call8_v4 : Ref sig .tc := ⟨.hbm, 449, rfl⟩
abbrev main_call8_v5 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_v354 : Ref sig .tc := ⟨.hbm, 454, rfl⟩
abbrev main_cst_26 : Ref sig .tc := ⟨.hbm, 455, rfl⟩
abbrev main_v355 : Ref sig .tc := ⟨.hbm, 456, rfl⟩
abbrev main_v356 : Ref sig .tc := ⟨.hbm, 457, rfl⟩
abbrev main_cst_27 : Ref sig .tc := ⟨.hbm, 458, rfl⟩
abbrev main_v357 : Ref sig .tc := ⟨.hbm, 459, rfl⟩
abbrev main_v358 : Ref sig .tc := ⟨.hbm, 460, rfl⟩
abbrev main_cst_28 : Ref sig .tc := ⟨.hbm, 461, rfl⟩
abbrev main_v359 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_cst_29 : Ref sig .tc := ⟨.hbm, 476, rfl⟩
abbrev main_v373 : Ref sig .tc := ⟨.hbm, 477, rfl⟩
abbrev main_v374 : Ref sig .tc := ⟨.hbm, 478, rfl⟩
abbrev main_cst_30 : Ref sig .tc := ⟨.hbm, 479, rfl⟩
abbrev main_v375 : Ref sig .tc := ⟨.hbm, 480, rfl⟩
abbrev main_v376 : Ref sig .tc := ⟨.hbm, 481, rfl⟩
abbrev main_cst_31 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_v381 : Ref sig .tc := ⟨.hbm, 487, rfl⟩
abbrev main_v382 : Ref sig .tc := ⟨.hbm, 488, rfl⟩
abbrev main_v383 : Ref sig .tc := ⟨.hbm, 489, rfl⟩
abbrev main_v384 : Ref sig .tc := ⟨.hbm, 490, rfl⟩
abbrev main_v385 : Ref sig .tc := ⟨.hbm, 491, rfl⟩
abbrev main_v386 : Ref sig .tc := ⟨.hbm, 492, rfl⟩
abbrev main_v387 : Ref sig .tc := ⟨.hbm, 493, rfl⟩
abbrev main_cst_32 : Ref sig .tc := ⟨.hbm, 494, rfl⟩
abbrev main_v388 : Ref sig .tc := ⟨.hbm, 495, rfl⟩
abbrev main_v389 : Ref sig .tc := ⟨.hbm, 496, rfl⟩
abbrev main_cst_33 : Ref sig .tc := ⟨.hbm, 497, rfl⟩
abbrev main_v390 : Ref sig .tc := ⟨.hbm, 498, rfl⟩
abbrev main_v391 : Ref sig .tc := ⟨.hbm, 499, rfl⟩
abbrev main_cst_34 : Ref sig .tc := ⟨.hbm, 500, rfl⟩
abbrev main_v392 : Ref sig .tc := ⟨.hbm, 501, rfl⟩
abbrev main_v393 : Ref sig .tc := ⟨.hbm, 502, rfl⟩
abbrev main_v394 : Ref sig .tc := ⟨.hbm, 503, rfl⟩
abbrev main_v395 : Ref sig .tc := ⟨.hbm, 504, rfl⟩
abbrev main_v396 : Ref sig .tc := ⟨.hbm, 505, rfl⟩
abbrev main_v397 : Ref sig .tc := ⟨.hbm, 506, rfl⟩
abbrev main_v398 : Ref sig .tc := ⟨.hbm, 507, rfl⟩
abbrev main_v399 : Ref sig .tc := ⟨.hbm, 508, rfl⟩
abbrev main_v400 : Ref sig .tc := ⟨.hbm, 509, rfl⟩
abbrev main_v401 : Ref sig .tc := ⟨.hbm, 510, rfl⟩
abbrev main_call9_cst : Ref sig .tc := ⟨.hbm, 511, rfl⟩
abbrev main_call9_v0 : Ref sig .tc := ⟨.hbm, 512, rfl⟩
abbrev main_v402 : Ref sig .tc := ⟨.hbm, 513, rfl⟩
abbrev main_v403 : Ref sig .tc := ⟨.hbm, 514, rfl⟩
abbrev main_v404 : Ref sig .tc := ⟨.hbm, 515, rfl⟩
abbrev main_v405 : Ref sig .tc := ⟨.hbm, 516, rfl⟩
abbrev main_v406 : Ref sig .tc := ⟨.hbm, 517, rfl⟩
abbrev main_v407 : Ref sig .tc := ⟨.hbm, 518, rfl⟩
abbrev main_cst_35 : Ref sig .tc := ⟨.hbm, 519, rfl⟩
abbrev main_v408 : Ref sig .tc := ⟨.hbm, 520, rfl⟩
abbrev main_v409 : Ref sig .tc := ⟨.hbm, 521, rfl⟩
abbrev main_cst_36 : Ref sig .tc := ⟨.hbm, 522, rfl⟩
abbrev main_v410 : Ref sig .tc := ⟨.hbm, 523, rfl⟩
abbrev main_v411 : Ref sig .tc := ⟨.hbm, 524, rfl⟩
abbrev main_cst_37 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_v418 : Ref sig .tc := ⟨.hbm, 532, rfl⟩
abbrev main_v419 : Ref sig .tc := ⟨.hbm, 533, rfl⟩
abbrev main_v420 : Ref sig .tc := ⟨.hbm, 534, rfl⟩
abbrev main_v421 : Ref sig .tc := ⟨.hbm, 535, rfl⟩

abbrev nD : Nat := 1
abbrev τ : Topo := Topo.v7x

variable {F : FTy → Type} [FloatOps F]
-- ==== Proof.KernelIdealFrame.lean ====
/-
  The launch of the kernel: what each case of the body leaves, point by point, and the frame of the whole run.
  The set-up follows the generated module of the same name, with more time for the body's obligation.
-/
module

public import proofs.«01_k».proof.Proof.Gen.KernelIdeal.Frame.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section CaseA
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1024x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S4x128x256 .bf16) (harg9 : arg9.IsWhole) (arg10 : Memref sig .tc .vmem S128x512 .f32) (harg10 : arg10.IsWhole) (arg11 : Memref sig .tc .vmem S4x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S256x256 .bf16) (harg17 : arg17.IsWhole) (arg18 : Memref sig .tc .vmem S128x128 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S1x1024 .f32) (harg24 : arg24.IsWhole) (arg25 : Memref sig .tc .vmem S512x1024 .f32) (harg25 : arg25.IsWhole) (arg26 : Memref sig .tc .vmem S512x2560 .f32) (harg26 : arg26.IsWhole) (arg27 : Memref sig .tc .vmem S512x128 .f32) (harg27 : arg27.IsWhole) (arg28 : Memref sig .tc .vmem S512x1024 .bf16) (harg28 : arg28.IsWhole) (arg29 : Memref sig .tc .vmem S520x1024 .f32) (harg29 : arg29.IsWhole) (arg30 : Memref sig .tc .vmem S2x128x256 .f32) (harg30 : arg30.IsWhole) (arg31 : Memref sig .tc .vmem S512x1024 .f32) (harg31 : arg31.IsWhole) (hc0 : cond0_0 i) (hc1 : cond0_1 i) (x0 : Vec F S512x1024 .f32) (x1 : Vec F S512x1024 .f32) (x2 : Vec F S256x1024 .f32) (x3 : Vec F S1x1024 .f32) (x4 : Vec F S1024x2560 .bf16) (x5 : Vec F S1024x128 .bf16) (x6 : Vec F S1x512 .f32) (x7 : Vec F S1x512 .f32) (x8 : Vec F S4x128x256 .bf16) (x9 : Vec F S128x512 .f32) (x10 : Vec F S4x1024 .f32) (x11 : Vec F S1x1024 .f32) (x12 : Vec F S1x128 .f32) (x13 : Vec F S1x128 .f32) (x14 : Vec F S1x512 .f32) (x15 : Vec F S1x512 .f32) (x16 : Vec F S256x256 .bf16) (x17 : Vec F S128x128 .bf16) (x18 : Vec F S1024x1024 .bf16) (x19 : Vec F S1x1024 .f32) (x20 : Vec F S1x1024 .f32) (x21 : Vec F S1024x4096 .bf16) (x22 : Vec F S4096x1024 .bf16) (x23 : Vec F S1x1024 .f32)

/-- Case A's pieces for output 24 tile its block (2 stores of `S256x1024`, checked by the kernel's evaluation: Lib/Ring.lean `Piece.tiledL`, linear in the pieces, through a loop's `@[irreducible]` trip theorem too), so they cover it. -/
theorem cover0_A_24 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).1 S256x1024.size (by sl_kernel_rfl) y

/-- What case A leaves in output 24's staging buffer: its pieces read back over junk. -/
def out0_A_24 : Vec F S512x1024 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).1)

/-- Case A's pieces for scratch `arg26`, which the kernel carries between points, cover it: 15 pieces of `S256x512` tiling it (Lib/Ring.lean `Piece.tiledL`). -/
theorem scover0_A_0 (y : S512x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.1 S256x512.size (by sl_kernel_rfl) y

/-- What case A leaves in scratch `arg26`: its pieces read back over junk. -/
def sout0_A_0 : Vec F S512x2560 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.1)

/-- Case A's pieces for scratch `arg27`, which the kernel carries between points, cover it: 3 pieces of `S256x128` tiling it (Lib/Ring.lean `Piece.tiledL`). -/
theorem scover0_A_1 (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.1 S256x128.size (by sl_kernel_rfl) y

/-- What case A leaves in scratch `arg27`: its pieces read back over junk. -/
def sout0_A_1 : Vec F S512x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.1)

/-- Case A's pieces for scratch `arg28`, which the kernel carries between points, cover it: one of them a store of the WHOLE buffer (Lib/Ring.lean `sl_whole_mem`). -/
theorem scover0_A_2 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.1 (by sl_whole_mem) y

/-- What case A leaves in scratch `arg28`: its pieces read back over junk. -/
def sout0_A_2 : Vec F S512x1024 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.1)

/-- Case A's pieces for scratch `arg29`, which the kernel carries between points, cover it: 6 pieces (stores and landed copies) of several sizes (`S128x1024`, `S8x1024`) tiling it when cut into blocks of `![8, 1024]` (Lib/Ring.lean `Piece.tiledBy`). -/
theorem scover0_A_3 (y : S520x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.2.1 ![8, 1024] (by sl_kernel_rfl) y

/-- What case A leaves in scratch `arg29`: its pieces read back over junk. -/
def sout0_A_3 : Vec F S520x1024 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.2.1)

/-- Case A's pieces for scratch `arg30`, which the kernel carries between points, cover it: one of them a store of the WHOLE buffer (Lib/Ring.lean `sl_whole_mem`). -/
theorem scover0_A_4 (y : S2x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.2.2.1 (by sl_whole_mem) y

/-- What case A leaves in scratch `arg30`: its pieces read back over junk. -/
def sout0_A_4 : Vec F S2x128x256 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.2.2.1)

/-- All that case A leaves: the output's block and the five carried scratches. -/
def all0_A : Vec F S512x1024 .f32 × Vec F S512x2560 .f32 × Vec F S512x128 .f32 × Vec F S512x1024 .bf16 × Vec F S520x1024 .f32 × Vec F S2x128x256 .f32 :=
  (out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23, sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23, sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23, sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23, sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23, sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23)

end CaseA

section CaseB
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1024x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S4x128x256 .bf16) (harg9 : arg9.IsWhole) (arg10 : Memref sig .tc .vmem S128x512 .f32) (harg10 : arg10.IsWhole) (arg11 : Memref sig .tc .vmem S4x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S256x256 .bf16) (harg17 : arg17.IsWhole) (arg18 : Memref sig .tc .vmem S128x128 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S1x1024 .f32) (harg24 : arg24.IsWhole) (arg25 : Memref sig .tc .vmem S512x1024 .f32) (harg25 : arg25.IsWhole) (arg26 : Memref sig .tc .vmem S512x2560 .f32) (harg26 : arg26.IsWhole) (arg27 : Memref sig .tc .vmem S512x128 .f32) (harg27 : arg27.IsWhole) (arg28 : Memref sig .tc .vmem S512x1024 .bf16) (harg28 : arg28.IsWhole) (arg29 : Memref sig .tc .vmem S520x1024 .f32) (harg29 : arg29.IsWhole) (arg30 : Memref sig .tc .vmem S2x128x256 .f32) (harg30 : arg30.IsWhole) (arg31 : Memref sig .tc .vmem S512x1024 .f32) (harg31 : arg31.IsWhole) (hc0 : ¬cond0_0 i) (hc1 : ¬cond0_1 i) (x0 : Vec F S512x1024 .f32) (x1 : Vec F S512x1024 .f32) (x2 : Vec F S256x1024 .f32) (x3 : Vec F S1x1024 .f32) (x4 : Vec F S1024x2560 .bf16) (x5 : Vec F S1024x128 .bf16) (x6 : Vec F S1x512 .f32) (x7 : Vec F S1x512 .f32) (x8 : Vec F S4x128x256 .bf16) (x9 : Vec F S128x512 .f32) (x10 : Vec F S4x1024 .f32) (x11 : Vec F S1x1024 .f32) (x12 : Vec F S1x128 .f32) (x13 : Vec F S1x128 .f32) (x14 : Vec F S1x512 .f32) (x15 : Vec F S1x512 .f32) (x16 : Vec F S256x256 .bf16) (x17 : Vec F S128x128 .bf16) (x18 : Vec F S1024x1024 .bf16) (x19 : Vec F S1x1024 .f32) (x20 : Vec F S1x1024 .f32) (x21 : Vec F S1024x4096 .bf16) (x22 : Vec F S4096x1024 .bf16) (x23 : Vec F S1x1024 .f32) (xs0 : Vec F S512x2560 .f32) (xs1 : Vec F S512x128 .f32) (xs2 : Vec F S512x1024 .bf16) (xs3 : Vec F S520x1024 .f32) (xs4 : Vec F S2x128x256 .f32)

/-- Case B's pieces for output 24 tile its block (2 stores of `S256x1024`, checked by the kernel's evaluation: Lib/Ring.lean `Piece.tiledL`, linear in the pieces, through a loop's `@[irreducible]` trip theorem too), so they cover it. -/
theorem cover0_B_24 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).1 S256x1024.size (by sl_kernel_rfl) y

/-- What case B leaves in output 24's staging buffer: its pieces read back over junk. -/
def out0_B_24 : Vec F S512x1024 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).1)

/-- Case B's pieces for scratch `arg26`, which the kernel carries between points, cover it: 10 pieces of `S256x512` tiling it (Lib/Ring.lean `Piece.tiledL`). -/
theorem scover0_B_0 (y : S512x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.1 S256x512.size (by sl_kernel_rfl) y

/-- What case B leaves in scratch `arg26`: its pieces read back over junk. -/
def sout0_B_0 : Vec F S512x2560 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.1)

/-- Case B's pieces for scratch `arg27`, which the kernel carries between points, cover it: 2 pieces of `S256x128` tiling it (Lib/Ring.lean `Piece.tiledL`). -/
theorem scover0_B_1 (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.1 S256x128.size (by sl_kernel_rfl) y

/-- What case B leaves in scratch `arg27`: its pieces read back over junk. -/
def sout0_B_1 : Vec F S512x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.1)

/-- Case B's pieces for scratch `arg28`, which the kernel carries between points, cover it: 24 pieces (stores and landed copies) of several sizes (`S128x128`, `S128x256`) tiling it when cut into blocks of `![128, 128]` (Lib/Ring.lean `Piece.tiledBy`). -/
theorem scover0_B_2 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.1 ![128, 128] (by sl_kernel_rfl) y

/-- What case B leaves in scratch `arg28`: its pieces read back over junk. -/
def sout0_B_2 : Vec F S512x1024 .bf16 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.1)

/-- Case B's pieces for scratch `arg29`, which the kernel carries between points, cover it: 5 pieces (stores and landed copies) of several sizes (`S128x1024`, `S8x1024`) tiling it when cut into blocks of `![8, 1024]` (Lib/Ring.lean `Piece.tiledBy`). -/
theorem scover0_B_3 (y : S520x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.2.1 ![8, 1024] (by sl_kernel_rfl) y

/-- What case B leaves in scratch `arg29`: its pieces read back over junk. -/
def sout0_B_3 : Vec F S520x1024 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.2.1)

/-- Case B's pieces for scratch `arg30`, which the kernel carries between points, cover it: 16 pieces of `S1x128x128` tiling it (Lib/Ring.lean `Piece.tiledL`). -/
theorem scover0_B_4 (y : S2x128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.2.2.1 S1x128x128.size (by sl_kernel_rfl) y

/-- What case B leaves in scratch `arg30`: its pieces read back over junk. -/
def sout0_B_4 : Vec F S2x128x256 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.2.2.1)

/-- All that case B leaves: the output's block and the five carried scratches. -/
def all0_B : Vec F S512x1024 .f32 × Vec F S512x2560 .f32 × Vec F S512x128 .f32 × Vec F S512x1024 .bf16 × Vec F S520x1024 .f32 × Vec F S2x128x256 .f32 :=
  (out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4, sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4, sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4, sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4, sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4, sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4)

end CaseB

section CaseC
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S1024x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S4x128x256 .bf16) (harg9 : arg9.IsWhole) (arg10 : Memref sig .tc .vmem S128x512 .f32) (harg10 : arg10.IsWhole) (arg11 : Memref sig .tc .vmem S4x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S256x256 .bf16) (harg17 : arg17.IsWhole) (arg18 : Memref sig .tc .vmem S128x128 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S1x1024 .f32) (harg24 : arg24.IsWhole) (arg25 : Memref sig .tc .vmem S512x1024 .f32) (harg25 : arg25.IsWhole) (arg26 : Memref sig .tc .vmem S512x2560 .f32) (harg26 : arg26.IsWhole) (arg27 : Memref sig .tc .vmem S512x128 .f32) (harg27 : arg27.IsWhole) (arg28 : Memref sig .tc .vmem S512x1024 .bf16) (harg28 : arg28.IsWhole) (arg29 : Memref sig .tc .vmem S520x1024 .f32) (harg29 : arg29.IsWhole) (arg30 : Memref sig .tc .vmem S2x128x256 .f32) (harg30 : arg30.IsWhole) (arg31 : Memref sig .tc .vmem S512x1024 .f32) (harg31 : arg31.IsWhole) (hc0 : ¬cond0_0 i) (hc1 : cond0_1 i) (x0 : Vec F S512x1024 .f32) (x1 : Vec F S512x1024 .f32) (x2 : Vec F S256x1024 .f32) (x3 : Vec F S1x1024 .f32) (x4 : Vec F S1024x2560 .bf16) (x5 : Vec F S1024x128 .bf16) (x6 : Vec F S1x512 .f32) (x7 : Vec F S1x512 .f32) (x8 : Vec F S4x128x256 .bf16) (x9 : Vec F S128x512 .f32) (x10 : Vec F S4x1024 .f32) (x11 : Vec F S1x1024 .f32) (x12 : Vec F S1x128 .f32) (x13 : Vec F S1x128 .f32) (x14 : Vec F S1x512 .f32) (x15 : Vec F S1x512 .f32) (x16 : Vec F S256x256 .bf16) (x17 : Vec F S128x128 .bf16) (x18 : Vec F S1024x1024 .bf16) (x19 : Vec F S1x1024 .f32) (x20 : Vec F S1x1024 .f32) (x21 : Vec F S1024x4096 .bf16) (x22 : Vec F S4096x1024 .bf16) (x23 : Vec F S1x1024 .f32) (xs0 : Vec F S512x2560 .f32) (xs1 : Vec F S512x128 .f32) (xs2 : Vec F S512x1024 .bf16)

/-- Case C's pieces for output 24 tile its block (2 stores of `S256x1024`, checked by the kernel's evaluation: Lib/Ring.lean `Piece.tiledL`, linear in the pieces, through a loop's `@[irreducible]` trip theorem too), so they cover it. -/
theorem cover0_C_24 (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).1 S256x1024.size (by sl_kernel_rfl) y

/-- What case C leaves in output 24's staging buffer: its pieces read back over junk. -/
def out0_C_24 : Vec F S512x1024 .f32 :=
  VO0_24.read (Elt F) (VO0_24.writes (Elt F) VO0_24.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).1)

/-- Case C's pieces for scratch `arg26`, which the kernel carries between points, cover it: 10 pieces of `S256x512` tiling it (Lib/Ring.lean `Piece.tiledL`). -/
theorem scover0_C_0 (y : S512x2560.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.1 S256x512.size (by sl_kernel_rfl) y

/-- What case C leaves in scratch `arg26`: its pieces read back over junk. -/
def sout0_C_0 : Vec F S512x2560 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.1)

/-- Case C's pieces for scratch `arg27`, which the kernel carries between points, cover it: 2 pieces of `S256x128` tiling it (Lib/Ring.lean `Piece.tiledL`). -/
theorem scover0_C_1 (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.1 S256x128.size (by sl_kernel_rfl) y

/-- What case C leaves in scratch `arg27`: its pieces read back over junk. -/
def sout0_C_1 : Vec F S512x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.1)

/-- Case C's pieces for scratch `arg28`, which the kernel carries between points, cover it: 24 pieces (stores and landed copies) of several sizes (`S128x128`, `S128x256`) tiling it when cut into blocks of `![128, 128]` (Lib/Ring.lean `Piece.tiledBy`). -/
theorem scover0_C_2 (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.1 ![128, 128] (by sl_kernel_rfl) y

/-- What case C leaves in scratch `arg28`: its pieces read back over junk. -/
def sout0_C_2 : Vec F S512x1024 .bf16 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.1)

/-- Case C's pieces for scratch `arg29`, which the kernel carries between points, cover it: 6 pieces (stores and landed copies) of several sizes (`S128x1024`, `S8x1024`) tiling it when cut into blocks of `![8, 1024]` (Lib/Ring.lean `Piece.tiledBy`). -/
theorem scover0_C_3 (y : S520x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.2.1 ![8, 1024] (by sl_kernel_rfl) y

/-- What case C leaves in scratch `arg29`: its pieces read back over junk. -/
def sout0_C_3 : Vec F S520x1024 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.2.1)

/-- Case C's pieces for scratch `arg30`, which the kernel carries between points, cover it: one of them a store of the WHOLE buffer (Lib/Ring.lean `sl_whole_mem`). -/
theorem scover0_C_4 (y : S2x128x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.2.2.1, y ∈ pc.1.set :=
  View.cover_of_wholeMem (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.2.2.1 (by sl_whole_mem) y

/-- What case C leaves in scratch `arg30`: its pieces read back over junk. -/
def sout0_C_4 : Vec F S2x128x256 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.2.2.1)

/-- All that case C leaves: the output's block and the five carried scratches. -/
def all0_C : Vec F S512x1024 .f32 × Vec F S512x2560 .f32 × Vec F S512x128 .f32 × Vec F S512x1024 .bf16 × Vec F S520x1024 .f32 × Vec F S2x128x256 .f32 :=
  (out0_C_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2, sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2, sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2, sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2, sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2, sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2)

end CaseC

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x2560 .f32 × Vec F S512x128 .f32 × Vec F S512x1024 .bf16 × Vec F S520x1024 .f32 × Vec F S2x128x256 .f32
  | 0, hn => all0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩)
  | n + 1, hn =>
    if h0 : (n + 1) % 65 = 0 then
      if h1 : ((n + 1) % 65 = 0 ∨ (n + 1) % 65 = 4 ∨ (n + 1) % 65 = 8 ∨ (n + 1) % 65 = 12 ∨ (n + 1) % 65 = 16 ∨ (n + 1) % 65 = 20 ∨ (n + 1) % 65 = 24 ∨ (n + 1) % 65 = 28 ∨ (n + 1) % 65 = 32 ∨ (n + 1) % 65 = 36 ∨ (n + 1) % 65 = 40 ∨ (n + 1) % 65 = 44 ∨ (n + 1) % 65 = 48 ∨ (n + 1) % 65 = 52 ∨ (n + 1) % 65 = 56 ∨ (n + 1) % 65 = 60) then
        all0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩)
      else
        False.elim (by have hN : n + 1 < 65 := lt_of_lt_of_eq hn (show cfg0.N = 65 from N_0); omega)
    else
      if h1 : ((n + 1) % 65 = 0 ∨ (n + 1) % 65 = 4 ∨ (n + 1) % 65 = 8 ∨ (n + 1) % 65 = 12 ∨ (n + 1) % 65 = 16 ∨ (n + 1) % 65 = 20 ∨ (n + 1) % 65 = 24 ∨ (n + 1) % 65 = 28 ∨ (n + 1) % 65 = 32 ∨ (n + 1) % 65 = 36 ∨ (n + 1) % 65 = 40 ∨ (n + 1) % 65 = 44 ∨ (n + 1) % 65 = 48 ∨ (n + 1) % 65 = 52 ∨ (n + 1) % 65 = 56 ∨ (n + 1) % 65 = 60) then
        all0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.1 (outsAt0 c n (Nat.lt_of_succ_lt hn)).2.2.1 (outsAt0 c n (Nat.lt_of_succ_lt hn)).2.2.2.1
      else
        all0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2

/-- `outsAt0` at a point of case A: that case's contents. -/
theorem outsAt0_A (c : Dev nD) (t : Fin cfg0.N) (h0 : t.val % 65 = 0) (h1 : (t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)) :
    outsAt0 m c t.val t.isLt = all0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 65 = 0) (h1 : ¬(t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)) :
    outsAt0 m c t.val t.isLt = all0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 65 = 0) (h1 : (t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)) :
    outsAt0 m c t.val t.isLt = all0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2) ∗ (∃ d, owns (c : Thread nD τ) scM0_5 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t.val t.isLt).1
    | ⟨_ + 25, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 33600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : (t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)
    · by_cases hz : t.val = 0
      · rw [PhiS_castSucc m c t, PhiS_zero m c _ _ hz, PhiA0_eq]
        rw [outsAt0_A m c t h0 h1]
        unfold all0_A out0_A_24 sout0_A_0 sout0_A_1 sout0_A_2 sout0_A_3 sout0_A_4; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexists _; iexact H24
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, H11, H12, H13, H14, H15, H16, H17, H18, H19, H20, H21, H22, H23, ⟨%e24, H24⟩, ⟨%es0, HS0⟩, ⟨%es1, HS1⟩, ⟨%es2, HS2⟩, ⟨%es3, HS3⟩, ⟨%es4, HS4⟩, ⟨%fT5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS5
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 65 := lt_of_lt_of_eq t.isLt (show cfg0.N = 65 from N_0); omega
    · exfalso; omega
  · by_cases h1 : (t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)
    · by_cases hz : t.val = 0
      · exfalso; have hN : t.val < 65 := lt_of_lt_of_eq t.isLt (show cfg0.N = 65 from N_0); omega
      · rw [PhiS_castSucc m c t, PhiS_pos m c _ _ hz]
        rw [outsAt0_C m c t h0 h1]
        unfold all0_C out0_C_24 sout0_C_0 sout0_C_1 sout0_C_2 sout0_C_3 sout0_C_4; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexists _; iexact H24
        isplitl [HS0]; · iexact HS0
        isplitl [HS1]; · iexact HS1
        isplitl [HS2]; · iexact HS2
        isplitl [HS3]; · iexists _; iexact HS3
        isplitl [HS4]; · iexists _; iexact HS4
        isplitl [HS5]; · iexact HS5
        iintro ⟨H0, H1, H2, H3, H4, H5, H6, H7, H8, H9, H10, H11, H12, H13, H14, H15, H16, H17, H18, H19, H20, H21, H22, H23, ⟨%e24, H24⟩, ⟨%es0, HS0⟩, ⟨%es1, HS1⟩, ⟨%es2, HS2⟩, ⟨%es3, HS3⟩, ⟨%es4, HS4⟩, ⟨%fT5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS5
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        unfold owns; iexists _; isplitr
        swap; · iexact H24
        ipureintro; exact View.read_writes_of_cover _ _ _ _ _ (cover0_C_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 65 := lt_of_lt_of_eq t.isLt (show cfg0.N = 65 from N_0); omega
      · rw [PhiS_castSucc m c t, PhiS_pos m c _ _ hz]
        rw [outsAt0_B m c t h0 h1]
        unfold all0_B out0_B_24 sout0_B_0 sout0_B_1 sout0_B_2 sout0_B_3 sout0_B_4; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexists _; iexact H24
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, H11, H12, H13, H14, H15, H16, H17, H18, H19, H20, H21, H22, H23, ⟨%e24, H24⟩, ⟨%es0, HS0⟩, ⟨%es1, HS1⟩, ⟨%es2, HS2⟩, ⟨%es3, HS3⟩, ⟨%es4, HS4⟩, ⟨%fT5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS5
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        unfold owns; iexists _; isplitr
        swap; · iexact H24
        ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Gen

end
-- ==== Proof.Scalars.lean ====
/- Scalar identities over the extended reals that join the kernel's spellings of the activations, the decays and the
   running sums to the reference's: each by cases on its argument (minus infinity, a real, plus infinity). -/
module

public import Idealize.ShloMosaic.PureOps.Ideal
public import Mathlib.Analysis.SpecialFunctions.Log.Basic

@[expose] public section

noncomputable section

namespace Cert.Layer

open Idealize.ShloMosaic

/-- The reciprocal of `log 2`. -/
def L2 : ℝ := (Real.log 2)⁻¹
/-- The root of `2 / π`. -/
def R2 : ℝ := Real.sqrt (2 * Real.pi⁻¹)

theorem log2_pos : 0 < Real.log 2 := Real.log_pos (by norm_num)
theorem L2_pos : 0 < L2 := inv_pos.mpr log2_pos
theorem R2_pos : 0 < R2 := Real.sqrt_pos.mpr (by positivity)

theorem exp2_scaled (a : EReal) : Ideal.exp2 (a * (L2 : EReal)) = Ideal.exp a := by
  induction a using EReal.rec with
  | bot => rw [EReal.bot_mul_coe_of_pos L2_pos]; rfl
  | top => rw [EReal.top_mul_coe_of_pos L2_pos]; rfl
  | coe r =>
    rw [← EReal.coe_mul, Ideal.exp2_coe, Ideal.exp_coe]
    congr 1
    show (2 : ℝ) ^ (r * L2) = _
    rw [Real.rpow_def_of_pos (by norm_num)]
    congr 1
    unfold L2
    field_simp [log2_pos.ne']

/-- `x · σ(x)` by the base-two exponential. -/
theorem silu_eq (x : EReal) :
    Ideal.div x (1 + Ideal.exp2 (x * ((-((Real.log 2)⁻¹) : ℝ) : EReal))) = x * Ideal.logistic x := by
  have h : x * ((-((Real.log 2)⁻¹) : ℝ) : EReal) = (-x) * (L2 : EReal) := by
    rw [EReal.coe_neg, mul_neg, neg_mul]; rfl
  rw [h, exp2_scaled]
  induction x using EReal.rec with
  | bot =>
    rw [Ideal.logistic_bot, EReal.neg_bot, Ideal.exp_top, mul_zero,
      EReal.add_top_of_ne_bot (show (1 : EReal) ≠ ⊥ from EReal.coe_ne_bot 1)]
    simp [Ideal.div]
  | top =>
    rw [Ideal.logistic_top, EReal.neg_top, Ideal.exp_bot, add_zero, Ideal.div, if_neg one_ne_zero, mul_one,
      ← EReal.coe_one, ← EReal.coe_inv, inv_one, EReal.coe_one, mul_one]
  | coe r =>
    have hne : (1 + Real.exp (-r) : ℝ) ≠ 0 := by positivity
    rw [Ideal.logistic_coe, ← EReal.coe_neg, Ideal.exp_coe, ← EReal.coe_one, ← EReal.coe_add,
      Ideal.div_coe hne, one_div]

/-- The tanh form of the Gaussian unit, by the base-two exponential. -/
theorem gelu_eq (x : EReal) :
    Ideal.div x (1 + Ideal.exp2 (x * (((-((2 * R2) * L2) : ℝ) : EReal)
        + (((-((2 * R2) * L2)) * (8943 / 200000) : ℝ) : EReal) * (x * x))))
      = x * (((1 / 2 : ℝ) : EReal) * (1 + Ideal.tanh ((R2 : EReal) * (x + ((8943 / 200000 : ℝ) : EReal) * (x * x * x))))) := by
  have hA : -((2 * R2) * L2) < 0 := by have := R2_pos; have := L2_pos; nlinarith [mul_pos R2_pos L2_pos]
  have hB : (-((2 * R2) * L2)) * (8943 / 200000) < 0 := by nlinarith
  induction x using EReal.rec with
  | bot =>
    rw [EReal.bot_mul_bot, EReal.coe_mul_top_of_neg hB, EReal.add_bot, EReal.bot_mul_bot, Ideal.exp2_top,
      EReal.add_top_of_ne_bot (show (1 : EReal) ≠ ⊥ from EReal.coe_ne_bot 1), EReal.top_mul_bot,
      EReal.coe_mul_bot_of_pos (by norm_num), EReal.bot_add, EReal.coe_mul_bot_of_pos R2_pos, Ideal.tanh_bot]
    have : (1 : EReal) + -1 = 0 := by
      rw [← sub_eq_add_neg, ← EReal.coe_one, ← EReal.coe_sub, sub_self, EReal.coe_zero]
    rw [this, mul_zero, mul_zero]
    simp [Ideal.div]
  | top =>
    rw [EReal.top_mul_top, EReal.coe_mul_top_of_neg hB, EReal.add_bot, EReal.top_mul_bot, Ideal.exp2_bot, add_zero,
      EReal.top_mul_top, EReal.coe_mul_top_of_pos (by norm_num), EReal.top_add_top, EReal.coe_mul_top_of_pos R2_pos,
      Ideal.tanh_top, Ideal.div, if_neg one_ne_zero, ← EReal.coe_one, ← EReal.coe_inv, inv_one, ← EReal.coe_add,
      ← EReal.coe_mul]
    norm_num
  | coe r =>
    simp only [← EReal.coe_mul, ← EReal.coe_add, Ideal.exp2_coe, Ideal.tanh_coe, ← EReal.coe_one]
    set u : ℝ := R2 * (r + 8943 / 200000 * (r * r * r)) with hu
    have he : Real.rpow 2 (r * (-(2 * R2 * L2) + -(2 * R2 * L2) * (8943 / 200000) * (r * r))) = Real.exp (-(2 * u)) := by
      show (2 : ℝ) ^ (_ : ℝ) = _
      rw [Real.rpow_def_of_pos (by norm_num)]
      congr 1
      have : Real.log 2 * L2 = 1 := mul_inv_cancel₀ log2_pos.ne'
      linear_combination (r * (-(2 * R2) + -(2 * R2) * (8943 / 200000) * (r * r))) * this
    rw [he]
    have hne : (1 + Real.exp (-(2 * u)) : ℝ) ≠ 0 := by positivity
    rw [Ideal.div_coe hne, ← EReal.coe_mul]
    congr 2
    rw [Real.tanh_eq_sinh_div_cosh, Real.sinh_eq, Real.cosh_eq]
    have h2 : Real.exp (-(2 * u)) = Real.exp (-u) * Real.exp (-u) := by rw [← Real.exp_add]; ring_nf
    have h3 : Real.exp u * Real.exp (-u) = 1 := by rw [← Real.exp_add]; simp
    have hp := Real.exp_pos u
    have hm := Real.exp_pos (-u)
    rw [h2]
    have hd : (Real.exp u + Real.exp (-u)) ≠ 0 := by positivity
    have hd' : (1 + Real.exp (-u) * Real.exp (-u)) ≠ 0 := by positivity
    field_simp
    nlinarith [h3]

/-- Finite non-negative scaling commutes with sums. -/
theorem sum_scaled {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- A sum with a term `⊥` is `⊥`. -/
theorem sum_eq_bot {ι : Type} (s : Finset ι) (f : ι → EReal) (i : ι) (hi : i ∈ s) (h : f i = ⊥) :
    ∑ i ∈ s, f i = ⊥ := by
  classical
  rw [← Finset.add_sum_erase s f hi, h, EReal.bot_add]

/-- Three pieces of one left product: the remainders vanish where the terms are real and absorb where one is `⊥`. -/
theorem split_sum {ι : Type} (s : Finset ι) (f : ι → EReal) (hf : ∀ i ∈ s, f i ≠ ⊤) :
    (∑ i ∈ s, f i + ∑ i ∈ s, (f i - f i)) + ∑ i ∈ s, ((f i - f i) - (f i - f i)) = ∑ i ∈ s, f i := by
  classical
  by_cases hb : ∃ i ∈ s, f i = ⊥
  · obtain ⟨i, hi, h⟩ := hb
    rw [sum_eq_bot s f i hi h, EReal.bot_add, EReal.bot_add]
  · push Not at hb
    have h0 : ∀ i ∈ s, f i - f i = 0 := fun i hi => EReal.sub_self (hf i hi) (hb i hi)
    have h1 : ∑ i ∈ s, (f i - f i) = 0 := Finset.sum_eq_zero h0
    have h2 : ∑ i ∈ s, ((f i - f i) - (f i - f i)) = 0 :=
      Finset.sum_eq_zero (fun i hi => by rw [h0 i hi, sub_zero])
    rw [h1, h2, add_zero, add_zero]

/-- The step sizes: what `softplus` answers. -/
def softplus (x : EReal) : EReal := max x 0 + Ideal.log1p (Ideal.exp (-(max x (-x))))

theorem log1p_nonneg {x : EReal} (h : 0 ≤ x) : 0 ≤ Ideal.log1p x := by
  unfold Ideal.log1p
  induction x using EReal.rec with
  | bot => simp at h
  | top => rw [EReal.add_top_of_ne_bot (show (1 : EReal) ≠ ⊥ from EReal.coe_ne_bot 1)]; simp
  | coe r =>
    have hr : 0 ≤ r := by exact_mod_cast h
    rw [← EReal.coe_one, ← EReal.coe_add, Ideal.log_coe, if_neg (by linarith)]
    exact_mod_cast Real.log_nonneg (by linarith)

theorem exp_nonneg (x : EReal) : 0 ≤ Ideal.exp x := by
  induction x using EReal.rec with
  | bot => simp
  | top => simp
  | coe r => rw [Ideal.exp_coe]; exact_mod_cast (Real.exp_pos r).le

theorem softplus_nonneg (x : EReal) : 0 ≤ softplus x :=
  add_nonneg (le_max_right _ _) (log1p_nonneg (exp_nonneg _))

/-- A step size times a non-positive rate is not `⊤`. -/
theorem mul_ne_top {d a : EReal} (hd : 0 ≤ d) (ha : a ≤ 0) : d * a ≠ ⊤ := by
  have : d * a ≤ 0 := mul_nonpos_of_nonneg_of_nonpos hd ha
  exact (lt_of_le_of_lt this EReal.zero_lt_top).ne

/-- The decay between two positions times the later step, the step moved into the exponent by its logarithm. -/
theorem decay_step {A B d : EReal} (hd : 0 ≤ d) (hA : A ≠ ⊤) (hB : B ≠ ⊤) (hAB : B = ⊥ → A = ⊥) :
    Ideal.exp2 (A * (L2 : EReal) - (B * (L2 : EReal) - Ideal.log d * (L2 : EReal))) = Ideal.exp (A - B) * d := by
  have hL := L2_pos
  induction A using EReal.rec with
  | top => exact absurd rfl hA
  | bot =>
    rw [EReal.bot_mul_coe_of_pos hL, sub_eq_add_neg, EReal.bot_add, sub_eq_add_neg, EReal.bot_add]
    simp
  | coe a =>
    induction B using EReal.rec with
    | top => exact absurd rfl hB
    | bot => exact absurd (hAB rfl) (EReal.coe_ne_bot a)
    | coe b =>
      induction d using EReal.rec with
      | bot => simp at hd
      | top =>
        rw [Ideal.log_top, EReal.top_mul_coe_of_pos hL, ← EReal.coe_mul, ← EReal.coe_mul, EReal.sub_top,
          EReal.coe_sub_bot, ← EReal.coe_sub, Ideal.exp_coe, EReal.coe_mul_top_of_pos (Real.exp_pos _)]
        rfl
      | coe d =>
        have hd' : 0 ≤ d := by exact_mod_cast hd
        rcases hd'.eq_or_lt with h | h
        · subst h
          rw [Ideal.log_coe, if_pos le_rfl, EReal.bot_mul_coe_of_pos hL, ← EReal.coe_mul, ← EReal.coe_mul,
            EReal.coe_sub_bot, EReal.sub_top]
          simp
        · rw [Ideal.log_coe, if_neg (not_le.mpr h)]
          simp only [← EReal.coe_mul, ← EReal.coe_sub, Ideal.exp2_coe, Ideal.exp_coe]
          congr 1
          show (2 : ℝ) ^ (_ : ℝ) = _
          rw [Real.rpow_def_of_pos (by norm_num)]
          have : Real.log 2 * L2 = 1 := mul_inv_cancel₀ log2_pos.ne'
          have h' : Real.log 2 * (a * L2 - (b * L2 - Real.log d * L2)) = (a - b) + Real.log d := by
            linear_combination (a - b + Real.log d) * this
          rw [h', Real.exp_add, Real.exp_log h]

/-- The difference of two scaled exponents. -/
theorem exp2_sub_scaled (A B : EReal) :
    Ideal.exp2 (A * (L2 : EReal) - B * (L2 : EReal)) = Ideal.exp (A - B) := by
  rw [← exp2_scaled]
  congr 1
  rw [sub_eq_add_neg, sub_eq_add_neg, ← EReal.neg_mul,
    EReal.right_distrib_of_nonneg_of_ne_top (by exact_mod_cast L2_pos.le) (EReal.coe_ne_top _)]

end Cert.Layer

end
-- ==== Proof.Spec.lean ====
/-
  The layer as functions of natural-number coordinates over the extended reals: rows are the 32768 rows of the batch laid
  end to end (row `ρ` is position `ρ % 2048` of sequence `ρ / 2048`), chunks are the 256 runs of 128 rows. Both programs'
  results are read to `out`.
-/
module

public import proofs.«01_k».proof.Proof.Scalars
public import Idealize.ShloMosaic.Lib.Pointwise

@[expose] public section

noncomputable section

namespace Cert.Layer

open Idealize.ShloMosaic

/-- The arguments, by coordinates. -/
structure Inp where
  x : ℕ → ℕ → EReal
  nmix : ℕ → EReal
  win : ℕ → ℕ → EReal
  lnw : ℕ → EReal
  lnb : ℕ → EReal
  ws : ℕ → ℕ → ℕ → EReal
  bs : ℕ → ℕ → EReal
  cw : ℕ → ℕ → EReal
  cb : ℕ → EReal
  dtb : ℕ → EReal
  alog : ℕ → EReal
  dsk : ℕ → EReal
  nrm : ℕ → EReal
  wout : ℕ → ℕ → EReal
  npost : ℕ → EReal
  npre : ℕ → EReal
  wup : ℕ → ℕ → EReal
  wdown : ℕ → ℕ → EReal
  nffn : ℕ → EReal

def eps : EReal := Ideal.ofBits .f32 0x358637BD#32
def n1024 : EReal := Ideal.ofBits .f32 0x44800000#32
def n256 : EReal := Ideal.ofBits .f32 0x43800000#32
def n64 : EReal := Ideal.ofBits .f32 0x42800000#32

/-- A row over the root of its mean square, times a weight. -/
def rmsF (f w : ℕ → EReal) (j : ℕ) : EReal :=
  f j * Ideal.rsqrt (Ideal.div (∑ k : Fin 1024, f k * f k) n1024 + eps) * w j

def gelu (x : EReal) : EReal :=
  x * (((1 / 2 : ℝ) : EReal) * (1 + Ideal.tanh ((R2 : EReal) * (x + ((8943 / 200000 : ℝ) : EReal) * (x * x * x)))))

def silu (x : EReal) : EReal := x * Ideal.logistic x

/-- The mean over a head's 64 columns. -/
def hmean (f : ℕ → EReal) (j : ℕ) : EReal := Ideal.div (∑ p : Fin 64, f (64 * (j / 64) + p)) n64

variable (I : Inp)

def proj (ρ j : ℕ) : EReal := ∑ k : Fin 1024, rmsF (I.x ρ) I.nmix k * I.win k j

/-! ## The gated chunk part -/

def gv (ρ c : ℕ) : EReal := gelu (proj I ρ (512 + c))
def gd (ρ c : ℕ) : EReal := gv I ρ c - hmean (gv I ρ) c
def gvar (ρ c : ℕ) : EReal := hmean (fun j => gd I ρ j * gd I ρ j) c
def vn (ρ c : ℕ) : EReal := gd I ρ c * Ideal.rsqrt (gvar I ρ c + eps) * I.lnw c + I.lnb c
def mixed (ρ c : ℕ) : EReal :=
  (∑ s : Fin 128, (if (s : ℕ) ≤ ρ % 128 then I.ws (c / 64) (ρ % 128) s else 0) * vn I (128 * (ρ / 128) + s) c) + I.bs (c / 64) (ρ % 128)
def gm (ρ c : ℕ) : EReal := gelu (proj I ρ c) * mixed I ρ c

/-! ## The state-space part -/

/-- The convolution's input `k` rows back, zero before the sequence. -/
def xb (ρ k c : ℕ) : EReal := if k ≤ ρ % 2048 then proj I (ρ - k) (1536 + c) else 0
def xc (ρ c : ℕ) : EReal :=
  silu (xb I ρ 3 c * I.cw 0 c + xb I ρ 2 c * I.cw 1 c + xb I ρ 1 c * I.cw 2 c + xb I ρ 0 c * I.cw 3 c + I.cb c)
def dt (ρ h : ℕ) : EReal := softplus (proj I ρ (2560 + h) + I.dtb h)
def dta (ρ h : ℕ) : EReal := dt I ρ h * -(Ideal.exp (I.alog h))
/-- The sum of the chunk's exponents up to and with row `ρ`. -/
def acs (ρ h : ℕ) : EReal := ∑ s : Fin 128, if (s : ℕ) ≤ ρ % 128 then dta I (128 * (ρ / 128) + s) h else 0
def xdt (ρ h p : ℕ) : EReal := xc I ρ (64 * h + p) * dt I ρ h
def bm (ρ h n : ℕ) : EReal := xc I ρ (512 + 128 * (h / 4) + n)
def cm (ρ h n : ℕ) : EReal := xc I ρ (768 + 128 * (h / 4) + n)
/-- A chunk's effect on the state. -/
def stStep (q : ℕ) (S : ℕ → ℕ → ℕ → EReal) (h p n : ℕ) : EReal :=
  S h p n * Ideal.exp (acs I (128 * q + 127) h)
    + ∑ s : Fin 128, bm I (128 * q + s) h n * Ideal.exp (acs I (128 * q + 127) h - acs I (128 * q + s) h) * xdt I (128 * q + s) h p
/-- The state a chunk begins with: zero at the first of each sequence's sixteen. -/
def st : ℕ → ℕ → ℕ → ℕ → EReal
  | 0 => fun _ _ _ => 0
  | q + 1 => if (q + 1) % 16 = 0 then fun _ _ _ => 0 else stStep I q (st q)
/-- The state after a chunk. -/
def stOut (q : ℕ) : ℕ → ℕ → ℕ → EReal := stStep I q (st I q)
def cbm (ρ σ h : ℕ) : EReal := ∑ n : Fin 128, cm I ρ h n * bm I σ h n
def ydiag (ρ h p : ℕ) : EReal :=
  ∑ s : Fin 128, cbm I ρ (128 * (ρ / 128) + s) h
    * Ideal.exp (if (s : ℕ) ≤ ρ % 128 then acs I ρ h - acs I (128 * (ρ / 128) + s) h else ⊥) * xdt I (128 * (ρ / 128) + s) h p
def yoff (ρ h p : ℕ) : EReal := (∑ n : Fin 128, cm I ρ h n * st I (ρ / 128) h p n) * Ideal.exp (acs I ρ h)
def yy (ρ c : ℕ) : EReal := ydiag I ρ (c / 64) (c % 64) + yoff I ρ (c / 64) (c % 64) + I.dsk (c / 64) * xc I ρ c
def yz (ρ c : ℕ) : EReal := yy I ρ c * silu (proj I ρ (1024 + c))
def ssm (ρ c : ℕ) : EReal :=
  yz I ρ c * Ideal.rsqrt (Ideal.div (∑ k : Fin 256, yz I ρ (256 * (c / 256) + k) * yz I ρ (256 * (c / 256) + k)) n256 + eps) * I.nrm c

/-! ## The output projection and the feed-forward part -/

def mix (ρ j : ℕ) : EReal := if j < 512 then gm I ρ j else ssm I ρ (j - 512)
def oo (ρ j : ℕ) : EReal := ∑ k : Fin 1024, mix I ρ k * I.wout k j
def x1 (ρ j : ℕ) : EReal := I.x ρ j + rmsF (oo I ρ) I.npost j
def ff (ρ m : ℕ) : EReal :=
  max (∑ k : Fin 1024, rmsF (x1 I ρ) I.npre k * I.wup k m) 0 * max (∑ k : Fin 1024, rmsF (x1 I ρ) I.npre k * I.wup k m) 0
def dn (ρ j : ℕ) : EReal := ∑ m : Fin 4096, ff I ρ m * I.wdown m j
def out (ρ j : ℕ) : EReal := x1 I ρ j + rmsF (dn I ρ) I.nffn j

end Cert.Layer
-- ==== Proof.Args.lean ====
/-
  The layer's arguments as functions of natural-number coordinates: what the arrays hold, and zero outside them.
-/
module

public import proofs.«01_k».proof.Proof.Spec

@[expose] public section

noncomputable section

namespace Cert.Layer

open Idealize.ShloMosaic

def at2 {a b : ℕ} (x : (⟨2, ![a, b]⟩ : Shape).Idx → EReal) (i j : ℕ) : EReal :=
  if h : i < a ∧ j < b then x (ix2 ⟨i, h.1⟩ ⟨j, h.2⟩) else 0
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0
def at4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

theorem ix2_at {a b : ℕ} {x : (⟨2, ![a, b]⟩ : Shape).Idx → EReal} {i : Fin a} {j : Fin b} {i' j' : ℕ} (hi : (i : ℕ) = i') (hj : (j : ℕ) = j') :
    x (ix2 i j) = at2 x i' j' := by subst hi hj; rw [at2, dif_pos ⟨i.isLt, j.isLt⟩]
theorem ix3_at {a b c : ℕ} {x : (⟨3, ![a, b, c]⟩ : Shape).Idx → EReal} {i : Fin a} {j : Fin b} {k : Fin c} {i' j' k' : ℕ} (hi : (i : ℕ) = i')
    (hj : (j : ℕ) = j') (hk : (k : ℕ) = k') : x (ix3 i j k) = at3 x i' j' k' := by
  subst hi hj hk; rw [at3, dif_pos ⟨i.isLt, j.isLt, k.isLt⟩]
theorem ix4_at {a b c d : ℕ} {x : (⟨4, ![a, b, c, d]⟩ : Shape).Idx → EReal} {i : Fin a} {j : Fin b} {k : Fin c} {l : Fin d} {i' j' k' l' : ℕ}
    (hi : (i : ℕ) = i') (hj : (j : ℕ) = j') (hk : (k : ℕ) = k') (hl : (l : ℕ) = l') : x (ix4 i j k l) = at4 x i' j' k' l' := by
  subst hi hj hk hl; rw [at4, dif_pos ⟨i.isLt, j.isLt, k.isLt, l.isLt⟩]

theorem idx2_at {a b : ℕ} {x : (⟨2, ![a, b]⟩ : Shape).Idx → EReal} {u : (⟨2, ![a, b]⟩ : Shape).Idx} {i' j' : ℕ} (hi : (u 0 : ℕ) = i')
    (hj : (u 1 : ℕ) = j') : x u = at2 x i' j' := (congrArg x (funext fun a => by fin_cases a <;> rfl)).trans (ix2_at (i := u 0) (j := u 1) hi hj)
theorem idx3_at {a b c : ℕ} {x : (⟨3, ![a, b, c]⟩ : Shape).Idx → EReal} {u : (⟨3, ![a, b, c]⟩ : Shape).Idx} {i' j' k' : ℕ} (hi : (u 0 : ℕ) = i')
    (hj : (u 1 : ℕ) = j') (hk : (u 2 : ℕ) = k') : x u = at3 x i' j' k' :=
  (congrArg x (funext fun a => by fin_cases a <;> rfl)).trans (ix3_at (i := u 0) (j := u 1) (k := u 2) hi hj hk)
theorem idx4_at {a b c d : ℕ} {x : (⟨4, ![a, b, c, d]⟩ : Shape).Idx → EReal} {u : (⟨4, ![a, b, c, d]⟩ : Shape).Idx} {i' j' k' l' : ℕ}
    (hi : (u 0 : ℕ) = i') (hj : (u 1 : ℕ) = j') (hk : (u 2 : ℕ) = k') (hl : (u 3 : ℕ) = l') : x u = at4 x i' j' k' l' :=
  (congrArg x (funext fun a => by fin_cases a <;> rfl)).trans (ix4_at (i := u 0) (j := u 1) (k := u 2) (l := u 3) hi hj hk hl)

/-- The layer's arguments from the nineteen arrays. -/
def inp (a0 : (⟨3, ![16, 2048, 1024]⟩ : Shape).Idx → EReal) (a1 : (⟨2, ![1, 1024]⟩ : Shape).Idx → EReal) (a2 : (⟨3, ![1, 1024, 2568]⟩ : Shape).Idx → EReal)
    (a3 a4 : (⟨3, ![1, 8, 64]⟩ : Shape).Idx → EReal) (a5 : (⟨4, ![1, 8, 128, 128]⟩ : Shape).Idx → EReal) (a6 : (⟨3, ![1, 8, 128]⟩ : Shape).Idx → EReal)
    (a7 : (⟨3, ![1, 4, 1024]⟩ : Shape).Idx → EReal) (a8 : (⟨2, ![1, 1024]⟩ : Shape).Idx → EReal) (a9 a10 a11 : (⟨2, ![1, 8]⟩ : Shape).Idx → EReal)
    (a12 : (⟨2, ![1, 512]⟩ : Shape).Idx → EReal) (a13 : (⟨3, ![1, 1024, 1024]⟩ : Shape).Idx → EReal) (a14 a15 : (⟨2, ![1, 1024]⟩ : Shape).Idx → EReal)
    (a16 : (⟨3, ![1, 1024, 4096]⟩ : Shape).Idx → EReal) (a17 : (⟨3, ![1, 4096, 1024]⟩ : Shape).Idx → EReal) (a18 : (⟨2, ![1, 1024]⟩ : Shape).Idx → EReal) : Inp where
  x ρ j := at3 a0 (ρ / 2048) (ρ % 2048) j
  nmix j := at2 a1 0 j
  win k j := at3 a2 0 k j
  lnw j := at3 a3 0 (j / 64) (j % 64)
  lnb j := at3 a4 0 (j / 64) (j % 64)
  ws h i j := at4 a5 0 h i j
  bs h i := at3 a6 0 h i
  cw k j := at3 a7 0 k j
  cb j := at2 a8 0 j
  dtb h := at2 a9 0 h
  alog h := at2 a10 0 h
  dsk h := at2 a11 0 h
  nrm j := at2 a12 0 j
  wout k j := at3 a13 0 k j
  npost j := at2 a14 0 j
  npre j := at2 a15 0 j
  wup k j := at3 a16 0 k j
  wdown k j := at3 a17 0 k j
  nffn j := at2 a18 0 j

end Cert.Layer
-- ==== Proof.Tiles.lean ====
/-
  The layer's vector steps, written once each: the root-mean-square scale, a projection tile, the gelu tile, the mean of
  a head, the mixing tile, the step sizes and their running sums, the convolution tile, the two tables the state-space
  part reads, a pair of heads, a group's finish and the feed-forward tiles. The program's payloads are these steps, cut
  at other places; each is named here with the arguments it reads.
-/
module

public import proofs.«01_k».proof.Proof.Gen.KernelIdeal.Skeleton

@[expose] public section

set_option synthInstance.maxSize 4096

noncomputable section

namespace Cert.KernelIdeal.Tiles

open Idealize.ShloMosaic Idealize.SL.Sem Cert.KernelIdeal Cert.KernelIdeal.Gen

variable {F : FTy → Type} [FloatOps F] [Named F]

/-- Rows scaled by the reciprocal root of their mean square, then by a weight. -/
def rmsV (x : FVec F S256x1024 .f32) (w : FVec F S1x1024 .f32) : FVec F S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024))
    (broadcastTo S256x1024 w broadcasts_S1x1024_S256x1024)

/-- The scaled rows a projection multiplies. -/
def hnV (x : FVec F S256x1024 .f32) (w : FVec F S1x1024 .f32) : FVec F S256x1024 .bf16 :=
  truncf .bf16 (rmsV (shapeCast S256x1024 x shapeCasts_S256x1024_S256x1024) (shapeCast S1x1024 w shapeCasts_S1x1024_S1x1024)) bitsLt_bf16_f32

/-- 512 columns of a projection. -/
def projV (h : FVec F S256x1024 .bf16) (w : FVec F S1024x512 .bf16) : FVec F S256x512 .f32 :=
  shapeCast S256x512 (matmul dot_S256x1024_S1024x512_S256x512_1_0_0_1_n_n none h (shapeCast S1024x512 w shapeCasts_S1024x512_S1024x512) (constant S256x512 .f32 0x00000000#32)) shapeCasts_S256x512_S256x512

theorem pay5 (x w v) : k0_pay5 (F := F) x w v = projV (hnV x w) v := rfl

/-- The columns of a projection that hold the step sizes. -/
def dtrawV (h : FVec F S256x1024 .bf16) (w : FVec F S1024x128 .bf16) : FVec F S256x128 .f32 :=
  shapeCast S256x128 (matmul dot_S256x1024_S1024x128_S256x128_1_0_0_1_n_n none h (shapeCast S1024x128 w shapeCasts_S1024x128_S1024x128) (constant S256x128 .f32 0x00000000#32)) shapeCasts_S256x128_S256x128

/-- The tanh form of gelu, in powers of two. -/
def geluV (s : Shape) (x : FVec F s .f32) : FVec F s .f32 :=
  divf x (addf (broadcast s (Scalar.ofBits .f32 0x3F800000#32)) (exp2 (mulf x (addf (broadcast s (Named.named κ "gelu_a" 0xC0135761#32))
    (mulf (broadcast s (Named.named κ "gelu_b" 0xBDD2D3E8#32)) (mulf x x))))))

theorem pay24 (x) : k0_pay24 (F := F) x = geluV _ x := rfl

/-- The mean of each head's 64 columns, at each of those columns. -/
def headMean (a : FVec F S128x512 .f32) (m : FVec F S256x256 .bf16) : FVec F S128x512 .f32 :=
  let ab := truncf .bf16 a bitsLt_bf16_f32
  let p := matmul dot_S256x256_S256x256_S256x256_1_0_0_1_n_n none
    (concatenate S256x256 0 [⟨S128x256, extractStridedSlice S128x256 ![0, 0] ab slices_S128x512_o0_0_S128x256⟩, ⟨S128x256, extractStridedSlice S128x256 ![0, 256] ab slices_S128x512_o0_256_S128x256⟩] concatenates_S128x256_S128x256_S256x256_d0)
    (shapeCast S256x256 m shapeCasts_S256x256_S256x256) (constant S256x256 .f32 0x00000000#32)
  concatenate S128x512 1 [⟨S128x256, extractStridedSlice S128x256 ![0, 0] p slices_S256x256_o0_0_S128x256⟩, ⟨S128x256, extractStridedSlice S128x256 ![128, 0] p slices_S256x256_o128_0_S128x256⟩] concatenates_S128x256_S128x256_S128x512_d1

theorem pay25 (x m) : k0_pay25 (F := F) x m = headMean (geluV _ x) m := rfl
theorem pay40 (v mu m) : k0_pay40 (F := F) v mu m = headMean (mulf (subf v mu) (subf v mu)) m := rfl

/-- The centred rows scaled by their deviation, then by a weight and a shift. -/
def vnV (d var : FVec F S128x512 .f32) (w b : FVec F S1x512 .f32) : FVec F S128x512 .f32 :=
  addf (mulf (mulf d (rsqrt (addf var (broadcast S128x512 (Scalar.ofBits .f32 0x358637BD#32))))) (broadcastTo S128x512 (shapeCast S1x512 w shapeCasts_S1x512_S1x512) broadcasts_S1x512_S128x512))
    (broadcastTo S128x512 (shapeCast S1x512 b shapeCasts_S1x512_S1x512) broadcasts_S1x512_S128x512)

theorem pay68 (d var w b) : k0_pay68 (F := F) d var w b = vnV d var w b := rfl

/-- A tile's two heads one under the other, each with the other's columns zero. -/
def pairRhs (t : FVec F S128x128 .f32) : FVec F S256x128 .bf16 :=
  concatenate S256x128 0 [⟨S128x128, truncf .bf16 (select k0_pay15 t (broadcast S128x128 (Scalar.ofBits .f32 0x00000000#32))) bitsLt_bf16_f32⟩,
    ⟨S128x128, truncf .bf16 (select k0_pay15 (broadcast S128x128 (Scalar.ofBits .f32 0x00000000#32)) t) bitsLt_bf16_f32⟩] concatenates_S128x128_S128x128_S256x128_d0

/-- One tile of the mixed and gated rows. -/
def mixV (t : FVec F S128x128 .f32) (w : FVec F S1x128x256 .bf16) (b u : FVec F S128x128 .f32) : FVec F S128x128 .bf16 :=
  shapeCast S128x128 (truncf .bf16 (mulf (geluV _ u)
    (addf (matmul dot_S128x256_S256x128_S128x128_1_0_0_1_n_n none (shapeCast S128x256 w shapeCasts_S1x128x256_S128x256) (pairRhs t) (constant S128x128 .f32 0x00000000#32))
      (shapeCast S128x128 b shapeCasts_S128x128_S128x128))) bitsLt_bf16_f32) shapeCasts_S128x128_S128x128

theorem pay71 (vn w b u) : k0_pay71 (F := F) k0_pay15 vn w b u = mixV (extractStridedSlice S128x128 ![0, 128] vn slices_S128x512_o0_128_S128x128) w b u := rfl

/-- The step sizes: softplus of a projection's columns with a bias. -/
def dtV (x : FVec F S128x128 .f32) (b : FVec F S1x128 .f32) : FVec F S128x128 .f32 :=
  let a := addf x (broadcastTo S128x128 (shapeCast S1x128 b shapeCasts_S1x128_S1x128) broadcasts_S1x128_S128x128)
  addf (maximumf a (broadcast S128x128 (Scalar.ofBits .f32 0x00000000#32))) (log1p (exp (subf (broadcast S128x128 (Scalar.ofBits .f32 0x00000000#32)) (absf a))))

theorem pay32 (x b) : k0_pay32 (F := F) x b = dtV x b := rfl

/-- The decay exponents, in powers of two. -/
def dtaV (dt : FVec F S128x128 .f32) (a : FVec F S1x128 .f32) : FVec F S128x128 .f32 :=
  mulf dt (broadcastTo S128x128 (mulf (shapeCast S1x128 a shapeCasts_S1x128_S1x128) (broadcast S1x128 (Named.named κ "log2e" 0x3FB8AA3B#32))) broadcasts_S1x128_S128x128)

/-- Their running sums over the chunk: three products with the triangle of ones, one per part of the split. -/
def acsV (d : FVec F S128x128 .f32) (tri : FVec F S128x128 .bf16) : FVec F S128x128 .f32 :=
  let p1 := truncf .bf16 d bitsLt_bf16_f32
  let r1 := subf d (extf .f32 p1 bitsLt_bf16_f32)
  let p2 := truncf .bf16 r1 bitsLt_bf16_f32
  let r2 := subf r1 (extf .f32 p2 bitsLt_bf16_f32)
  let p3 := truncf .bf16 r2 bitsLt_bf16_f32
  let m := matmul dot_S128x128_S128x384_S128x384_1_0_0_1_n_n none (shapeCast S128x128 tri shapeCasts_S128x128_S128x128)
    (concatenate S128x384 1 [⟨S128x128, p1⟩, ⟨S128x128, p2⟩, ⟨S128x128, p3⟩] concatenates_S128x128_S128x128_S128x128_S128x384_d1) (constant S128x384 .f32 0x00000000#32)
  addf (addf (extractStridedSlice S128x128 ![0, 0] m slices_S128x384_o0_0_S128x128) (extractStridedSlice S128x128 ![0, 128] m slices_S128x384_o0_128_S128x128))
    (extractStridedSlice S128x128 ![0, 256] m slices_S128x384_o0_256_S128x128)

theorem pay37 (x b a t) : k0_pay37 (F := F) (k0_pay33 x b a) (k0_pay34 t) (k0_pay35 x b a) (k0_pay36 x b a) = acsV (dtaV (dtV x b) a) t := rfl

/-- One tile of the four-tap convolution, then silu. -/
def convV (b w3 : FVec F S1x128 .f32) (x0 : FVec F S128x128 .f32) (w2 : FVec F S1x128 .f32) (x1 : FVec F S128x128 .f32)
    (w1 : FVec F S1x128 .f32) (x2 : FVec F S128x128 .f32) (w0 : FVec F S1x128 .f32) (x3 : FVec F S128x128 .f32) : FVec F S128x128 .f32 :=
  let r := fun w : FVec F S1x128 .f32 => broadcastTo S128x128 (shapeCast S1x128 w shapeCasts_S1x128_S1x128) broadcasts_S1x128_S128x128
  let a := addf (addf (addf (addf (r b) (mulf (r w3) x0)) (mulf (r w2) x1)) (mulf (r w1) x2)) (mulf (r w0) x3)
  shapeCast S128x128 (divf a (addf (broadcast S128x128 (Scalar.ofBits .f32 0x3F800000#32)) (exp2 (mulf a (broadcast S128x128 (Named.named κ "neg_log2e" 0xBFB8AA3B#32)))))) shapeCasts_S128x128_S128x128

theorem pay43 (b w3 x0 w2 x1 w1 x2 w0 x3) : k0_pay43 (F := F) b w3 x0 w2 x1 w1 x2 w0 x3 = convV b w3 x0 w2 x1 w1 x2 w0 x3 := rfl

/-- The weight of each position at the chunk's end. -/
def wendV (dt a : FVec F S128x128 .f32) : FVec F S128x128 .f32 :=
  mulf dt (exp2 (subf (broadcastTo S128x128 (extractStridedSlice S1x128 ![127, 0] a slices_S128x128_o127_0_S1x128) broadcasts_S1x128_S128x128) a))

/-- Two tables by head and position: the exponent with the logarithm of the step taken off, and the end weight. -/
def trV (dt a : FVec F S128x128 .f32) : FVec F S128x128 .f32 :=
  transpose S128x128 [1, 0] (select (cmpi .slt (iota .tc S128x128 32 [1] iota_S128x128_d1_w32) (broadcast S128x128 8#32))
    (subf a (mulf (log dt) (broadcast S128x128 (Named.named κ "log2e" 0x3FB8AA3B#32)))) (dynamicRotate 1 8#32 none (wendV dt a) rotates_S128x128_d1)) transposes_S128x128_p1_0_S128x128

/-- The products of the output rows with the input rows. -/
def cbV (b c : FVec F S128x128 .f32) : FVec F S128x128 .f32 :=
  matmul dot_S128x128_S128x128_S128x128_1_1_0_0_n_n none (truncf .bf16 c bitsLt_bf16_f32) (truncf .bf16 b bitsLt_bf16_f32) (constant S128x128 .f32 0x00000000#32)

/-- A group's state, read as a matrix. -/
def stV (s : FVec F S1x128x256 .f32) : FVec F S128x256 .f32 := shapeCast S128x256 s shapeCasts_S1x128x256_S128x256

/-- The part of the output the carried state gives, before its decay. -/
def yoffV (c : FVec F S128x128 .f32) (s : FVec F S1x128x256 .f32) : FVec F S128x256 .f32 :=
  matmul dot_S128x128_S128x256_S128x256_1_0_0_1_n_n none (truncf .bf16 c bitsLt_bf16_f32) (truncf .bf16 (stV s) bitsLt_bf16_f32) (constant S128x256 .f32 0x00000000#32)

def tV (b : FVec F S128x128 .f32) : FVec F S128x128 .f32 := transpose S128x128 [1, 0] b transposes_S128x128_p1_0_S128x128

/-- A head's running sums along the lanes. -/
def acsB (a : FVec F S128x128 .f32) (o : ℕ) (h : S128x128.Slices ![0, o] S128x1) : FVec F S128x128 .f32 :=
  broadcastTo S128x128 (shapeCast S128x1 (extractStridedSlice S128x1 ![0, o] a h) shapeCasts_S128x1_S128x1) broadcasts_S128x1_S128x128

/-- A row of the tables, down the rows. -/
def rowB (t : FVec F S128x128 .f32) (o : ℕ) (h : S128x128.Slices ![o, 0] S1x128) : FVec F S128x128 .f32 :=
  broadcastTo S128x128 (extractStridedSlice S1x128 ![o, 0] t h) broadcasts_S1x128_S128x128

/-- A head's masked and decayed products. -/
def scoreV (cb acs row : FVec F S128x128 .f32) : FVec F S128x128 .bf16 :=
  truncf .bf16 (mulf cb (exp2 (select k0_pay14 (subf acs row) (broadcast S128x128 (Scalar.ofBits .f32 0xFF800000#32))))) bitsLt_bf16_f32

def bscV (bt row : FVec F S128x128 .f32) : FVec F S128x128 .bf16 := truncf .bf16 (mulf bt row) bitsLt_bf16_f32

/-- A pair of heads: the within-chunk output over the state's increment. -/
def resV (cb bt acs0 acs1 row0 row1 end0 end1 x : FVec F S128x128 .f32) : FVec F S256x128 .f32 :=
  matmul dot_S256x256_S256x128_S256x128_1_0_0_1_n_n none
    (concatenate S256x256 0 [⟨S128x256, concatenate S128x256 1 [⟨S128x128, scoreV cb acs0 row0⟩, ⟨S128x128, scoreV cb acs1 row1⟩] concatenates_S128x128_S128x128_S128x256_d1⟩,
      ⟨S128x256, concatenate S128x256 1 [⟨S128x128, bscV bt end0⟩, ⟨S128x128, bscV bt end1⟩] concatenates_S128x128_S128x128_S128x256_d1⟩] concatenates_S128x256_S128x256_S256x256_d0)
    (pairRhs x) (constant S256x128 .f32 0x00000000#32)

def decayV (acs0 acs1 : FVec F S128x128 .f32) : FVec F S128x128 .f32 := select k0_pay15 (exp2 acs0) (exp2 acs1)

/-- A pair's output rows. -/
def ytileV (res : FVec F S256x128 .f32) (yo dec : FVec F S128x128 .f32) : FVec F S128x128 .f32 :=
  addf (extractStridedSlice S128x128 ![0, 0] res slices_S256x128_o0_0_S128x128) (mulf yo dec)

/-- A pair's state after the chunk. -/
def stnewV (res : FVec F S256x128 .f32) (st dec : FVec F S128x128 .f32) : FVec F S1x128x128 .f32 :=
  shapeCast S1x128x128 (addf (mulf st (rowB dec 127 slices_S128x128_o127_0_S1x128)) (extractStridedSlice S128x128 ![128, 0] res slices_S256x128_o128_0_S128x128)) shapeCasts_S128x128_S1x128x128

theorem pay88 (a tr cb s bt x) : k0_pay88 (F := F) k0_pay15 tr cb (stV s) bt (k0_pay80 k0_pay14 a tr cb) (k0_pay81 tr bt) (k0_pay82 a) (k0_pay83 a) (k0_pay84 k0_pay14 a tr) x
    = stnewV (resV cb bt (acsB a 0 slices_S128x128_o0_0_S128x1) (acsB a 1 slices_S128x128_o0_1_S128x1) (rowB tr 0 slices_S128x128_o0_0_S1x128) (rowB tr 1 slices_S128x128_o1_0_S1x128)
        (rowB tr 8 slices_S128x128_o8_0_S1x128) (rowB tr 9 slices_S128x128_o9_0_S1x128) x) (extractStridedSlice S128x128 ![0, 0] (stV s) slices_S128x256_o0_0_S128x128)
        (decayV (acsB a 0 slices_S128x128_o0_0_S128x1) (acsB a 1 slices_S128x128_o0_1_S128x1)) := rfl

/-- Two tiles side by side. -/
def catV (a b : FVec F S128x128 .f32) : FVec F S128x256 .f32 := concatenate S128x256 1 [⟨S128x128, a⟩, ⟨S128x128, b⟩] concatenates_S128x128_S128x128_S128x256_d1

/-- A group's output: the skip term, the gate, the group's root-mean-square scale and the weight. -/
def groupV (y z : FVec F S128x256 .f32) (d : FVec F S1x256 .f32) (x : FVec F S128x256 .f32) (w : FVec F S1x256 .f32) : FVec F S128x256 .bf16 :=
  let g := mulf (addf y (mulf (broadcastTo S128x256 (shapeCast S1x256 d shapeCasts_S1x256_S1x256) broadcasts_S1x256_S128x256) x))
    (divf z (addf (broadcast S128x256 (Scalar.ofBits .f32 0x3F800000#32)) (exp2 (mulf z (broadcast S128x256 (Named.named κ "neg_log2e" 0xBFB8AA3B#32))))))
  shapeCast S128x256 (truncf .bf16 (mulf (mulf g (broadcastTo S128x256 (rsqrt (addf (divf (shapeCast S128x1 (multiReduction .add [1] S128 (mulf g g) 0x00000000#32 reduces_S128x256_S128 (.inl rfl) rfl) shapeCasts_S128_S128x1)
    (broadcast S128x1 (Scalar.ofBits .f32 0x43800000#32))) (broadcast S128x1 (Scalar.ofBits .f32 0x358637BD#32)))) broadcasts_S128x1_S128x256))
    (broadcastTo S128x256 (shapeCast S1x256 w shapeCasts_S1x256_S1x256) broadcasts_S1x256_S128x256)) bitsLt_bf16_f32) shapeCasts_S128x256_S128x256

theorem pay116 (y z d x w) : k0_pay116 (F := F) y z d x w = groupV y z d x w := rfl

/-- The output projection and the first sum. -/
def x1V (m : FVec F S256x1024 .bf16) (w : FVec F S1024x1024 .bf16) (x : FVec F S256x1024 .f32) (n : FVec F S1x1024 .f32) : FVec F S256x1024 .f32 :=
  addf (shapeCast S256x1024 x shapeCasts_S256x1024_S256x1024) (rmsV (matmul dot_S256x1024_S1024x1024_S256x1024_1_0_0_1_n_n none m (shapeCast S1024x1024 w shapeCasts_S1024x1024_S1024x1024) (constant S256x1024 .f32 0x00000000#32))
    (shapeCast S1x1024 n shapeCasts_S1x1024_S1x1024))

theorem pay16 (m w x n) : k0_pay16 (F := F) m w x n = x1V m w x n := rfl

def h2V (x1 : FVec F S256x1024 .f32) (n : FVec F S1x1024 .f32) : FVec F S256x1024 .bf16 := truncf .bf16 (rmsV x1 (shapeCast S1x1024 n shapeCasts_S1x1024_S1x1024)) bitsLt_bf16_f32

theorem pay18 (x n) : k0_pay18 (F := F) x (k0_pay17 n) = h2V x n := rfl

/-- 512 columns of the feed-forward part's squared rectifier. -/
def upV (a b : FVec F S256x1024 .bf16) (w : FVec F S1024x512 .bf16) : FVec F S512x512 .bf16 :=
  let u := maximumf (matmul dot_S512x1024_S1024x512_S512x512_1_0_0_1_n_n none (concatenate S512x1024 0 [⟨S256x1024, a⟩, ⟨S256x1024, b⟩] concatenates_S256x1024_S256x1024_S512x1024_d0)
    (shapeCast S1024x512 w shapeCasts_S1024x512_S1024x512) (constant S512x512 .f32 0x00000000#32)) (broadcast S512x512 (Scalar.ofBits .f32 0x00000000#32))
  truncf .bf16 (mulf u u) bitsLt_bf16_f32

theorem pay41 (a b w) : k0_pay41 (F := F) a b w = upV a b w := rfl

end Cert.KernelIdeal.Tiles
-- ==== Proof.Reads.lean ====
/-
  The layer's vector steps read at an index over the extended reals, each from what its operands hold.
-/
module

public import proofs.«01_k».proof.Proof.Spec
public import proofs.«01_k».proof.Proof.Tiles

@[expose] public section

set_option maxRecDepth 16384

noncomputable section

namespace Cert.KernelIdeal.Tiles

open Idealize.ShloMosaic Idealize.SL.Sem Cert.KernelIdeal Cert.KernelIdeal.Gen Cert.Layer

/-- A matrix holds a function of its coordinates. -/
def Rd {a b : ℕ} (X : (⟨2, ![a, b]⟩ : Shape).Idx → EReal) (f : ℕ → ℕ → EReal) : Prop :=
  ∀ (i : Fin a) (j : Fin b), X (ix2 i j) = f i j

theorem rms_rd {x : FVec Ideal S256x1024 .f32} {w : FVec Ideal S1x1024 .f32} {f g : ℕ → ℕ → EReal} (hx : Rd x f) (hw : Rd w g) :
    Rd (rmsV x w) fun i j => rmsF (f i) (g 0) j := by
  intro i j
  pointwise [rmsV]
  simp only [hx i, hw 0]
  rfl

theorem hn_rd {x : FVec Ideal S256x1024 .f32} {w : FVec Ideal S1x1024 .f32} {f g : ℕ → ℕ → EReal} (hx : Rd x f) (hw : Rd w g) :
    Rd (hnV x w) fun i j => rmsF (f i) (g 0) j := by
  intro i j
  pointwise [hnV, rmsV]
  simp only [hx i, hw 0]
  rfl

theorem proj_rd {h : FVec Ideal S256x1024 .bf16} {w : FVec Ideal S1024x512 .bf16} {f g : ℕ → ℕ → EReal} (hh : Rd h f) (hw : Rd w g) :
    Rd (projV h w) fun i j => ∑ k : Fin 1024, f i k * g k j := by
  intro i j
  pointwise [projV]
  simp only [hh i, fun k => hw k j]

theorem dtraw_rd {h : FVec Ideal S256x1024 .bf16} {w : FVec Ideal S1024x128 .bf16} {f g : ℕ → ℕ → EReal} (hh : Rd h f) (hw : Rd w g) :
    Rd (dtrawV h w) fun i j => ∑ k : Fin 1024, f i k * g k j := by
  intro i j
  pointwise [dtrawV]
  simp only [hh i, fun k => hw k j]

theorem low_word (j : ℕ) (h : j < 128) : IntOp.cmpi .slt (BitVec.ofNat 32 j) 64#32 = if j < 64 then 1#1 else 0#1 := by
  have : ∀ j : Fin 128, IntOp.cmpi .slt (BitVec.ofNat 32 j) 64#32 = if (j : ℕ) < 64 then 1#1 else 0#1 := by decide +kernel
  exact this ⟨j, h⟩
theorem eight_word (j : ℕ) (h : j < 128) : IntOp.cmpi .slt (BitVec.ofNat 32 j) 8#32 = if j < 8 then 1#1 else 0#1 := by
  have : ∀ j : Fin 128, IntOp.cmpi .slt (BitVec.ofNat 32 j) 8#32 = if (j : ℕ) < 8 then 1#1 else 0#1 := by decide +kernel
  exact this ⟨j, h⟩
theorem tri_word (i s : Fin 128) : IntOp.cmpi .sge (BitVec.ofNat 32 i) (BitVec.ofNat 32 s) = if (s : ℕ) ≤ i then 1#1 else 0#1 := by
  revert i s; decide +kernel
theorem sel_word {α : Type} (p : Prop) [Decidable p] (a b : α) : Scalar.select (if p then 1#1 else 0#1) a b = if p then a else b := by
  split <;> rfl
theorem neg_inf : Ideal.ofBits .f32 0xFF800000#32 = ⊥ := by simp [Ideal.ofBits, Ideal.ieee]
theorem exp2_def (x : EReal) : FloatOps.exp2 (F := Ideal) (φ := .f32) x = Ideal.exp2 x := rfl

theorem named_gelu_a : Named.named (F := Ideal) κ "gelu_a" (φ := .f32) 0xC0135761#32 = ((-((2 * R2) * L2) : ℝ) : EReal) := rfl
theorem named_gelu_b : Named.named (F := Ideal) κ "gelu_b" (φ := .f32) 0xBDD2D3E8#32 = (((-((2 * R2) * L2)) * (8943 / 200000) : ℝ) : EReal) := rfl
theorem named_log2e : Named.named (F := Ideal) κ "log2e" (φ := .f32) 0x3FB8AA3B#32 = (L2 : EReal) := rfl
theorem named_neg_log2e : Named.named (F := Ideal) κ "neg_log2e" (φ := .f32) 0xBFB8AA3B#32 = ((-((Real.log 2)⁻¹) : ℝ) : EReal) := rfl

theorem gelu_rd {a b : ℕ} {x : FVec Ideal ⟨2, ![a, b]⟩ .f32} {f : ℕ → ℕ → EReal} (hx : Rd x f) : Rd (geluV _ x) fun i j => gelu (f i j) := by
  intro i j
  pointwise [geluV]
  simp only [hx i j, named_gelu_a, named_gelu_b]
  exact gelu_eq _

/-- A sum over four heads' columns in which one head counts. -/
theorem sum_head (g : ℕ → EReal) {b : ℕ} (hb : b < 4) (c : EReal) :
    ∑ x : Fin 256, g x * (if (x : ℕ) / 64 = b then c else 0) = ∑ p : Fin 64, g (64 * b + p) * c := by
  rw [Fin.sum_univ_eq_sum_range (fun x => g x * (if x / 64 = b then c else 0)) 256, Fin.sum_univ_eq_sum_range (fun x => g (64 * b + x) * c) 64]
  rw [← Finset.sum_subset (s₁ := Finset.Ico (64 * b) (64 * b + 64))]
  · rw [Finset.sum_Ico_eq_sum_range, Nat.add_sub_cancel_left]
    refine Finset.sum_congr rfl fun x hx => ?_
    rw [if_pos (by have := Finset.mem_range.mp hx; omega)]
  · intro x hx; simp only [Finset.mem_Ico, Finset.mem_range] at *; omega
  · intro x hx hn
    simp only [Finset.mem_Ico, Finset.mem_range] at hx hn
    rw [if_neg (by omega), mul_zero]

theorem n64_eq : n64 = ((64 : ℝ) : EReal) := by
  unfold n64
  simp [Ideal.ofBits, Ideal.ieee, -EReal.coe_mul]; norm_num

theorem hmean_eq (f : ℕ → EReal) (j : ℕ) : ∑ p : Fin 64, f (64 * (j / 64) + p) * ((1 / 64 : ℝ) : EReal) = hmean f j := by
  rw [hmean, n64_eq, Ideal.div, if_neg (by norm_num), sum_scaled _ (fun p : Fin 64 => f (64 * (j / 64) + p)) (by norm_num)]
  congr 1
  rw [← EReal.coe_inv]; norm_num

theorem headMean_rd {x : FVec Ideal S128x512 .f32} {m : FVec Ideal S256x256 .bf16} {f : ℕ → ℕ → EReal} (hx : Rd x f)
    (hm : Rd m fun i j => if i / 64 = j / 64 then ((1 / 64 : ℝ) : EReal) else 0) : Rd (headMean x m) fun i j => hmean (f i) j := by
  intro i j
  pointwise [headMean]
  simp only [hx i]
  have hj := j.isLt
  split
  · rename_i h
    simp only [fun k => hm k ⟨j, h⟩]
    rw [sum_head (f i) (by omega), hmean_eq]
  · rename_i h
    simp only [fun k => hm k ⟨j - 256, by omega⟩]
    rw [sum_head (fun k => f i (256 + k)) (by omega), ← hmean_eq]
    refine Finset.sum_congr rfl fun p _ => ?_
    congr 2; omega

theorem vn_rd {d v : FVec Ideal S128x512 .f32} {w b : FVec Ideal S1x512 .f32} {f g : ℕ → ℕ → EReal} {p q : ℕ → ℕ → EReal} (hd : Rd d f) (hv : Rd v g)
    (hw : Rd w p) (hb : Rd b q) : Rd (vnV d v w b) fun i j => f i j * Ideal.rsqrt (g i j + eps) * p 0 j + q 0 j := by
  intro i j
  pointwise [vnV]
  simp only [hd i j, hv i j, hw 0 j, hb 0 j]
  rfl

theorem mix_rd {t u b : FVec Ideal S128x128 .f32} {w : FVec Ideal S1x128x256 .bf16} {ft fu fb : ℕ → ℕ → EReal} {fw : ℕ → ℕ → ℕ → EReal} (ht : Rd t ft)
    (hw : ∀ (i : Fin 128) (s : Fin 256), w (ix3 0 i s) = fw (s / 128) i (s % 128)) (hb : Rd b fb) (hu : Rd u fu) :
    Rd (mixV t w b u) fun i j => gelu (fu i j) * ((∑ s : Fin 128, fw (j / 64) i s * ft s j) + fb i j) := by
  intro i j
  have hj := j.isLt
  pointwise [mixV, geluV, pairRhs, k0_pay15]
  simp only [low_word _ hj, sel_word, hu i j, hb i j, fun s => ht s j, named_gelu_a, named_gelu_b, exp2_def]
  rw [gelu_eq]
  show gelu (fu i j) * _ = _
  congr 2
  have h0 : ∀ s : Fin 128, w (ix3 0 i ⟨s, by omega⟩) = fw 0 i s := fun s => by
    rw [hw]; congr 1 <;> simp [Nat.div_eq_of_lt s.isLt, Nat.mod_eq_of_lt s.isLt]
  have h1 : ∀ s : Fin 128, w (ix3 0 i ⟨128 + s, by omega⟩) = fw 1 i s := fun s => by
    have := s.isLt
    rw [hw]; congr 1 <;> simp <;> omega
  simp only [h0, h1]
  by_cases h : (j : ℕ) < 64
  · simp only [h, if_true, mul_zero, Finset.sum_const_zero, add_zero, Nat.div_eq_of_lt h]
  · have : (j : ℕ) / 64 = 1 := by omega
    simp only [h, if_false, mul_zero, Finset.sum_const_zero, zero_add, this]

theorem dt_rd {x : FVec Ideal S128x128 .f32} {b : FVec Ideal S1x128 .f32} {f g : ℕ → ℕ → EReal} (hx : Rd x f) (hb : Rd b g) :
    Rd (dtV x b) fun i j => softplus (f i j + g 0 j) := by
  intro i j
  pointwise [dtV]
  simp only [hx i j, hb 0 j]
  show max (f i j + g 0 j) 0 + Ideal.log1p (Ideal.exp (0 - max (f i j + g 0 j) (-(f i j + g 0 j)))) = _
  rw [zero_sub]; rfl

theorem dta_rd {x : FVec Ideal S128x128 .f32} {b : FVec Ideal S1x128 .f32} {f g : ℕ → ℕ → EReal} (hx : Rd x f) (hb : Rd b g) :
    Rd (dtaV x b) fun i j => f i j * (g 0 j * (L2 : EReal)) := by
  intro i j
  pointwise [dtaV]
  simp only [hx i j, hb 0 j]
  rfl

theorem acs_rd {d : FVec Ideal S128x128 .f32} {t : FVec Ideal S128x128 .bf16} {f : ℕ → ℕ → EReal} (hd : Rd d f)
    (ht : Rd t fun i s => if s ≤ i then 1 else 0) (hf : ∀ i j, f i j ≠ ⊤) : Rd (acsV d t) fun i j => ∑ s : Fin 128, if (s : ℕ) ≤ i then f s j else 0 := by
  intro i j
  pointwise [acsV]
  simp only [fun s => ht i s, fun s => hd s j]
  have n1 : ¬ 256 + (j : ℕ) < 128 := by omega
  have n2 : ¬ 256 + (j : ℕ) - 128 < 128 := by omega
  have e3 : ∀ s : Fin 128, d (ix2 s ⟨256 + j - 128 - 128, by omega⟩) = f s j := fun s => by
    rw [show (⟨256 + (j : ℕ) - 128 - 128, by omega⟩ : Fin 128) = j from Fin.ext (by show 256 + (j : ℕ) - 128 - 128 = j; omega)]
    exact hd s j
  simp only [n1, n2, dif_neg, not_false_eq_true, e3, ite_mul, one_mul, zero_mul]
  have := split_sum Finset.univ (fun s : Fin 128 => if (s : ℕ) ≤ i then f s j else 0) fun s _ => by
    split
    · exact hf _ _
    · exact EReal.zero_ne_top
  rw [← this]
  congr 1
  · congr 1
    refine Finset.sum_congr rfl fun s _ => ?_
    split <;> simp
  · refine Finset.sum_congr rfl fun s _ => ?_
    split <;> simp

theorem conv_rd {b w3 w2 w1 w0 : FVec Ideal S1x128 .f32} {x0 x1 x2 x3 : FVec Ideal S128x128 .f32} {fb f3 f2 f1 f0 g0 g1 g2 g3 : ℕ → ℕ → EReal}
    (hb : Rd b fb) (h3 : Rd w3 f3) (k0 : Rd x0 g0) (h2 : Rd w2 f2) (k1 : Rd x1 g1) (h1 : Rd w1 f1) (k2 : Rd x2 g2) (h0 : Rd w0 f0) (k3 : Rd x3 g3) :
    Rd (convV b w3 x0 w2 x1 w1 x2 w0 x3) fun i j => silu (g3 i j * f0 0 j + g2 i j * f1 0 j + g1 i j * f2 0 j + g0 i j * f3 0 j + fb 0 j) := by
  intro i j
  pointwise [convV]
  simp only [hb 0 j, h3 0 j, h2 0 j, h1 0 j, h0 0 j, k0 i j, k1 i j, k2 i j, k3 i j, named_neg_log2e, exp2_def]
  rw [silu_eq]
  show silu _ = _
  congr 1
  ac_rfl

theorem tr_rd {dt a : FVec Ideal S128x128 .f32} {f g : ℕ → ℕ → EReal} (hd : Rd dt f) (ha : Rd a g) :
    Rd (trV dt a) fun h s => if h < 8 then g s h - Ideal.log (f s h) * (L2 : EReal) else f s ((h + 120) % 128) * Ideal.exp2 (g 127 ((h + 120) % 128) - g s ((h + 120) % 128)) := by
  intro h s
  have hh := h.isLt
  pointwise [trV, wendV]
  simp only [eight_word _ hh, sel_word, hd s, ha s, ha 127, named_log2e, exp2_def]
  rw [show ((h : ℕ) + 128 - 8) = h + 120 by omega]
  rfl

theorem cb_rd {b c : FVec Ideal S128x128 .f32} {f g : ℕ → ℕ → EReal} (hb : Rd b f) (hc : Rd c g) : Rd (cbV b c) fun i j => ∑ n : Fin 128, g i n * f j n := by
  intro i j
  pointwise [cbV]
  simp only [hc i, hb j]

theorem yoff_rd {c : FVec Ideal S128x128 .f32} {s : FVec Ideal S1x128x256 .f32} {f g : ℕ → ℕ → EReal} (hc : Rd c f)
    (hs : ∀ (n : Fin 128) (j : Fin 256), s (ix3 0 n j) = g n j) : Rd (yoffV c s) fun i j => ∑ n : Fin 128, f i n * g n j := by
  intro i j
  pointwise [yoffV, stV]
  simp only [hc i, fun n => hs n j]

theorem res_rd {cb bt a0 a1 r0 r1 e0 e1 x : FVec Ideal S128x128 .f32} {fc fb fa0 fa1 fr0 fr1 fe0 fe1 fx : ℕ → ℕ → EReal}
    (hc : Rd cb fc) (hb : Rd bt fb) (ha0 : Rd a0 fa0) (ha1 : Rd a1 fa1) (hr0 : Rd r0 fr0) (hr1 : Rd r1 fr1) (he0 : Rd e0 fe0) (he1 : Rd e1 fe1) (hx : Rd x fx)
    (i : Fin 128) (j : Fin 128) :
    (resV cb bt a0 a1 r0 r1 e0 e1 x (ix2 (⟨i, by omega⟩ : Fin 256) j)
      = ∑ s : Fin 128, fc i s * Ideal.exp2 (if (s : ℕ) ≤ i then (if (j : ℕ) < 64 then fa0 i s - fr0 i s else fa1 i s - fr1 i s) else ⊥) * fx s j)
    ∧ (resV cb bt a0 a1 r0 r1 e0 e1 x (ix2 (⟨128 + i, by omega⟩ : Fin 256) j)
      = ∑ s : Fin 128, fb i s * (if (j : ℕ) < 64 then fe0 i s else fe1 i s) * fx s j) := by
  constructor
  · have hj := j.isLt
    pointwise [resV, scoreV, bscV, pairRhs, k0_pay15, k0_pay14]
    simp only [low_word _ hj, tri_word, sel_word, hc i, ha0 i, ha1 i, hr0 i, hr1 i, fun s => hx s j, neg_inf, exp2_def]
    by_cases h : (j : ℕ) < 64
    · simp only [h, if_true, mul_zero, Finset.sum_const_zero, add_zero]
    · simp only [h, if_false, mul_zero, Finset.sum_const_zero, zero_add]
  · have hj := j.isLt
    pointwise [resV, scoreV, bscV, pairRhs, k0_pay15, k0_pay14]
    simp only [low_word _ hj, sel_word, hb i, he0 i, he1 i, fun s => hx s j]
    by_cases h : (j : ℕ) < 64
    · simp only [h, if_true, mul_zero, Finset.sum_const_zero, add_zero]
    · simp only [h, if_false, mul_zero, Finset.sum_const_zero, zero_add]

theorem decay_rd {a0 a1 : FVec Ideal S128x128 .f32} {f g : ℕ → ℕ → EReal} (h0 : Rd a0 f) (h1 : Rd a1 g) :
    Rd (decayV a0 a1) fun i j => Ideal.exp2 (if j < 64 then f i j else g i j) := by
  intro i j
  have hj := j.isLt
  pointwise [decayV, k0_pay15]
  simp only [low_word _ hj, sel_word, h0 i j, h1 i j, exp2_def]
  split <;> rfl

theorem acsB_rd {a : FVec Ideal S128x128 .f32} {f : ℕ → ℕ → EReal} (ha : Rd a f) (o : ℕ) (h) : Rd (acsB a o h) fun i _ => f i o := by
  intro i j
  pointwise [acsB]
  exact ha i ⟨o, _⟩

theorem rowB_rd {a : FVec Ideal S128x128 .f32} {f : ℕ → ℕ → EReal} (ha : Rd a f) (o : ℕ) (h) : Rd (rowB a o h) fun _ j => f o j := by
  intro i j
  pointwise [rowB]
  exact ha ⟨o, _⟩ j

theorem t_rd {a : FVec Ideal S128x128 .f32} {f : ℕ → ℕ → EReal} (ha : Rd a f) : Rd (tV a) fun i j => f j i := by
  intro i j
  pointwise [tV]
  exact ha j i

theorem cat_rd {a b : FVec Ideal S128x128 .f32} {f : ℕ → ℕ → EReal} (ha : Rd a f) (hb : Rd b fun i j => f i (128 + j)) : Rd (catV a b) f := by
  intro i j
  pointwise [catV]
  split
  · exact ha i ⟨j, _⟩
  · rw [hb i ⟨j - 128, _⟩]
    show f i (128 + ((j : ℕ) - 128)) = f i j
    congr 1; omega

theorem group_rd {y z x : FVec Ideal S128x256 .f32} {d w : FVec Ideal S1x256 .f32} {fy fz fx fd fw : ℕ → ℕ → EReal} (hy : Rd y fy) (hz : Rd z fz) (hd : Rd d fd)
    (hx : Rd x fx) (hw : Rd w fw) : Rd (groupV y z d x w) fun i j => (fy i j + fd 0 j * fx i j) * silu (fz i j)
      * Ideal.rsqrt (Ideal.div (∑ k : Fin 256, ((fy i k + fd 0 k * fx i k) * silu (fz i k)) * ((fy i k + fd 0 k * fx i k) * silu (fz i k))) n256 + eps) * fw 0 j := by
  intro i j
  pointwise [groupV]
  simp only [hy i, hz i, hd 0, hx i, hw 0, named_neg_log2e, exp2_def, silu_eq]
  rfl

theorem x1_rd {m : FVec Ideal S256x1024 .bf16} {w : FVec Ideal S1024x1024 .bf16} {x : FVec Ideal S256x1024 .f32} {n : FVec Ideal S1x1024 .f32}
    {fm fw fx fn : ℕ → ℕ → EReal} (hm : Rd m fm) (hw : Rd w fw) (hx : Rd x fx) (hn : Rd n fn) :
    Rd (x1V m w x n) fun i j => fx i j + rmsF (fun k => ∑ l : Fin 1024, fm i l * fw l k) (fn 0) j := by
  intro i j
  pointwise [x1V, rmsV]
  have hw' : ∀ l k : Fin 1024, w (ix2 l k) = fw l k := hw
  simp only [hm i, hx i, hn 0, hw']
  rfl

theorem h2_rd {x : FVec Ideal S256x1024 .f32} {n : FVec Ideal S1x1024 .f32} {fx fn : ℕ → ℕ → EReal} (hx : Rd x fx) (hn : Rd n fn) :
    Rd (h2V x n) fun i j => rmsF (fx i) (fn 0) j := by
  intro i j
  pointwise [h2V, rmsV]
  simp only [hx i, hn 0]
  rfl

theorem up_rd {a b : FVec Ideal S256x1024 .bf16} {w : FVec Ideal S1024x512 .bf16} {f fw : ℕ → ℕ → EReal} (ha : Rd a f) (hb : Rd b fun i j => f (256 + i) j)
    (hw : Rd w fw) : Rd (upV a b w) fun i j => max (∑ k : Fin 1024, f i k * fw k j) 0 * max (∑ k : Fin 1024, f i k * fw k j) 0 := by
  intro i j
  have e : ∀ k : Fin 1024, (if h : (i : ℕ) < 256 then a (ix2 ⟨i, h⟩ k) else b (ix2 ⟨i - 256, by omega⟩ k)) = f i k := by
    intro k
    split
    · exact ha ⟨i, _⟩ k
    · rw [hb ⟨i - 256, _⟩ k]
      show f (256 + ((i : ℕ) - 256)) k = f i k
      congr 1; omega
  pointwise [upV]
  simp only [e, fun k => hw k j]

end Cert.KernelIdeal.Tiles
-- ==== Proof.Loads.lean ====
/-
  What a buffer holds after a list of stores, read region by region, and what a load from it then reads.
-/
module

public import proofs.«01_k».proof.Proof.Reads
public import Idealize.ShloMosaic.Lib.WritesUnit

@[expose] public section

noncomputable section

namespace Cert.KernelIdeal.Tiles

open Idealize.ShloMosaic Idealize.SL.Sem Cert.KernelIdeal Cert.KernelIdeal.Gen Cert.Layer

local notation "EI" => Elt Ideal

/-- A matrix holds a function of its coordinates on a region. -/
def On {α : Type} {a b : ℕ} (X : (⟨2, ![a, b]⟩ : Shape).Idx → α) (P : ℕ → ℕ → Prop) (f : ℕ → ℕ → α) : Prop :=
  ∀ (i : Fin a) (j : Fin b), P i j → X (ix2 i j) = f i j

/-- A stack of matrices holds a function of its coordinates on a region. -/
def On3 {α : Type} {a b c : ℕ} (X : (⟨3, ![a, b, c]⟩ : Shape).Idx → α) (P : ℕ → ℕ → ℕ → Prop) (f : ℕ → ℕ → ℕ → α) : Prop :=
  ∀ (i : Fin a) (j : Fin b) (k : Fin c), P i j k → X (ix3 i j k) = f i j k

/-- A whole value of rank three. -/
def Rd3 {a b c : ℕ} (X : (⟨3, ![a, b, c]⟩ : Shape).Idx → EReal) (f : ℕ → ℕ → ℕ → EReal) : Prop :=
  ∀ (i : Fin a) (j : Fin b) (k : Fin c), X (ix3 i j k) = f i j k

/-- A box of rows and columns. -/
def Box (r n c k i j : ℕ) : Prop := r ≤ i ∧ i < r + n ∧ c ≤ j ∧ j < c + k

/-- A box of three coordinates. -/
def Box3 (r n c k d l i j m : ℕ) : Prop := r ≤ i ∧ i < r + n ∧ c ≤ j ∧ j < c + k ∧ d ≤ m ∧ m < d + l

theorem On.congr {α : Type} {a b : ℕ} {X : (⟨2, ![a, b]⟩ : Shape).Idx → α} {P : ℕ → ℕ → Prop} {f g : ℕ → ℕ → α} (h : On X P f)
    (e : ∀ i j, i < a → j < b → P i j → f i j = g i j) : On X P g := fun i j p => (h i j p).trans (e i j i.isLt j.isLt p)

theorem Rd.congr {a b : ℕ} {X : (⟨2, ![a, b]⟩ : Shape).Idx → EReal} {f g : ℕ → ℕ → EReal} (h : Rd X f)
    (e : ∀ i j, i < a → j < b → f i j = g i j) : Rd X g := fun i j => (h i j).trans (e i j i.isLt j.isLt)

theorem On.mono {α : Type} {a b : ℕ} {X : (⟨2, ![a, b]⟩ : Shape).Idx → α} {P Q : ℕ → ℕ → Prop} {f : ℕ → ℕ → α} (h : On X P f)
    (e : ∀ i j, i < a → j < b → Q i j → P i j) : On X Q f := fun i j q => h i j (e i j i.isLt j.isLt q)

theorem Rd.on {a b : ℕ} {X : (⟨2, ![a, b]⟩ : Shape).Idx → EReal} {P : ℕ → ℕ → Prop} {f : ℕ → ℕ → EReal} (h : Rd X f) : On X P f := fun i j _ => h i j

theorem On.none {α : Type} {a b : ℕ} {X : (⟨2, ![a, b]⟩ : Shape).Idx → α} {P : ℕ → ℕ → Prop} {f : ℕ → ℕ → α}
    (e : ∀ i j, i < a → j < b → ¬ P i j) : On X P f := fun i j p => absurd p (e i j i.isLt j.isLt)

theorem On3.none {α : Type} {a b c : ℕ} {X : (⟨3, ![a, b, c]⟩ : Shape).Idx → α} {P : ℕ → ℕ → ℕ → Prop} {f : ℕ → ℕ → ℕ → α}
    (e : ∀ i j k, i < a → j < b → k < c → ¬ P i j k) : On3 X P f := fun i j k p => absurd p (e i j k i.isLt j.isLt k.isLt)

theorem On3.mono {α : Type} {a b c : ℕ} {X : (⟨3, ![a, b, c]⟩ : Shape).Idx → α} {P Q : ℕ → ℕ → ℕ → Prop} {f : ℕ → ℕ → ℕ → α} (h : On3 X P f)
    (e : ∀ i j k, i < a → j < b → k < c → Q i j k → P i j k) : On3 X Q f := fun i j k q => h i j k (e i j k i.isLt j.isLt k.isLt q)

theorem nil_on {sp : Space} {a b : ℕ} {e : EltTy} {v : View sig .tc sp (⟨2, ![a, b]⟩ : Shape) e} {f : v.ty.Contents EI} {P : ℕ → ℕ → Prop} {g : ℕ → ℕ → EI e}
    (h : On (v.read EI f) P g) : On (v.read EI (v.writes EI f [])) P g := h

section Two
variable {sp : Space} {a b : ℕ} {e : EltTy} (v : View sig .tc sp (⟨2, ![a, b]⟩ : Shape) e) (f : v.ty.Contents EI)

theorem cons_on {o1 o2 n1 n2 : ℕ} {h} {w : (⟨2, ![n1, n2]⟩ : Shape).Idx → EI e} {L : List (View.Piece EI (⟨2, ![a, b]⟩ : Shape) e)}
    {P : ℕ → ℕ → Prop} {g : ℕ → ℕ → EI e} (hw : ∀ (i : Fin n1) (j : Fin n2), w (ix2 i j) = g (o1 + i) (o2 + j))
    (hL : On (v.read EI (v.writes EI f L)) (fun i j => P i j ∧ ¬ Box o1 n1 o2 n2 i j) g) :
    On (v.read EI (v.writes EI f (⟨Rect.unit (s := ⟨2, ![a, b]⟩) ![o1, o2] ![n1, n2] h, w⟩ :: L))) P g := by
  intro i j p
  by_cases hb : Box o1 n1 o2 n2 i j
  · have hb' := hb
    unfold Box at hb'
    rw [View.read_writes_cons_unit_of_mem (off' := ![o1, o2]) v f h w L (ix2 i j) (ix2 (⟨i - o1, by omega⟩ : Fin n1) (⟨j - o2, by omega⟩ : Fin n2)) rfl
      (by intro x; fin_cases x
          · show (i : ℕ) = o1 + (i - o1); omega
          · show (j : ℕ) = o2 + (j - o2); omega)]
    rw [hw]
    show g (o1 + (i - o1)) (o2 + (j - o2)) = g i j
    congr 1 <;> omega
  · have : v.read EI (v.writes EI f (⟨Rect.unit (s := ⟨2, ![a, b]⟩) ![o1, o2] ![n1, n2] h, w⟩ :: L)) (ix2 i j) = v.read EI (v.writes EI f L) (ix2 i j) := by
      unfold Box at hb
      by_cases h1 : o1 ≤ (i : ℕ) ∧ (i : ℕ) < o1 + n1
      · refine View.read_writes_cons_unit_of_not_mem (off' := ![o1, o2]) v f h w L (ix2 i j) rfl 1 ?_
        show (j : ℕ) < o2 ∨ o2 + n2 ≤ (j : ℕ); omega
      · refine View.read_writes_cons_unit_of_not_mem (off' := ![o1, o2]) v f h w L (ix2 i j) rfl 0 ?_
        show (i : ℕ) < o1 ∨ o1 + n1 ≤ (i : ℕ); omega
    rw [this]
    exact hL i j ⟨p, hb⟩

theorem skip_on {o1 o2 n1 n2 : ℕ} {h} {w : (⟨2, ![n1, n2]⟩ : Shape).Idx → EI e} {L : List (View.Piece EI (⟨2, ![a, b]⟩ : Shape) e)}
    {P : ℕ → ℕ → Prop} {g : ℕ → ℕ → EI e} (hd : ∀ i j, i < a → j < b → P i j → ¬ Box o1 n1 o2 n2 i j)
    (hL : On (v.read EI (v.writes EI f L)) P g) :
    On (v.read EI (v.writes EI f (⟨Rect.unit (s := ⟨2, ![a, b]⟩) ![o1, o2] ![n1, n2] h, w⟩ :: L))) P g := by
  intro i j p
  have hb := hd i j i.isLt j.isLt p
  unfold Box at hb
  have : v.read EI (v.writes EI f (⟨Rect.unit (s := ⟨2, ![a, b]⟩) ![o1, o2] ![n1, n2] h, w⟩ :: L)) (ix2 i j) = v.read EI (v.writes EI f L) (ix2 i j) := by
    by_cases h1 : o1 ≤ (i : ℕ) ∧ (i : ℕ) < o1 + n1
    · refine View.read_writes_cons_unit_of_not_mem (off' := ![o1, o2]) v f h w L (ix2 i j) rfl 1 ?_
      show (j : ℕ) < o2 ∨ o2 + n2 ≤ (j : ℕ); omega
    · refine View.read_writes_cons_unit_of_not_mem (off' := ![o1, o2]) v f h w L (ix2 i j) rfl 0 ?_
      show (i : ℕ) < o1 ∨ o1 + n1 ≤ (i : ℕ); omega
  rw [this]
  exact hL i j p

/-- What a load reads: what the contents hold on the rectangle, seen from its corner. -/
theorem ld_rd {o1 o2 n1 n2 : ℕ} {h} {P : ℕ → ℕ → Prop} {g : ℕ → ℕ → EI e} (hL : On (v.read EI f) P g)
    (hP : ∀ i j, Box o1 n1 o2 n2 i j → P i j) (i : Fin n1) (j : Fin n2) :
    v.readAt EI (Rect.unit (s := ⟨2, ![a, b]⟩) ![o1, o2] ![n1, n2] h).toLoadRect f (ix2 i j) = g (o1 + i) (o2 + j) := by
  have h0 : o1 + n1 ≤ a := h 0
  have h1 : o2 + n2 ≤ b := h 1
  have := hL (⟨o1 + i, by omega⟩ : Fin a) (⟨o2 + j, by omega⟩ : Fin b) (hP _ _ ⟨by simp, by simp, by simp, by simp⟩)
  rw [← this, View.readAt_eq_ld]
  show v.read EI f _ = v.read EI f _
  congr 1
  funext x
  fin_cases x <;> (apply Fin.ext; simp [Rect.unit, Rect.toLoadRect, LoadRect.idx, ix2])

/-- The same where the contents are a list of stores over nothing. -/
theorem cov_rd {o1 o2 n1 n2 : ℕ} {h} {L : List (View.Piece EI (⟨2, ![a, b]⟩ : Shape) e)} {P : ℕ → ℕ → Prop} {g : ℕ → ℕ → EI e}
    (hL : On (v.read EI (v.writes EI v.junk L)) P g)
    (hP : ∀ i j, Box o1 n1 o2 n2 i j → P i j) (i : Fin n1) (j : Fin n2) :
    v.readCov L (Rect.unit (s := ⟨2, ![a, b]⟩) ![o1, o2] ![n1, n2] h).toLoadRect (ix2 i j) = g (o1 + i) (o2 + j) :=
  ld_rd v _ hL hP i j

end Two

section Typed
variable {sp : Space} {a b : ℕ}

/-- `cons_on` for words read as extended reals. -/
theorem cons_w {v : View sig .tc sp (⟨2, ![a, b]⟩ : Shape) .f32} {f : v.ty.Contents EI} {o1 o2 n1 n2 : ℕ} {h} {w : (⟨2, ![n1, n2]⟩ : Shape).Idx → EReal}
    {L : List (View.Piece EI (⟨2, ![a, b]⟩ : Shape) .f32)} {P : ℕ → ℕ → Prop} {g : ℕ → ℕ → EReal} (hw : Rd w fun i j => g (o1 + i) (o2 + j))
    (hL : On (α := EReal) (v.read EI (v.writes EI f L)) (fun i j => P i j ∧ ¬ Box o1 n1 o2 n2 i j) g) :
    On (α := EReal) (v.read EI (v.writes EI f (⟨Rect.unit (s := ⟨2, ![a, b]⟩) ![o1, o2] ![n1, n2] h, w⟩ :: L))) P g := cons_on v f hw hL

/-- The same for a bf16 buffer. -/
theorem cons_h {v : View sig .tc sp (⟨2, ![a, b]⟩ : Shape) .bf16} {f : v.ty.Contents EI} {o1 o2 n1 n2 : ℕ} {h} {w : (⟨2, ![n1, n2]⟩ : Shape).Idx → EReal}
    {L : List (View.Piece EI (⟨2, ![a, b]⟩ : Shape) .bf16)} {P : ℕ → ℕ → Prop} {g : ℕ → ℕ → EReal} (hw : Rd w fun i j => g (o1 + i) (o2 + j))
    (hL : On (α := EReal) (v.read EI (v.writes EI f L)) (fun i j => P i j ∧ ¬ Box o1 n1 o2 n2 i j) g) :
    On (α := EReal) (v.read EI (v.writes EI f (⟨Rect.unit (s := ⟨2, ![a, b]⟩) ![o1, o2] ![n1, n2] h, w⟩ :: L))) P g := cons_on v f hw hL

end Typed

section Three
variable {sp : Space} {a b c : ℕ} {e : EltTy} (v : View sig .tc sp (⟨3, ![a, b, c]⟩ : Shape) e) (f : v.ty.Contents EI)

theorem off3 {o1 o2 o3 n1 n2 n3 : ℕ} {h} {w : (⟨3, ![n1, n2, n3]⟩ : Shape).Idx → EI e} {L : List (View.Piece EI (⟨3, ![a, b, c]⟩ : Shape) e)}
    (i : Fin a) (j : Fin b) (k : Fin c) (hb : ¬ Box3 o1 n1 o2 n2 o3 n3 i j k) :
    v.read EI (v.writes EI f (⟨Rect.unit (s := ⟨3, ![a, b, c]⟩) ![o1, o2, o3] ![n1, n2, n3] h, w⟩ :: L)) (ix3 i j k) = v.read EI (v.writes EI f L) (ix3 i j k) := by
  unfold Box3 at hb
  by_cases h1 : o1 ≤ (i : ℕ) ∧ (i : ℕ) < o1 + n1
  · by_cases h2 : o2 ≤ (j : ℕ) ∧ (j : ℕ) < o2 + n2
    · refine View.read_writes_cons_unit_of_not_mem (off' := ![o1, o2, o3]) v f h w L (ix3 i j k) rfl 2 ?_
      show (k : ℕ) < o3 ∨ o3 + n3 ≤ (k : ℕ); omega
    · refine View.read_writes_cons_unit_of_not_mem (off' := ![o1, o2, o3]) v f h w L (ix3 i j k) rfl 1 ?_
      show (j : ℕ) < o2 ∨ o2 + n2 ≤ (j : ℕ); omega
  · refine View.read_writes_cons_unit_of_not_mem (off' := ![o1, o2, o3]) v f h w L (ix3 i j k) rfl 0 ?_
    show (i : ℕ) < o1 ∨ o1 + n1 ≤ (i : ℕ); omega

theorem cons_on3 {o1 o2 o3 n1 n2 n3 : ℕ} {h} {w : (⟨3, ![n1, n2, n3]⟩ : Shape).Idx → EI e} {L : List (View.Piece EI (⟨3, ![a, b, c]⟩ : Shape) e)}
    {P : ℕ → ℕ → ℕ → Prop} {g : ℕ → ℕ → ℕ → EI e} (hw : ∀ (i : Fin n1) (j : Fin n2) (k : Fin n3), w (ix3 i j k) = g (o1 + i) (o2 + j) (o3 + k))
    (hL : On3 (v.read EI (v.writes EI f L)) (fun i j k => P i j k ∧ ¬ Box3 o1 n1 o2 n2 o3 n3 i j k) g) :
    On3 (v.read EI (v.writes EI f (⟨Rect.unit (s := ⟨3, ![a, b, c]⟩) ![o1, o2, o3] ![n1, n2, n3] h, w⟩ :: L))) P g := by
  intro i j k p
  by_cases hb : Box3 o1 n1 o2 n2 o3 n3 i j k
  · have hb' := hb
    unfold Box3 at hb'
    rw [View.read_writes_cons_unit_of_mem (off' := ![o1, o2, o3]) v f h w L (ix3 i j k)
      (ix3 (⟨i - o1, by omega⟩ : Fin n1) (⟨j - o2, by omega⟩ : Fin n2) (⟨k - o3, by omega⟩ : Fin n3)) rfl
      (by intro x; fin_cases x
          · show (i : ℕ) = o1 + (i - o1); omega
          · show (j : ℕ) = o2 + (j - o2); omega
          · show (k : ℕ) = o3 + (k - o3); omega)]
    rw [hw]
    show g (o1 + (i - o1)) (o2 + (j - o2)) (o3 + (k - o3)) = g i j k
    congr 1 <;> omega
  · rw [off3 v f i j k hb]
    exact hL i j k ⟨p, hb⟩

theorem skip_on3 {o1 o2 o3 n1 n2 n3 : ℕ} {h} {w : (⟨3, ![n1, n2, n3]⟩ : Shape).Idx → EI e} {L : List (View.Piece EI (⟨3, ![a, b, c]⟩ : Shape) e)}
    {P : ℕ → ℕ → ℕ → Prop} {g : ℕ → ℕ → ℕ → EI e} (hd : ∀ i j k, i < a → j < b → k < c → P i j k → ¬ Box3 o1 n1 o2 n2 o3 n3 i j k)
    (hL : On3 (v.read EI (v.writes EI f L)) P g) :
    On3 (v.read EI (v.writes EI f (⟨Rect.unit (s := ⟨3, ![a, b, c]⟩) ![o1, o2, o3] ![n1, n2, n3] h, w⟩ :: L))) P g := by
  intro i j k p
  rw [off3 v f i j k (hd i j k i.isLt j.isLt k.isLt p)]
  exact hL i j k p

theorem ld_rd3 {o1 o2 o3 n1 n2 n3 : ℕ} {h} {P : ℕ → ℕ → ℕ → Prop} {g : ℕ → ℕ → ℕ → EI e} (hL : On3 (v.read EI f) P g)
    (hP : ∀ i j k, Box3 o1 n1 o2 n2 o3 n3 i j k → P i j k) (i : Fin n1) (j : Fin n2) (k : Fin n3) :
    v.readAt EI (Rect.unit (s := ⟨3, ![a, b, c]⟩) ![o1, o2, o3] ![n1, n2, n3] h).toLoadRect f (ix3 i j k) = g (o1 + i) (o2 + j) (o3 + k) := by
  have h0 : o1 + n1 ≤ a := h 0
  have h1 : o2 + n2 ≤ b := h 1
  have h2 : o3 + n3 ≤ c := h 2
  have := hL (⟨o1 + i, by omega⟩ : Fin a) (⟨o2 + j, by omega⟩ : Fin b) (⟨o3 + k, by omega⟩ : Fin c)
    (hP _ _ _ ⟨by simp, by simp, by simp, by simp, by simp, by simp⟩)
  rw [← this, View.readAt_eq_ld]
  show v.read EI f _ = v.read EI f _
  congr 1
  funext x
  fin_cases x <;> (apply Fin.ext; simp [Rect.unit, Rect.toLoadRect, LoadRect.idx, ix3])

theorem cov_rd3 {o1 o2 o3 n1 n2 n3 : ℕ} {h} {L : List (View.Piece EI (⟨3, ![a, b, c]⟩ : Shape) e)} {P : ℕ → ℕ → ℕ → Prop} {g : ℕ → ℕ → ℕ → EI e}
    (hL : On3 (v.read EI (v.writes EI v.junk L)) P g)
    (hP : ∀ i j k, Box3 o1 n1 o2 n2 o3 n3 i j k → P i j k) (i : Fin n1) (j : Fin n2) (k : Fin n3) :
    v.readCov L (Rect.unit (s := ⟨3, ![a, b, c]⟩) ![o1, o2, o3] ![n1, n2, n3] h).toLoadRect (ix3 i j k) = g (o1 + i) (o2 + j) (o3 + k) :=
  ld_rd3 v _ hL hP i j k

end Three

theorem cons_w3 {sp : Space} {a b c : ℕ} {v : View sig .tc sp (⟨3, ![a, b, c]⟩ : Shape) .f32} {f : v.ty.Contents EI} {o1 o2 o3 n1 n2 n3 : ℕ} {h} {w : (⟨3, ![n1, n2, n3]⟩ : Shape).Idx → EReal}
    {L : List (View.Piece EI (⟨3, ![a, b, c]⟩ : Shape) .f32)} {P : ℕ → ℕ → ℕ → Prop} {g : ℕ → ℕ → ℕ → EReal} (hw : Rd3 w fun i j k => g (o1 + i) (o2 + j) (o3 + k))
    (hL : On3 (α := EReal) (v.read EI (v.writes EI f L)) (fun i j k => P i j k ∧ ¬ Box3 o1 n1 o2 n2 o3 n3 i j k) g) :
    On3 (α := EReal) (v.read EI (v.writes EI f (⟨Rect.unit (s := ⟨3, ![a, b, c]⟩) ![o1, o2, o3] ![n1, n2, n3] h, w⟩ :: L))) P g := cons_on3 v f hw hL

end Cert.KernelIdeal.Tiles
-- ==== Proof.StagesA.lean ====
/-
  The projections, the gated part, the convolution and the feed-forward part, each step from what its operands hold of
  the layer to what it computes of the layer, at any offset in a block.
-/
module

public import proofs.«01_k».proof.Proof.Loads

@[expose] public section

set_option maxRecDepth 16384

noncomputable section

namespace Cert.KernelIdeal.Tiles

open Idealize.ShloMosaic Idealize.SL.Sem Cert.KernelIdeal Cert.KernelIdeal.Gen Cert.Layer

variable {I : Inp}

/-- The padded projection of the step sizes. -/
def dtr (I : Inp) (ρ j : ℕ) : EReal := if j < 8 then proj I ρ (2560 + j) else 0
/-- The padded weight of the step sizes. -/
def wdt (I : Inp) (k j : ℕ) : EReal := if j < 8 then I.win k (2560 + j) else 0
/-- The rows a block's convolution reads: eight before it, zero before the sequence, then its own. -/
def xpB (I : Inp) (R r j : ℕ) : EReal := if R % 2048 + r < 8 then 0 else proj I (R + r - 8) (1536 + j)
/-- The masked mixing weights, two heads side by side. -/
def wcB (I : Inp) (p i s : ℕ) : EReal := if s % 128 ≤ i then I.ws (2 * p + s / 128) i (s % 128) else 0

theorem hn_sp {x : FVec Ideal S256x1024 .f32} {w : FVec Ideal S1x1024 .f32} {R o : ℕ} (hx : Rd x fun i j => I.x (R + (o + i)) (0 + j))
    (hw : Rd w fun i j => I.nmix (0 + j)) : Rd (hnV x w) fun i j => rmsF (I.x (R + (o + i))) I.nmix j := by
  have := hn_rd hx hw
  simpa only [Nat.zero_add] using this

theorem proj_sp {h : FVec Ideal S256x1024 .bf16} {w : FVec Ideal S1024x512 .bf16} {R o c : ℕ} (hh : Rd h fun i j => rmsF (I.x (R + (o + i))) I.nmix j)
    (hw : Rd w fun i j => I.win (0 + i) (c + j)) : Rd (projV h w) fun i j => proj I (R + (o + i)) (c + j) := by
  have := proj_rd hh hw
  simp only [Nat.zero_add] at this
  exact this

theorem dtraw_sp {h : FVec Ideal S256x1024 .bf16} {w : FVec Ideal S1024x128 .bf16} {R o : ℕ} (hh : Rd h fun i j => rmsF (I.x (R + (o + i))) I.nmix j)
    (hw : Rd w fun i j => wdt I (0 + i) (0 + j)) : Rd (dtrawV h w) fun i j => dtr I (R + (o + i)) (0 + j) := by
  refine (dtraw_rd hh hw).congr fun i j hi hj => ?_
  simp only [Nat.zero_add, wdt, dtr]
  split
  · rfl
  · simp

/-! ## The gated part -/

theorem sub_rd {x y : FVec Ideal S128x512 .f32} {f g : ℕ → ℕ → EReal} (hx : Rd x f) (hy : Rd y g) : Rd (subf x y) fun i j => f i j - g i j := by
  intro i j
  pointwise []
  rw [hx i j, hy i j]

theorem sq_rd {x y : FVec Ideal S128x512 .f32} {f g : ℕ → ℕ → EReal} (hx : Rd x f) (hy : Rd y g) : Rd (mulf x y) fun i j => f i j * g i j := by
  intro i j
  pointwise []
  rw [hx i j, hy i j]

theorem slice_rd {x : FVec Ideal S128x512 .f32} {f : ℕ → ℕ → EReal} (hx : Rd x f) {o : ℕ} {h : S128x512.Slices ![0, o] S128x128} :
    Rd (extractStridedSlice S128x128 ![0, o] x h) fun i j => f i (o + j) := by
  intro i j
  pointwise []
  have := h
  rw [← hx i ⟨o + j, by have := h.2 1; simp at this; have := j.isLt; omega⟩]

theorem vn_sp {v : FVec Ideal S128x512 .f32} {m m' : FVec Ideal S256x256 .bf16} {w b : FVec Ideal S1x512 .f32} {R o : ℕ}
    (hv : Rd v fun i j => proj I (R + (o + i)) (512 + j))
    (hm : Rd m fun i j => if (0 + i) / 64 = (0 + j) / 64 then ((1 / 64 : ℝ) : EReal) else 0)
    (hm' : Rd m' fun i j => if (0 + i) / 64 = (0 + j) / 64 then ((1 / 64 : ℝ) : EReal) else 0)
    (hw : Rd w fun i j => I.lnw (0 + j)) (hb : Rd b fun i j => I.lnb (0 + j)) :
    Rd (vnV (subf (geluV _ v) (headMean (geluV _ v) m))
      (headMean (mulf (subf (geluV _ v) (headMean (geluV _ v) m)) (subf (geluV _ v) (headMean (geluV _ v) m))) m') w b)
      fun i j => vn I (R + (o + i)) j := by
  simp only [Nat.zero_add] at hm hm' hw hb
  have hg := gelu_rd hv
  have hd := sub_rd hg (headMean_rd hg hm)
  exact vn_rd hd (headMean_rd (sq_rd hd hd) hm') hw hb

theorem mix_sp {v : FVec Ideal S128x512 .f32} {u b : FVec Ideal S128x128 .f32} {w : FVec Ideal S1x128x256 .bf16} {R o c : ℕ} (hC : (R + o) % 128 = 0)
    (hc : c + 128 ≤ 512) (hc' : c % 128 = 0)
    {h : S128x512.Slices ![0, c] S128x128} (hv : Rd v fun i j => vn I (R + (o + i)) j)
    (hw : ∀ (i : Fin 1) (j : Fin 128) (k : Fin 256), w (ix3 i j k) = wcB I (c / 128 + i) (0 + j) (0 + k))
    (hb : Rd b fun i j => I.bs ((c + j) / 64) (0 + i)) (hu : Rd u fun i j => proj I (R + (o + i)) (c + j)) :
    Rd (mixV (extractStridedSlice S128x128 ![0, c] v h) w b u) fun i j => mix I (R + (o + i)) (c + j) := by
  refine (mix_rd (fw := fun h i s => if s ≤ i then I.ws (2 * (c / 128) + h) i s else 0) (slice_rd hv) ?_ hb hu).congr ?_
  · intro i s
    rw [hw 0 i s]
    simp [wcB]
  · intro i j hi hj
    have e1 : (R + (o + i)) % 128 = i := by omega
    have e2 : 128 * ((R + (o + i)) / 128) = R + o := by omega
    rw [mix, if_pos (by omega), gm, mixed, e1, e2, Nat.zero_add]
    congr 2
    · refine Finset.sum_congr rfl fun s _ => ?_
      rw [show 2 * (c / 128) + j / 64 = (c + j) / 64 by omega, show R + (o + (s : ℕ)) = R + o + s by omega]

/-! ## The convolution -/

theorem conv_sp {b w3 w2 w1 w0 : FVec Ideal S1x128 .f32} {x0 x1 x2 x3 : FVec Ideal S128x128 .f32} {R o c : ℕ} (hR : R % 512 = 0) (ho : o ≤ 384)
    (hb : Rd b fun i j => I.cb (c + j)) (h3 : Rd w3 fun i j => I.cw (3 + i) (c + j)) (k0 : Rd x0 fun i j => xpB I R (o + 8 + i) (c + j))
    (h2 : Rd w2 fun i j => I.cw (2 + i) (c + j)) (k1 : Rd x1 fun i j => xpB I R (o + 7 + i) (c + j))
    (h1 : Rd w1 fun i j => I.cw (1 + i) (c + j)) (k2 : Rd x2 fun i j => xpB I R (o + 6 + i) (c + j))
    (h0 : Rd w0 fun i j => I.cw (0 + i) (c + j)) (k3 : Rd x3 fun i j => xpB I R (o + 5 + i) (c + j)) :
    Rd (convV b w3 x0 w2 x1 w1 x2 w0 x3) fun i j => xc I (R + (o + i)) (c + j) := by
  refine (conv_rd hb h3 k0 h2 k1 h1 k2 h0 k3).congr fun i j hi hj => ?_
  have key : ∀ k p, k ≤ 3 → p + k = 8 → xpB I R (o + p + i) (c + j) = xb I (R + (o + i)) k (c + j) := by
    intro k p hk hp
    rw [xpB, xb]
    by_cases h : k ≤ (R + (o + i)) % 2048
    · rw [if_neg (by omega), if_pos h, show R + (o + p + i) - 8 = R + (o + i) - k by omega]
    · rw [if_pos (by omega), if_neg h]
  rw [xc, key 3 5 (by omega) rfl, key 2 6 (by omega) rfl, key 1 7 (by omega) rfl, key 0 8 (by omega) rfl]

/-! ## The output projection and the feed-forward part -/

theorem x1_sp {m : FVec Ideal S256x1024 .bf16} {w : FVec Ideal S1024x1024 .bf16} {x : FVec Ideal S256x1024 .f32} {n : FVec Ideal S1x1024 .f32} {R o : ℕ}
    (hm : Rd m fun i j => mix I (R + (o + i)) (0 + j)) (hw : Rd w fun i j => I.wout (0 + i) (0 + j)) (hx : Rd x fun i j => I.x (R + (o + i)) (0 + j))
    (hn : Rd n fun i j => I.npost (0 + j)) : Rd (x1V m w x n) fun i j => x1 I (R + (o + i)) j := by
  have := x1_rd hm hw hx hn
  simp only [Nat.zero_add] at this
  exact this

theorem h2_sp {x : FVec Ideal S256x1024 .f32} {n : FVec Ideal S1x1024 .f32} {R o : ℕ} (hx : Rd x fun i j => x1 I (R + (o + i)) j)
    (hn : Rd n fun i j => I.npre (0 + j)) : Rd (h2V x n) fun i j => rmsF (x1 I (R + (o + i))) I.npre j := by
  have := h2_rd hx hn
  simp only [Nat.zero_add] at this
  exact this

theorem up_sp {a b : FVec Ideal S256x1024 .bf16} {w : FVec Ideal S1024x512 .bf16} {R c : ℕ} (ha : Rd a fun i j => rmsF (x1 I (R + (0 + i))) I.npre j)
    (hb : Rd b fun i j => rmsF (x1 I (R + (256 + i))) I.npre j) (hw : Rd w fun i j => I.wup (0 + i) (c + j)) :
    Rd (upV a b w) fun i j => ff I (R + i) (c + j) := by
  simp only [Nat.zero_add] at ha hw
  exact up_rd (f := fun i j => rmsF (x1 I (R + i)) I.npre j) ha hb hw

/-- 512 rows of the down projection. -/
def downV {F : FTy → Type} [FloatOps F] [Named F] (u : FVec F S512x512 .bf16) (w : FVec F S512x1024 .bf16) : FVec F S512x1024 .f32 :=
  matmul dot_S512x512_S512x1024_S512x1024_1_0_0_1_n_n none u (shapeCast S512x1024 w shapeCasts_S512x1024_S512x1024) (constant S512x1024 .f32 0x00000000#32)

theorem down_rd {u : FVec Ideal S512x512 .bf16} {w : FVec Ideal S512x1024 .bf16} {f g : ℕ → ℕ → EReal} (hu : Rd u f) (hw : Rd w g) :
    Rd (downV u w) fun i j => ∑ k : Fin 512, f i k * g k j := by
  intro i j
  pointwise [downV]
  simp only [hu i, fun k => hw k j]

/-- The down projection's partial sum. -/
def dnP (I : Inp) (c ρ j : ℕ) : EReal := ∑ m ∈ Finset.range c, ff I ρ m * I.wdown m j

theorem down_sp {u : FVec Ideal S512x512 .bf16} {w : FVec Ideal S512x1024 .bf16} {R : ℕ} (hu : Rd u fun i j => ff I (R + i) (0 + j))
    (hw : Rd w fun i j => I.wdown (0 + i) (0 + j)) : Rd (downV u w) fun i j => dnP I 512 (R + i) j := by
  refine (down_rd hu hw).congr fun i j _ _ => ?_
  simp only [Nat.zero_add, dnP]
  exact Fin.sum_univ_eq_sum_range (fun k => ff I (R + i) k * I.wdown k j) 512

theorem acc_sp {A : FVec Ideal S512x1024 .f32} {u : FVec Ideal S512x512 .bf16} {w : FVec Ideal S512x1024 .bf16} {R c : ℕ}
    (hA : Rd A fun i j => dnP I c (R + i) j) (hu : Rd u fun i j => ff I (R + i) (c + j)) (hw : Rd w fun i j => I.wdown (c + i) (0 + j)) :
    Rd (addf A (downV u w)) fun i j => dnP I (c + 512) (R + i) j := by
  intro i j
  have h := down_rd hu hw i j
  show A (ix2 i j) + downV u w (ix2 i j) = _
  rw [hA i j, h]
  simp only [Nat.zero_add, dnP, Finset.sum_range_add]
  rw [Fin.sum_univ_eq_sum_range (fun k => ff I (R + i) (c + k) * I.wdown (c + k) j) 512]

theorem dnP_all (ρ j : ℕ) : dnP I 4096 ρ j = dn I ρ j :=
  (Fin.sum_univ_eq_sum_range (fun m => ff I ρ m * I.wdown m j) 4096).symm

/-- The last norm and sum. -/
def outV {F : FTy → Type} [FloatOps F] [Named F] (x d : FVec F S256x1024 .f32) (n : FVec F S1x1024 .f32) : FVec F S256x1024 .f32 :=
  addf x (rmsV d (shapeCast S1x1024 n shapeCasts_S1x1024_S1x1024))

theorem pay429 (x A n) : k0_pay429 (F := Ideal) x A n = outV x (extractStridedSlice S256x1024 ![0, 0] A slices_S512x1024_o0_0_S256x1024) n := rfl

theorem outV_rd {x d : FVec Ideal S256x1024 .f32} {n : FVec Ideal S1x1024 .f32} {f g p : ℕ → ℕ → EReal} (hx : Rd x f) (hd : Rd d g) (hn : Rd n p) :
    Rd (outV x d n) fun i j => f i j + rmsF (g i) (p 0) j := by
  have hn' : Rd (shapeCast S1x1024 n shapeCasts_S1x1024_S1x1024) p := by
    intro i j
    pointwise []
    rw [Subsingleton.elim i 0]
    exact hn 0 j
  intro i j
  show x (ix2 i j) + rmsV d _ (ix2 i j) = _
  rw [hx i j, rms_rd hd hn' i j]

theorem half_rd {A : FVec Ideal S512x1024 .f32} {f : ℕ → ℕ → EReal} (hA : Rd A f) {o : ℕ} {h : S512x1024.Slices ![o, 0] S256x1024} :
    Rd (extractStridedSlice S256x1024 ![o, 0] A h) fun i j => f (o + i) j := by
  intro i j
  pointwise []
  rw [← hA ⟨o + i, by have := h.2 0; simp at this; have := i.isLt; omega⟩ j]

theorem out_sp {x : FVec Ideal S256x1024 .f32} {A : FVec Ideal S512x1024 .f32} {n : FVec Ideal S1x1024 .f32} {R o : ℕ} {h : S512x1024.Slices ![o, 0] S256x1024}
    (hx : Rd x fun i j => x1 I (R + (o + i)) j) (hA : Rd A fun i j => dnP I 4096 (R + i) j) (hn : Rd n fun i j => I.nffn (0 + j)) :
    Rd (outV x (extractStridedSlice S256x1024 ![o, 0] A h) n) fun i j => Cert.Layer.out I (R + (o + i)) (0 + j) := by
  simp only [dnP_all] at hA
  have := outV_rd hx (half_rd hA (h := h)) hn
  simp only [Nat.zero_add] at this ⊢
  exact this

end Cert.KernelIdeal.Tiles
-- ==== Proof.StagesB.lean ====
/-
  The state-space part of a chunk, each step from what its operands hold of the layer to what it computes of the layer.
-/
module

public import proofs.«01_k».proof.Proof.StagesA

@[expose] public section

set_option maxRecDepth 16384

noncomputable section

namespace Cert.KernelIdeal.Tiles

open Idealize.ShloMosaic Idealize.SL.Sem Cert.KernelIdeal Cert.KernelIdeal.Gen Cert.Layer

variable {I : Inp}

/-- The padded bias of the step sizes. -/
def dtbP (I : Inp) (j : ℕ) : EReal := if j < 8 then I.dtb j else 0
/-- The padded rates. -/
def aP (I : Inp) (j : ℕ) : EReal := if j < 8 then -(Ideal.exp (I.alog j)) else 0
/-- The step sizes of the chunk at row `C`. -/
def dtB (I : Inp) (C s h : ℕ) : EReal := if h < 8 then dt I (C + s) h else softplus 0
/-- The running sums of the chunk at row `C`, in powers of two. -/
def acB (I : Inp) (C s h : ℕ) : EReal := if h < 8 then acs I (C + s) h * (L2 : EReal) else 0
/-- The two tables of the chunk at row `C`. -/
def trB (I : Inp) (C h s : ℕ) : EReal :=
  if h < 8 then acB I C s h - Ideal.log (dtB I C s h) * (L2 : EReal)
  else dtB I C s ((h + 120) % 128) * Ideal.exp2 (acB I C 127 ((h + 120) % 128) - acB I C s ((h + 120) % 128))
/-- The output before the skip term. -/
def yyo (I : Inp) (ρ c : ℕ) : EReal := ydiag I ρ (c / 64) (c % 64) + yoff I ρ (c / 64) (c % 64)
/-- A group's state, heads side by side. -/
def stG (T : ℕ → ℕ → ℕ → EReal) (g n c : ℕ) : EReal := T (4 * g + c / 64) (c % 64) n

theorem dt_nonneg (ρ h : ℕ) : 0 ≤ dt I ρ h := softplus_nonneg _

theorem dta_nonpos (ρ h : ℕ) : dta I ρ h ≤ 0 :=
  mul_nonpos_of_nonneg_of_nonpos (dt_nonneg ρ h) (by rw [EReal.neg_le]; simpa using exp_nonneg _)

theorem acs_nonpos (ρ h : ℕ) : acs I ρ h ≤ 0 :=
  Finset.sum_nonpos fun s _ => by split; exacts [dta_nonpos _ _, le_rfl]

theorem acs_ne_top (ρ h : ℕ) : acs I ρ h ≠ ⊤ := (lt_of_le_of_lt (acs_nonpos ρ h) EReal.zero_lt_top).ne

theorem acs_anti {C s i : ℕ} (h : ℕ) (hC : C % 128 = 0) (hi : i < 128) (hs : s ≤ i) : acs I (C + i) h ≤ acs I (C + s) h := by
  rw [acs, acs, show (C + i) % 128 = i by omega, show (C + s) % 128 = s by omega, show 128 * ((C + i) / 128) = C by omega, show 128 * ((C + s) / 128) = C by omega]
  refine Finset.sum_le_sum fun t _ => ?_
  split <;> split
  · exact le_rfl
  · exact dta_nonpos _ _
  · omega
  · exact le_rfl

theorem dt_sp {x : FVec Ideal S128x128 .f32} {b : FVec Ideal S1x128 .f32} {R o : ℕ} (hx : Rd x fun i j => dtr I (R + (o + i)) (0 + j))
    (hb : Rd b fun i j => dtbP I (0 + j)) : Rd (dtV x b) (dtB I (R + o)) := by
  refine (dt_rd hx hb).congr fun i j _ _ => ?_
  simp only [Nat.zero_add, dtr, dtbP, dtB, dt, Nat.add_assoc]
  split
  · rfl
  · rw [add_zero]

theorem acs_sp {d : FVec Ideal S128x128 .f32} {a : FVec Ideal S1x128 .f32} {t : FVec Ideal S128x128 .bf16} {C : ℕ} (hC : C % 128 = 0)
    (hd : Rd d (dtB I C)) (ha : Rd a fun i j => aP I (0 + j)) (ht : Rd t fun i s => if 0 + s ≤ 0 + i then 1 else 0) :
    Rd (acsV (dtaV d a) t) (acB I C) := by
  simp only [Nat.zero_add] at ha ht
  have hL : (0 : EReal) ≤ (L2 : EReal) := by exact_mod_cast L2_pos.le
  have hdt : ∀ i j, 0 ≤ dtB I C i j := fun i j => by rw [dtB]; split; exacts [dt_nonneg _ _, softplus_nonneg _]
  have ha' : ∀ j, aP I j ≤ 0 := fun j => by rw [aP]; split; exacts [by rw [EReal.neg_le]; simpa using exp_nonneg _, le_rfl]
  refine (acs_rd (dta_rd hd ha) ht fun i j => mul_ne_top (hdt i j) (mul_nonpos_of_nonpos_of_nonneg (ha' j) hL)).congr fun i j hi hj => ?_
  rw [acB]
  split
  · next h =>
    rw [acs, show (C + i) % 128 = i by omega, show 128 * ((C + i) / 128) = C by omega, ← sum_scaled _ _ L2_pos.le]
    refine Finset.sum_congr rfl fun s _ => ?_
    split
    · rw [dtB, aP, if_pos h, if_pos h, dta, mul_assoc]
    · rw [zero_mul]
  · next h =>
    refine Finset.sum_eq_zero fun s _ => ?_
    split
    · rw [aP, if_neg h, zero_mul, mul_zero]
    · rfl

theorem tr_sp {d a : FVec Ideal S128x128 .f32} {C : ℕ} (hd : Rd d (dtB I C)) (ha : Rd a (acB I C)) : Rd (trV d a) (trB I C) := tr_rd hd ha

/-- A pair of heads `h0`, `h0 + 1` of the chunk at row `R + o`, group `h0 / 4`. -/
theorem res_sp {b c A Tr x : FVec Ideal S128x128 .f32} {R o h0 : ℕ} (hC : (R + o) % 128 = 0) (hh : h0 < 8) (he : h0 % 2 = 0)
    {q1 : S128x128.Slices ![0, h0] S128x1} {q2 : S128x128.Slices ![0, h0 + 1] S128x1} {q3 : S128x128.Slices ![h0, 0] S1x128}
    {q4 : S128x128.Slices ![h0 + 1, 0] S1x128} {q5 : S128x128.Slices ![h0 + 8, 0] S1x128} {q6 : S128x128.Slices ![h0 + 9, 0] S1x128}
    (hb : Rd b fun i j => xc I (R + (o + i)) (512 + 128 * (h0 / 4) + j)) (hc : Rd c fun i j => xc I (R + (o + i)) (768 + 128 * (h0 / 4) + j))
    (hA : Rd A (acB I (R + o))) (hT : Rd Tr (trB I (R + o))) (hx : Rd x fun i j => xc I (R + (o + i)) (64 * h0 + j)) (i j : Fin 128) :
    (resV (cbV b c) (tV b) (acsB A h0 q1) (acsB A (h0 + 1) q2) (rowB Tr h0 q3) (rowB Tr (h0 + 1) q4) (rowB Tr (h0 + 8) q5) (rowB Tr (h0 + 9) q6) x
        (ix2 (⟨i, by omega⟩ : Fin 256) j) = ydiag I (R + o + i) ((64 * h0 + j) / 64) ((64 * h0 + j) % 64))
    ∧ (resV (cbV b c) (tV b) (acsB A h0 q1) (acsB A (h0 + 1) q2) (rowB Tr h0 q3) (rowB Tr (h0 + 1) q4) (rowB Tr (h0 + 8) q5) (rowB Tr (h0 + 9) q6) x
        (ix2 (⟨128 + i, by omega⟩ : Fin 256) j)
      = ∑ s : Fin 128, bm I (R + o + s) ((64 * h0 + j) / 64) i * Ideal.exp (acs I (R + o + 127) ((64 * h0 + j) / 64) - acs I (R + o + s) ((64 * h0 + j) / 64))
          * xdt I (R + o + s) ((64 * h0 + j) / 64) ((64 * h0 + j) % 64)) := by
  have hi := i.isLt
  have hj := j.isLt
  have key := res_rd (cb_rd hb hc) (t_rd hb) (acsB_rd hA h0 q1) (acsB_rd hA (h0 + 1) q2) (rowB_rd hT h0 q3) (rowB_rd hT (h0 + 1) q4)
    (rowB_rd hT (h0 + 8) q5) (rowB_rd hT (h0 + 9) q6) hx i j
  set h := (64 * h0 + (j : ℕ)) / 64 with hdef
  have hh8 : h < 8 := by omega
  have hg : h / 4 = h0 / 4 := by omega
  have hp : 64 * h + (64 * h0 + (j : ℕ)) % 64 = 64 * h0 + j := by omega
  have hsel : ∀ f : ℕ → EReal, (if (j : ℕ) < 64 then f h0 else f (h0 + 1)) = f h := fun f => by
    split
    · rw [show h = h0 by omega]
    · rw [show h = h0 + 1 by omega]
  constructor
  · rw [key.1, ydiag, show (R + o + (i : ℕ)) % 128 = i by omega, show 128 * ((R + o + (i : ℕ)) / 128) = R + o by omega]
    refine Finset.sum_congr rfl fun s _ => ?_
    have e1 := hsel fun k => acB I (R + o) i k - trB I (R + o) k s
    rw [e1, cbm, xdt, hp]
    simp only [cm, bm, hg, Nat.add_assoc]
    by_cases hs : (s : ℕ) ≤ i
    · simp only [if_pos hs, trB, acB, dtB, if_pos hh8]
      rw [decay_step (dt_nonneg _ _) (acs_ne_top _ _) (acs_ne_top _ _) fun hbot => ?_]
      · simp only [Nat.add_assoc]
        ac_rfl
      · have := acs_anti (I := I) h hC hi hs
        rw [hbot] at this
        exact le_bot_iff.mp this
    · have : Ideal.exp2 (⊥ : EReal) = 0 := by simp
      have h' : Ideal.exp (⊥ : EReal) = 0 := by simp
      simp only [if_neg hs, this, h', mul_zero, zero_mul]
  · rw [key.2]
    refine Finset.sum_congr rfl fun s _ => ?_
    have t8 : ∀ k, k < 8 → trB I (R + o) (k + 8) s = dt I (R + o + s) k * Ideal.exp (acs I (R + o + 127) k - acs I (R + o + s) k) := fun k hk => by
      rw [trB, if_neg (by omega), show (k + 8 + 120) % 128 = k by omega]
      simp only [acB, dtB, if_pos hk]
      rw [exp2_sub_scaled]
    have e1 := hsel fun k => trB I (R + o) (k + 8) s
    rw [show h0 + 9 = h0 + 1 + 8 by omega, e1, t8 h hh8, xdt, hp, bm, hg]
    simp only [Nat.add_assoc]
    ac_rfl

theorem col_rd {x : FVec Ideal S128x256 .f32} {f : ℕ → ℕ → EReal} (hx : Rd x f) {o : ℕ} {h : S128x256.Slices ![0, o] S128x128} :
    Rd (extractStridedSlice S128x128 ![0, o] x h) fun i j => f i (o + j) := by
  intro i j
  pointwise []
  rw [← hx i ⟨o + j, by have := h.2 1; simp at this; have := j.isLt; omega⟩]

theorem dec_sp {A : FVec Ideal S128x128 .f32} {C h0 : ℕ} (hh : h0 < 8) (he : h0 % 2 = 0)
    {q1 : S128x128.Slices ![0, h0] S128x1} {q2 : S128x128.Slices ![0, h0 + 1] S128x1} (hA : Rd A (acB I C)) :
    Rd (decayV (acsB A h0 q1) (acsB A (h0 + 1) q2)) fun i j => Ideal.exp (acs I (C + i) ((64 * h0 + j) / 64)) := by
  refine (decay_rd (acsB_rd hA h0 q1) (acsB_rd hA (h0 + 1) q2)).congr fun i j hi hj => ?_
  rw [← exp2_scaled]
  split
  · rw [acB, if_pos hh, show (64 * h0 + j) / 64 = h0 by omega]
  · rw [acB, if_pos (by omega), show (64 * h0 + j) / 64 = h0 + 1 by omega]

theorem ytile_sp {b c A Tr x : FVec Ideal S128x128 .f32} {s : FVec Ideal S1x128x256 .f32} {R o h0 d : ℕ} (hC : (R + o) % 128 = 0) (hh : h0 < 8) (he : h0 % 2 = 0)
    (hd : d = 64 * (h0 % 4))
    {q1 q1' : S128x128.Slices ![0, h0] S128x1} {q2 q2' : S128x128.Slices ![0, h0 + 1] S128x1} {q3 : S128x128.Slices ![h0, 0] S1x128}
    {q4 : S128x128.Slices ![h0 + 1, 0] S1x128} {q5 : S128x128.Slices ![h0 + 8, 0] S1x128} {q6 : S128x128.Slices ![h0 + 9, 0] S1x128} {q7 : S128x256.Slices ![0, d] S128x128}
    (hb : Rd b fun i j => xc I (R + (o + i)) (512 + 128 * (h0 / 4) + j)) (hc : Rd c fun i j => xc I (R + (o + i)) (768 + 128 * (h0 / 4) + j))
    (hA : Rd A (acB I (R + o))) (hT : Rd Tr (trB I (R + o))) (hx : Rd x fun i j => xc I (R + (o + i)) (64 * h0 + j))
    (hs : ∀ (i : Fin 1) (n : Fin 128) (j : Fin 256), s (ix3 i n j) = stG (st I ((R + o) / 128)) (h0 / 4 + i) (0 + n) (0 + j)) :
    Rd (ytileV (resV (cbV b c) (tV b) (acsB A h0 q1) (acsB A (h0 + 1) q2) (rowB Tr h0 q3) (rowB Tr (h0 + 1) q4) (rowB Tr (h0 + 8) q5) (rowB Tr (h0 + 9) q6) x)
      (extractStridedSlice S128x128 ![0, d] (yoffV c s) q7) (decayV (acsB A h0 q1') (acsB A (h0 + 1) q2'))) fun i j => yyo I (R + (o + i)) (64 * h0 + j) := by
  intro i j
  have hi := i.isLt
  have hj := j.isLt
  have hr := (res_sp hC hh he (q1 := q1) (q2 := q2) (q3 := q3) (q4 := q4) (q5 := q5) (q6 := q6) hb hc hA hT hx i j).1
  have ho := yoff_rd hc (g := fun n c => stG (st I ((R + o) / 128)) (h0 / 4) n c) (fun n j => by simpa only [Fin.val_zero, Nat.zero_add, Nat.add_zero] using hs 0 n j) i ⟨d + j, by omega⟩
  have hdc := dec_sp hh he (q1 := q1') (q2 := q2') hA i j
  pointwise [ytileV]
  rw [ho, hdc, hr, yyo, yoff, show (R + (o + (i : ℕ))) / 128 = (R + o) / 128 by omega]
  simp only [Fin.val_zero, Nat.zero_add, Nat.add_zero, stG, cm, Nat.add_assoc]
  rw [show (64 * h0 + (j : ℕ)) / 64 / 4 = h0 / 4 by omega, show 4 * (h0 / 4) + (d + (j : ℕ)) / 64 = (64 * h0 + j) / 64 by omega,
    show (d + (j : ℕ)) % 64 = (64 * h0 + j) % 64 by omega]

theorem stnew_sp {b c A Tr x : FVec Ideal S128x128 .f32} {s : FVec Ideal S1x128x256 .f32} {R o h0 d gg : ℕ} (hC : (R + o) % 128 = 0) (hh : h0 < 8) (he : h0 % 2 = 0)
    (hd : d = 64 * (h0 % 4)) (hgg : gg = h0 / 4)
    {q1 q1' : S128x128.Slices ![0, h0] S128x1} {q2 q2' : S128x128.Slices ![0, h0 + 1] S128x1} {q3 : S128x128.Slices ![h0, 0] S1x128}
    {q4 : S128x128.Slices ![h0 + 1, 0] S1x128} {q5 : S128x128.Slices ![h0 + 8, 0] S1x128} {q6 : S128x128.Slices ![h0 + 9, 0] S1x128} {q7 : S128x256.Slices ![0, d] S128x128}
    (hb : Rd b fun i j => xc I (R + (o + i)) (512 + 128 * (h0 / 4) + j)) (hc : Rd c fun i j => xc I (R + (o + i)) (768 + 128 * (h0 / 4) + j))
    (hA : Rd A (acB I (R + o))) (hT : Rd Tr (trB I (R + o))) (hx : Rd x fun i j => xc I (R + (o + i)) (64 * h0 + j))
    (hs : ∀ (i : Fin 1) (n : Fin 128) (j : Fin 256), s (ix3 i n j) = stG (st I ((R + o) / 128)) (h0 / 4 + i) (0 + n) (0 + j))
    (i : Fin 1) (n j : Fin 128) :
    stnewV (resV (cbV b c) (tV b) (acsB A h0 q1) (acsB A (h0 + 1) q2) (rowB Tr h0 q3) (rowB Tr (h0 + 1) q4) (rowB Tr (h0 + 8) q5) (rowB Tr (h0 + 9) q6) x)
      (extractStridedSlice S128x128 ![0, d] (stV s) q7) (decayV (acsB A h0 q1') (acsB A (h0 + 1) q2')) (ix3 i n j)
      = stG (stOut I ((R + o) / 128)) (gg + i) (0 + n) (d + j) := by
  have hn := n.isLt
  have hj := j.isLt
  have hr := (res_sp hC hh he (q1 := q1) (q2 := q2) (q3 := q3) (q4 := q4) (q5 := q5) (q6 := q6) hb hc hA hT hx n j).2
  have hdc := rowB_rd (dec_sp hh he (q1 := q1') (q2 := q2') hA) 127 slices_S128x128_o127_0_S1x128 n j
  have hst : Rd (stV s) fun n c => stG (st I ((R + o) / 128)) (h0 / 4) n c := fun n j => by
    have := hs 0 n j
    pointwise [stV]
    simpa only [Fin.val_zero, Nat.zero_add, Nat.add_zero] using this
  have hst' := hst n ⟨d + j, by omega⟩
  rw [Subsingleton.elim i 0]
  pointwise [stnewV]
  rw [hst', hdc, hr]
  show stG _ _ _ _ * Ideal.exp (acs I (R + o + 127) ((64 * h0 + j) / 64)) + _ = _
  have e : 128 * ((R + o) / 128) = R + o := by omega
  simp only [stG, stOut, stStep, e, Nat.zero_add, Nat.add_zero]
  rw [hgg, show 4 * (h0 / 4) + (d + (j : ℕ)) / 64 = (64 * h0 + j) / 64 by omega, show (d + (j : ℕ)) % 64 = (64 * h0 + j) % 64 by omega]

theorem group_sp {y z x : FVec Ideal S128x256 .f32} {d w : FVec Ideal S1x256 .f32} {R o c : ℕ} (hc : c = 512 ∨ c = 768)
    (hy : Rd y fun i j => yyo I (R + (o + i)) (c - 512 + j)) (hz : Rd z fun i j => proj I (R + (o + i)) (c + 512 + j))
    (hd : Rd d fun i j => I.dsk ((c - 512 + j) / 64)) (hx : Rd x fun i j => xc I (R + (o + i)) (c - 512 + j)) (hw : Rd w fun i j => I.nrm (c - 512 + j)) :
    Rd (groupV y z d x w) fun i j => mix I (R + (o + i)) (c + j) := by
  refine (group_rd hy hz hd hx hw).congr fun i j hi hj => ?_
  have key : ∀ k, k < 256 → (yyo I (R + (o + i)) (c - 512 + k) + I.dsk ((c - 512 + k) / 64) * xc I (R + (o + i)) (c - 512 + k)) * silu (proj I (R + (o + i)) (c + 512 + k))
      = yz I (R + (o + i)) (c - 512 + k) := fun k hk => by
    rw [yz, yy, yyo, show 1024 + (c - 512 + k) = c + 512 + k by omega]
  have hS : (∑ k : Fin 256, ((yyo I (R + (o + i)) (c - 512 + k) + I.dsk ((c - 512 + k) / 64) * xc I (R + (o + i)) (c - 512 + k)) * silu (proj I (R + (o + i)) (c + 512 + k)))
        * ((yyo I (R + (o + i)) (c - 512 + k) + I.dsk ((c - 512 + k) / 64) * xc I (R + (o + i)) (c - 512 + k)) * silu (proj I (R + (o + i)) (c + 512 + k))))
      = ∑ k : Fin 256, yz I (R + (o + i)) (256 * ((c + j - 512) / 256) + k) * yz I (R + (o + i)) (256 * ((c + j - 512) / 256) + k) :=
    Finset.sum_congr rfl fun k _ => by rw [key k k.isLt, show 256 * ((c + j - 512) / 256) = c - 512 by omega]
  show (yyo I (R + (o + i)) (c - 512 + j) + I.dsk ((c - 512 + j) / 64) * xc I (R + (o + i)) (c - 512 + j)) * silu (proj I (R + (o + i)) (c + 512 + j))
    * Ideal.rsqrt (Ideal.div (∑ k : Fin 256, _) n256 + eps) * I.nrm (c - 512 + j) = _
  rw [hS, key j hj, mix, if_neg (by omega), ssm, show c + j - 512 = c - 512 + j by omega]

theorem cat_sp {a b : FVec Ideal S128x128 .f32} {R o c : ℕ} (ha : Rd a fun i j => yyo I (R + (o + i)) (c + j)) (hb : Rd b fun i j => yyo I (R + (o + i)) (c + 128 + j)) :
    Rd (catV a b) fun i j => yyo I (R + (o + i)) (c + j) :=
  cat_rd ha (by simpa only [Nat.add_assoc] using hb)

end Cert.KernelIdeal.Tiles
-- ==== Proof.Words.lean ====
/-
  The steps of a block with their loads: what each piece of a buffer is, from what the buffers it is loaded from hold.
-/
module

public import proofs.«01_k».proof.Proof.StagesB

@[expose] public section

set_option maxRecDepth 16384

noncomputable section

namespace Cert.KernelIdeal.Tiles

open Idealize.ShloMosaic Idealize.SL.Sem Cert.KernelIdeal Cert.KernelIdeal.Gen Cert.Layer

local notation "EI" => Elt Ideal

variable {I : Inp}

/-- Rows `a` to `b` of a buffer hold `g`. -/
abbrev Rows {m n : ℕ} (X : (⟨2, ![m, n]⟩ : Shape).Idx → EReal) (a b : ℕ) (g : ℕ → ℕ → EReal) : Prop := On X (fun r _ => a ≤ r ∧ r < b) g

/-- A load from an input buffer. -/
theorem ld_in {sp : Space} {a b o1 o2 n1 n2 : ℕ} {e : EltTy} {m : Memref sig .tc sp (⟨2, ![a, b]⟩ : Shape) e} {hm : m.IsWhole} {h} {x : Vec Ideal (⟨2, ![a, b]⟩ : Shape) e}
    {g : ℕ → ℕ → EI e} (hx : On x (fun _ _ => True) g) (i : Fin n1) (j : Fin n2) :
    m.view.readAt EI (Rect.unit (s := ⟨2, ![a, b]⟩) ![o1, o2] ![n1, n2] h).toLoadRect (hm.unread x) (ix2 i j) = g (o1 + i) (o2 + j) :=
  ld_rd m.view (hm.unread x) (P := fun _ _ => True) (by rw [hm.read_unread]; exact hx) (fun _ _ _ => trivial) i j

theorem ld_in3 {sp : Space} {a b c o1 o2 o3 n1 n2 n3 : ℕ} {e : EltTy} {m : Memref sig .tc sp (⟨3, ![a, b, c]⟩ : Shape) e} {hm : m.IsWhole} {h} {x : Vec Ideal (⟨3, ![a, b, c]⟩ : Shape) e}
    {g : ℕ → ℕ → ℕ → EI e} (hx : On3 x (fun _ _ _ => True) g) (i : Fin n1) (j : Fin n2) (k : Fin n3) :
    m.view.readAt EI (Rect.unit (s := ⟨3, ![a, b, c]⟩) ![o1, o2, o3] ![n1, n2, n3] h).toLoadRect (hm.unread x) (ix3 i j k) = g (o1 + i) (o2 + j) (o3 + k) :=
  ld_rd3 m.view (hm.unread x) (P := fun _ _ _ => True) (by rw [hm.read_unread]; exact hx) (fun _ _ _ _ => trivial) i j k

/-- A load from rows of a buffer. -/
theorem ld_rows {sp : Space} {a b o1 o2 n1 n2 r s : ℕ} {v : View sig .tc sp (⟨2, ![a, b]⟩ : Shape) .f32} {f : v.ty.Contents EI} {h} {g : ℕ → ℕ → EReal}
    (hL : Rows (v.read EI f) r s g) (h1 : r ≤ o1) (h2 : o1 + n1 ≤ s) :
    Rd (a := n1) (b := n2) (v.readAt EI (Rect.unit (s := ⟨2, ![a, b]⟩) ![o1, o2] ![n1, n2] h).toLoadRect f) fun i j => g (o1 + i) (o2 + j) :=
  ld_rd v f hL fun i j hb => by unfold Box at hb; omega

theorem ld_rows_h {sp : Space} {a b o1 o2 n1 n2 r s : ℕ} {v : View sig .tc sp (⟨2, ![a, b]⟩ : Shape) .bf16} {f : v.ty.Contents EI} {h} {g : ℕ → ℕ → EReal}
    (hL : Rows (v.read EI f) r s g) (h1 : r ≤ o1) (h2 : o1 + n1 ≤ s) :
    Rd (a := n1) (b := n2) (v.readAt EI (Rect.unit (s := ⟨2, ![a, b]⟩) ![o1, o2] ![n1, n2] h).toLoadRect f) fun i j => g (o1 + i) (o2 + j) :=
  ld_rd v f hL fun i j hb => by unfold Box at hb; omega

/-- A buffer read whole from its contents. -/
theorem rows_in {sp : Space} {a b r s : ℕ} {m : Memref sig .tc sp (⟨2, ![a, b]⟩ : Shape) .f32} {hm : m.IsWhole} {x : Vec Ideal (⟨2, ![a, b]⟩ : Shape) .f32} {g : ℕ → ℕ → EReal}
    (hx : Rows x r s g) : Rows (m.view.read EI (hm.unread x)) r s g := by rw [hm.read_unread]; exact hx

theorem rows_in_h {sp : Space} {a b r s : ℕ} {m : Memref sig .tc sp (⟨2, ![a, b]⟩ : Shape) .bf16} {hm : m.IsWhole} {x : Vec Ideal (⟨2, ![a, b]⟩ : Shape) .bf16} {g : ℕ → ℕ → EReal}
    (hx : Rows x r s g) : Rows (m.view.read EI (hm.unread x)) r s g := by rw [hm.read_unread]; exact hx

/-- What the weight windows hold. -/
structure Par (I : Inp) (x3 : Vec Ideal S1x1024 .f32) (x4 : Vec Ideal S1024x2560 .bf16) (x5 : Vec Ideal S1024x128 .bf16) (x6 : Vec Ideal S1x512 .f32)
    (x7 : Vec Ideal S1x512 .f32) (x8 : Vec Ideal S4x128x256 .bf16) (x9 : Vec Ideal S128x512 .f32) (x10 : Vec Ideal S4x1024 .f32) (x11 : Vec Ideal S1x1024 .f32)
    (x12 : Vec Ideal S1x128 .f32) (x13 : Vec Ideal S1x128 .f32) (x14 : Vec Ideal S1x512 .f32) (x15 : Vec Ideal S1x512 .f32) (x16 : Vec Ideal S256x256 .bf16)
    (x17 : Vec Ideal S128x128 .bf16) (x18 : Vec Ideal S1024x1024 .bf16) (x19 : Vec Ideal S1x1024 .f32) (x20 : Vec Ideal S1x1024 .f32)
    (x21 : Vec Ideal S1024x4096 .bf16) (x22 : Vec Ideal S4096x1024 .bf16) (x23 : Vec Ideal S1x1024 .f32) : Prop where
  nmix : Rd x3 fun _ j => I.nmix j
  win : Rd x4 I.win
  wdt : Rd x5 (Tiles.wdt I)
  lnw : Rd x6 fun _ j => I.lnw j
  lnb : Rd x7 fun _ j => I.lnb j
  wc : ∀ i j k, x8 (ix3 i j k) = wcB I i j k
  bs : Rd x9 fun i j => I.bs (j / 64) i
  cw : Rd x10 I.cw
  cb : Rd x11 fun _ j => I.cb j
  dtb : Rd x12 fun _ j => dtbP I j
  al : Rd x13 fun _ j => aP I j
  dsk : Rd x14 fun _ j => I.dsk (j / 64)
  nrm : Rd x15 fun _ j => I.nrm j
  mavg : Rd x16 fun i j => if i / 64 = j / 64 then ((1 / 64 : ℝ) : EReal) else 0
  tri : Rd x17 fun i s => if s ≤ i then 1 else 0
  wout : Rd x18 I.wout
  npost : Rd x19 fun _ j => I.npost j
  npre : Rd x20 fun _ j => I.npre j
  wup : Rd x21 I.wup
  wdown : Rd x22 I.wdown
  nffn : Rd x23 fun _ j => I.nffn j

variable {arg4 : Memref sig .tc .vmem S1x1024 .f32} {harg4 : arg4.IsWhole} {x3 : Vec Ideal S1x1024 .f32}
  {arg5 : Memref sig .tc .vmem S1024x2560 .bf16} {harg5 : arg5.IsWhole} {x4 : Vec Ideal S1024x2560 .bf16}
  {arg6 : Memref sig .tc .vmem S1024x128 .bf16} {harg6 : arg6.IsWhole} {x5 : Vec Ideal S1024x128 .bf16}
  {arg7 : Memref sig .tc .vmem S1x512 .f32} {harg7 : arg7.IsWhole} {x6 : Vec Ideal S1x512 .f32}
  {arg8 : Memref sig .tc .vmem S1x512 .f32} {harg8 : arg8.IsWhole} {x7 : Vec Ideal S1x512 .f32}
  {arg9 : Memref sig .tc .vmem S4x128x256 .bf16} {harg9 : arg9.IsWhole} {x8 : Vec Ideal S4x128x256 .bf16}
  {arg10 : Memref sig .tc .vmem S128x512 .f32} {harg10 : arg10.IsWhole} {x9 : Vec Ideal S128x512 .f32}
  {arg11 : Memref sig .tc .vmem S4x1024 .f32} {harg11 : arg11.IsWhole} {x10 : Vec Ideal S4x1024 .f32}
  {arg12 : Memref sig .tc .vmem S1x1024 .f32} {harg12 : arg12.IsWhole} {x11 : Vec Ideal S1x1024 .f32}
  {arg13 : Memref sig .tc .vmem S1x128 .f32} {harg13 : arg13.IsWhole} {x12 : Vec Ideal S1x128 .f32}
  {arg14 : Memref sig .tc .vmem S1x128 .f32} {harg14 : arg14.IsWhole} {x13 : Vec Ideal S1x128 .f32}
  {arg15 : Memref sig .tc .vmem S1x512 .f32} {harg15 : arg15.IsWhole} {x14 : Vec Ideal S1x512 .f32}
  {arg16 : Memref sig .tc .vmem S1x512 .f32} {harg16 : arg16.IsWhole} {x15 : Vec Ideal S1x512 .f32}
  {arg17 : Memref sig .tc .vmem S256x256 .bf16} {harg17 : arg17.IsWhole} {x16 : Vec Ideal S256x256 .bf16}
  {arg18 : Memref sig .tc .vmem S128x128 .bf16} {harg18 : arg18.IsWhole} {x17 : Vec Ideal S128x128 .bf16}
  {arg19 : Memref sig .tc .vmem S1024x1024 .bf16} {harg19 : arg19.IsWhole} {x18 : Vec Ideal S1024x1024 .bf16}
  {arg20 : Memref sig .tc .vmem S1x1024 .f32} {harg20 : arg20.IsWhole} {x19 : Vec Ideal S1x1024 .f32}
  {arg21 : Memref sig .tc .vmem S1x1024 .f32} {harg21 : arg21.IsWhole} {x20 : Vec Ideal S1x1024 .f32}
  {arg22 : Memref sig .tc .vmem S1024x4096 .bf16} {harg22 : arg22.IsWhole} {x21 : Vec Ideal S1024x4096 .bf16}
  {arg23 : Memref sig .tc .vmem S4096x1024 .bf16} {harg23 : arg23.IsWhole} {x22 : Vec Ideal S4096x1024 .bf16}
  {arg24 : Memref sig .tc .vmem S1x1024 .f32} {harg24 : arg24.IsWhole} {x23 : Vec Ideal S1x1024 .f32}
  {arg2 : Memref sig .tc .vmem S512x1024 .f32} {harg2 : arg2.IsWhole} {x1 : Vec Ideal S512x1024 .f32}

theorem hn_ld {a R o : ℕ} {m : Memref sig .tc .vmem (⟨2, ![a, 1024]⟩ : Shape) .f32} {hm : m.IsWhole} {x : Vec Ideal (⟨2, ![a, 1024]⟩ : Shape) .f32} {r1} {r2}
    (P : Par I x3 x4 x5 x6 x7 x8 x9 x10 x11 x12 x13 x14 x15 x16 x17 x18 x19 x20 x21 x22 x23) (hx : Rd x fun i j => I.x (R + i) j) :
    Rd (hnV (F := Ideal) (m.view.readAt EI (Rect.unit (s := ⟨2, ![a, 1024]⟩) ![o, 0] ![256, 1024] r1).toLoadRect (hm.unread x))
      (arg4.view.readAt EI (Rect.unit (s := S1x1024) ![0, 0] ![1, 1024] r2).toLoadRect (harg4.unread x3))) fun i j => rmsF (I.x (R + (o + i))) I.nmix j :=
  hn_sp (ld_in hx.on) (ld_in P.nmix.on)

theorem proj_ld {R o c : ℕ} {h : FVec Ideal S256x1024 .bf16} (hh : Rd h fun i j => rmsF (I.x (R + (o + i))) I.nmix j)
    (P : Par I x3 x4 x5 x6 x7 x8 x9 x10 x11 x12 x13 x14 x15 x16 x17 x18 x19 x20 x21 x22 x23) {r1 : ∀ i, ![0, c] i + ![1024, 512] i ≤ S1024x2560.size i} :
    Rd (projV h (arg5.view.readAt EI (Rect.unit (s := S1024x2560) ![0, c] ![1024, 512] r1).toLoadRect (harg5.unread x4))) fun i j => proj I (R + (o + i)) (c + j) := proj_sp hh (ld_in P.win.on)

theorem dtraw_ld {R o : ℕ} {h : FVec Ideal S256x1024 .bf16} (hh : Rd h fun i j => rmsF (I.x (R + (o + i))) I.nmix j)
    (P : Par I x3 x4 x5 x6 x7 x8 x9 x10 x11 x12 x13 x14 x15 x16 x17 x18 x19 x20 x21 x22 x23) {r1 : ∀ i, ![0, 0] i + ![1024, 128] i ≤ S1024x128.size i} :
    Rd (dtrawV h (arg6.view.readAt EI (Rect.unit (s := S1024x128) ![0, 0] ![1024, 128] r1).toLoadRect (harg6.unread x5))) fun i j => dtr I (R + (o + i)) (0 + j) := dtraw_sp hh (ld_in P.wdt.on)

theorem vn_ld {R o a b : ℕ} {v26 : View sig .tc .vmem S512x2560 .f32} {F26 : v26.ty.Contents EI} (h26 : Rows (v26.read EI F26) a b fun i j => proj I (R + i) j) (ha : a ≤ o ∧ o + 128 ≤ b)
    (P : Par I x3 x4 x5 x6 x7 x8 x9 x10 x11 x12 x13 x14 x15 x16 x17 x18 x19 x20 x21 x22 x23) {r1 : ∀ i, ![o, 512] i + ![128, 512] i ≤ S512x2560.size i} {r2 : ∀ i, ![o, 512] i + ![128, 512] i ≤ S512x2560.size i} {r3 : ∀ i, ![0, 0] i + ![256, 256] i ≤ S256x256.size i} {r4 : ∀ i, ![o, 512] i + ![128, 512] i ≤ S512x2560.size i} {r5 : ∀ i, ![o, 512] i + ![128, 512] i ≤ S512x2560.size i} {r6 : ∀ i, ![0, 0] i + ![256, 256] i ≤ S256x256.size i} {r7 : ∀ i, ![o, 512] i + ![128, 512] i ≤ S512x2560.size i} {r8 : ∀ i, ![o, 512] i + ![128, 512] i ≤ S512x2560.size i} {r9 : ∀ i, ![0, 0] i + ![256, 256] i ≤ S256x256.size i} {r10 : ∀ i, ![0, 0] i + ![256, 256] i ≤ S256x256.size i} {r11 : ∀ i, ![0, 0] i + ![1, 512] i ≤ S1x512.size i} {r12 : ∀ i, ![0, 0] i + ![1, 512] i ≤ S1x512.size i} :
    Rd (vnV (F := Ideal) (subf (geluV _ (v26.readAt EI (Rect.unit (s := S512x2560) ![o, 512] ![128, 512] r1).toLoadRect F26)) (headMean (geluV _ (v26.readAt EI (Rect.unit (s := S512x2560) ![o, 512] ![128, 512] r2).toLoadRect F26)) (arg17.view.readAt EI (Rect.unit (s := S256x256) ![0, 0] ![256, 256] r3).toLoadRect (harg17.unread x16)))) (headMean (mulf (subf (geluV _ (v26.readAt EI (Rect.unit (s := S512x2560) ![o, 512] ![128, 512] r4).toLoadRect F26)) (headMean (geluV _ (v26.readAt EI (Rect.unit (s := S512x2560) ![o, 512] ![128, 512] r5).toLoadRect F26)) (arg17.view.readAt EI (Rect.unit (s := S256x256) ![0, 0] ![256, 256] r6).toLoadRect (harg17.unread x16)))) (subf (geluV _ (v26.readAt EI (Rect.unit (s := S512x2560) ![o, 512] ![128, 512] r7).toLoadRect F26)) (headMean (geluV _ (v26.readAt EI (Rect.unit (s := S512x2560) ![o, 512] ![128, 512] r8).toLoadRect F26)) (arg17.view.readAt EI (Rect.unit (s := S256x256) ![0, 0] ![256, 256] r9).toLoadRect (harg17.unread x16))))) (arg17.view.readAt EI (Rect.unit (s := S256x256) ![0, 0] ![256, 256] r10).toLoadRect (harg17.unread x16))) (arg7.view.readAt EI (Rect.unit (s := S1x512) ![0, 0] ![1, 512] r11).toLoadRect (harg7.unread x6)) (arg8.view.readAt EI (Rect.unit (s := S1x512) ![0, 0] ![1, 512] r12).toLoadRect (harg8.unread x7))) fun i j => vn I (R + (o + i)) j :=
  vn_sp (ld_rows h26 ha.1 ha.2) (ld_in P.mavg.on) (ld_in P.mavg.on) (ld_in P.lnw.on) (ld_in P.lnb.on)

theorem mix_ld {R o a b c : ℕ} {v26 : View sig .tc .vmem S512x2560 .f32} {F26 : v26.ty.Contents EI} {v : FVec Ideal S128x512 .f32} {q : S128x512.Slices ![0, c] S128x128} (hC : (R + o) % 128 = 0) (hc : c + 128 ≤ 512 ∧ c % 128 = 0) (hv : Rd v fun i j => vn I (R + (o + i)) j)
    (h26 : Rows (v26.read EI F26) a b fun i j => proj I (R + i) j) (ha : a ≤ o ∧ o + 128 ≤ b)
    (P : Par I x3 x4 x5 x6 x7 x8 x9 x10 x11 x12 x13 x14 x15 x16 x17 x18 x19 x20 x21 x22 x23) {r1 : ∀ i, ![c / 128, 0, 0] i + ![1, 128, 256] i ≤ S4x128x256.size i} {r2 : ∀ i, ![0, c] i + ![128, 128] i ≤ S128x512.size i} {r3 : ∀ i, ![o, c] i + ![128, 128] i ≤ S512x2560.size i} :
    Rd (mixV (extractStridedSlice S128x128 ![0, c] v q) (arg9.view.readAt EI (Rect.unit (s := S4x128x256) ![c / 128, 0, 0] ![1, 128, 256] r1).toLoadRect (harg9.unread x8)) (arg10.view.readAt EI (Rect.unit (s := S128x512) ![0, c] ![128, 128] r2).toLoadRect (harg10.unread x9)) (v26.readAt EI (Rect.unit (s := S512x2560) ![o, c] ![128, 128] r3).toLoadRect F26)) fun i j => mix I (R + (o + i)) (c + j) :=
  mix_sp hC hc.1 hc.2 hv (ld_in3 fun i j k _ => P.wc i j k) (ld_in P.bs.on) (ld_rows h26 ha.1 ha.2)

theorem conv_ld {R o c : ℕ} {v29 : View sig .tc .vmem S520x1024 .f32} {F0 : v29.ty.Contents EI} {a0 b0 : ℕ} {F1 : v29.ty.Contents EI} {a1 b1 : ℕ} {F2 : v29.ty.Contents EI} {a2 b2 : ℕ} {F3 : v29.ty.Contents EI} {a3 b3 : ℕ} (hR : R % 512 = 0) (ho : o ≤ 384)
    (h0 : Rows (v29.read EI F0) a0 b0 (xpB I R)) (h1 : Rows (v29.read EI F1) a1 b1 (xpB I R)) (h2 : Rows (v29.read EI F2) a2 b2 (xpB I R)) (h3 : Rows (v29.read EI F3) a3 b3 (xpB I R))
    (ha : a0 ≤ o + 8 ∧ o + 136 ≤ b0 ∧ a1 ≤ o + 7 ∧ o + 135 ≤ b1 ∧ a2 ≤ o + 6 ∧ o + 134 ≤ b2 ∧ a3 ≤ o + 5 ∧ o + 133 ≤ b3)
    (P : Par I x3 x4 x5 x6 x7 x8 x9 x10 x11 x12 x13 x14 x15 x16 x17 x18 x19 x20 x21 x22 x23) {r1 : ∀ i, ![0, c] i + ![1, 128] i ≤ S1x1024.size i} {r2 : ∀ i, ![3, c] i + ![1, 128] i ≤ S4x1024.size i} {r3 : ∀ i, ![o + 8, c] i + ![128, 128] i ≤ S520x1024.size i} {r4 : ∀ i, ![2, c] i + ![1, 128] i ≤ S4x1024.size i} {r5 : ∀ i, ![o + 7, c] i + ![128, 128] i ≤ S520x1024.size i} {r6 : ∀ i, ![1, c] i + ![1, 128] i ≤ S4x1024.size i} {r7 : ∀ i, ![o + 6, c] i + ![128, 128] i ≤ S520x1024.size i} {r8 : ∀ i, ![0, c] i + ![1, 128] i ≤ S4x1024.size i} {r9 : ∀ i, ![o + 5, c] i + ![128, 128] i ≤ S520x1024.size i} :
    Rd (convV (F := Ideal) (arg12.view.readAt EI (Rect.unit (s := S1x1024) ![0, c] ![1, 128] r1).toLoadRect (harg12.unread x11))
      (arg11.view.readAt EI (Rect.unit (s := S4x1024) ![3, c] ![1, 128] r2).toLoadRect (harg11.unread x10))
      (v29.readAt EI (Rect.unit (s := S520x1024) ![o + 8, c] ![128, 128] r3).toLoadRect F0)
      (arg11.view.readAt EI (Rect.unit (s := S4x1024) ![2, c] ![1, 128] r4).toLoadRect (harg11.unread x10))
      (v29.readAt EI (Rect.unit (s := S520x1024) ![o + 7, c] ![128, 128] r5).toLoadRect F1)
      (arg11.view.readAt EI (Rect.unit (s := S4x1024) ![1, c] ![1, 128] r6).toLoadRect (harg11.unread x10))
      (v29.readAt EI (Rect.unit (s := S520x1024) ![o + 6, c] ![128, 128] r7).toLoadRect F2)
      (arg11.view.readAt EI (Rect.unit (s := S4x1024) ![0, c] ![1, 128] r8).toLoadRect (harg11.unread x10))
      (v29.readAt EI (Rect.unit (s := S520x1024) ![o + 5, c] ![128, 128] r9).toLoadRect F3)) fun i j => xc I (R + (o + i)) (c + j) := by
  obtain ⟨e0, e1, e2, e3, e4, e5, e6, e7⟩ := ha
  exact conv_sp hR ho (ld_in P.cb.on) (ld_in P.cw.on) (ld_rows h0 e0 (by omega)) (ld_in P.cw.on) (ld_rows h1 e2 (by omega)) (ld_in P.cw.on) (ld_rows h2 e4 (by omega)) (ld_in P.cw.on) (ld_rows h3 e6 (by omega))

theorem dt_ld {R o : ℕ} {v27 : View sig .tc .vmem S512x128 .f32} {F27 : v27.ty.Contents EI} {a b : ℕ} (h27 : Rows (v27.read EI F27) a b fun i j => dtr I (R + i) j) (ha : a ≤ o ∧ o + 128 ≤ b)
    (P : Par I x3 x4 x5 x6 x7 x8 x9 x10 x11 x12 x13 x14 x15 x16 x17 x18 x19 x20 x21 x22 x23) {r1 : ∀ i, ![o, 0] i + ![128, 128] i ≤ S512x128.size i} {r2 : ∀ i, ![0, 0] i + ![1, 128] i ≤ S1x128.size i} :
    Rd (dtV (F := Ideal) (v27.readAt EI (Rect.unit (s := S512x128) ![o, 0] ![128, 128] r1).toLoadRect F27) (arg13.view.readAt EI (Rect.unit (s := S1x128) ![0, 0] ![1, 128] r2).toLoadRect (harg13.unread x12))) (dtB I (R + o)) := dt_sp (ld_rows h27 ha.1 ha.2) (ld_in P.dtb.on)

theorem acs_ld {R o : ℕ} (hC : (R + o) % 128 = 0) {v27 : View sig .tc .vmem S512x128 .f32} {F27 : v27.ty.Contents EI} {a b : ℕ} (h27 : Rows (v27.read EI F27) a b fun i j => dtr I (R + i) j) (ha : a ≤ o ∧ o + 128 ≤ b)
    (P : Par I x3 x4 x5 x6 x7 x8 x9 x10 x11 x12 x13 x14 x15 x16 x17 x18 x19 x20 x21 x22 x23) {r1 : ∀ i, ![o, 0] i + ![128, 128] i ≤ S512x128.size i} {r2 : ∀ i, ![0, 0] i + ![1, 128] i ≤ S1x128.size i} {r3 : ∀ i, ![0, 0] i + ![1, 128] i ≤ S1x128.size i} {r4 : ∀ i, ![0, 0] i + ![128, 128] i ≤ S128x128.size i} :
    Rd (acsV (F := Ideal) (dtaV (dtV (v27.readAt EI (Rect.unit (s := S512x128) ![o, 0] ![128, 128] r1).toLoadRect F27) (arg13.view.readAt EI (Rect.unit (s := S1x128) ![0, 0] ![1, 128] r2).toLoadRect (harg13.unread x12))) (arg14.view.readAt EI (Rect.unit (s := S1x128) ![0, 0] ![1, 128] r3).toLoadRect (harg14.unread x13))) (arg18.view.readAt EI (Rect.unit (s := S128x128) ![0, 0] ![128, 128] r4).toLoadRect (harg18.unread x17))) (acB I (R + o)) :=
  acs_sp hC (dt_ld h27 ha P) (ld_in P.al.on) (ld_in P.tri.on)

/-- Two neighbouring heads, the first of them even: where their columns lie. -/
def Head (h0 h1 h2 h3 c2 c3 cx d gg : ℕ) : Prop :=
  h0 < 8 ∧ h0 % 2 = 0 ∧ d = 64 * (h0 % 4) ∧ gg = h0 / 4 ∧ h1 = h0 + 1 ∧ h2 = h0 + 8 ∧ h3 = h0 + 9 ∧ c2 = 512 + 128 * (h0 / 4) ∧ c3 = 768 + 128 * (h0 / 4) ∧ cx = 64 * h0

instance (h0 h1 h2 h3 c2 c3 cx d gg : ℕ) : Decidable (Head h0 h1 h2 h3 c2 c3 cx d gg) := by
  unfold Head
  infer_instance

theorem ytile_ld {A Tr : FVec Ideal S128x128 .f32} {v31 : View sig .tc .vmem S512x1024 .f32} {F31 : v31.ty.Contents EI} {v30 : View sig .tc .vmem S2x128x256 .f32} {F30 : v30.ty.Contents EI}
    {R o h0 h1 h2 h3 c2 c3 cx d gg a b s t : ℕ} (hC : (R + o) % 128 = 0) (hh : Head h0 h1 h2 h3 c2 c3 cx d gg)
    {q1 q1' : S128x128.Slices ![0, h0] S128x1} {q2 q2' : S128x128.Slices ![0, h1] S128x1} {q3 : S128x128.Slices ![h0, 0] S1x128}
    {q4 : S128x128.Slices ![h1, 0] S1x128} {q5 : S128x128.Slices ![h2, 0] S1x128} {q6 : S128x128.Slices ![h3, 0] S1x128} {q7 : S128x256.Slices ![0, d] S128x128}
    {r1 : ∀ i, ![o, c2] i + ![128, 128] i ≤ S512x1024.size i} {r2 : ∀ i, ![o, c3] i + ![128, 128] i ≤ S512x1024.size i} {r3 : ∀ i, ![o, c2] i + ![128, 128] i ≤ S512x1024.size i} {r4 : ∀ i, ![o, cx] i + ![128, 128] i ≤ S512x1024.size i} {r5 : ∀ i, ![o, c3] i + ![128, 128] i ≤ S512x1024.size i} {r6 : ∀ i, ![gg, 0, 0] i + ![1, 128, 256] i ≤ S2x128x256.size i}
    (hA : Rd A (acB I (R + o))) (hT : Rd Tr (trB I (R + o))) (h31 : Rows (v31.read EI F31) a b fun i j => xc I (R + i) j) (ha : a ≤ o ∧ o + 128 ≤ b)
    (h30 : On3 (v30.read EI F30) (fun g _ _ => s ≤ g ∧ g < t) (stG (st I ((R + o) / 128)))) (hs : s ≤ gg ∧ gg < t) :
    Rd (ytileV (resV (cbV (v31.readAt EI (Rect.unit (s := S512x1024) ![o, c2] ![128, 128] r1).toLoadRect F31) (v31.readAt EI (Rect.unit (s := S512x1024) ![o, c3] ![128, 128] r2).toLoadRect F31)) (tV (v31.readAt EI (Rect.unit (s := S512x1024) ![o, c2] ![128, 128] r3).toLoadRect F31)) (acsB A h0 q1) (acsB A h1 q2) (rowB Tr h0 q3) (rowB Tr h1 q4) (rowB Tr h2 q5) (rowB Tr h3 q6) (v31.readAt EI (Rect.unit (s := S512x1024) ![o, cx] ![128, 128] r4).toLoadRect F31)) (extractStridedSlice S128x128 ![0, d] (yoffV (v31.readAt EI (Rect.unit (s := S512x1024) ![o, c3] ![128, 128] r5).toLoadRect F31) (v30.readAt EI (Rect.unit (s := S2x128x256) ![gg, 0, 0] ![1, 128, 256] r6).toLoadRect F30)) q7) (decayV (acsB A h0 q1') (acsB A h1 q2'))) fun i j => yyo I (R + (o + i)) (cx + j) :=
by
  obtain ⟨k0, k1, k2, rfl, rfl, rfl, rfl, rfl, rfl, rfl⟩ := hh
  exact ytile_sp hC k0 k1 k2 (ld_rows h31 ha.1 ha.2) (ld_rows h31 ha.1 ha.2) hA hT (ld_rows h31 ha.1 ha.2) (fun i n j => ld_rd3 v30 F30 h30 (fun _ _ _ hb => by unfold Box3 at hb; omega) i n j)

theorem stnew_ld {A Tr : FVec Ideal S128x128 .f32} {v31 : View sig .tc .vmem S512x1024 .f32} {F31 : v31.ty.Contents EI} {v30 : View sig .tc .vmem S2x128x256 .f32} {F30 : v30.ty.Contents EI}
    {R o h0 h1 h2 h3 c2 c3 cx d gg a b s t : ℕ} (hC : (R + o) % 128 = 0) (hh : Head h0 h1 h2 h3 c2 c3 cx d gg)
    {q1 q1' : S128x128.Slices ![0, h0] S128x1} {q2 q2' : S128x128.Slices ![0, h1] S128x1} {q3 : S128x128.Slices ![h0, 0] S1x128}
    {q4 : S128x128.Slices ![h1, 0] S1x128} {q5 : S128x128.Slices ![h2, 0] S1x128} {q6 : S128x128.Slices ![h3, 0] S1x128} {q7 : S128x256.Slices ![0, d] S128x128}
    {r1 : ∀ i, ![o, c2] i + ![128, 128] i ≤ S512x1024.size i} {r2 : ∀ i, ![o, c3] i + ![128, 128] i ≤ S512x1024.size i} {r3 : ∀ i, ![o, c2] i + ![128, 128] i ≤ S512x1024.size i} {r4 : ∀ i, ![o, cx] i + ![128, 128] i ≤ S512x1024.size i} {r5 : ∀ i, ![gg, 0, 0] i + ![1, 128, 256] i ≤ S2x128x256.size i}
    (hA : Rd A (acB I (R + o))) (hT : Rd Tr (trB I (R + o))) (h31 : Rows (v31.read EI F31) a b fun i j => xc I (R + i) j) (ha : a ≤ o ∧ o + 128 ≤ b)
    (h30 : On3 (v30.read EI F30) (fun g _ _ => s ≤ g ∧ g < t) (stG (st I ((R + o) / 128)))) (hs : s ≤ gg ∧ gg < t) :
    Rd3 (stnewV (resV (cbV (v31.readAt EI (Rect.unit (s := S512x1024) ![o, c2] ![128, 128] r1).toLoadRect F31) (v31.readAt EI (Rect.unit (s := S512x1024) ![o, c3] ![128, 128] r2).toLoadRect F31)) (tV (v31.readAt EI (Rect.unit (s := S512x1024) ![o, c2] ![128, 128] r3).toLoadRect F31)) (acsB A h0 q1) (acsB A h1 q2) (rowB Tr h0 q3) (rowB Tr h1 q4) (rowB Tr h2 q5) (rowB Tr h3 q6) (v31.readAt EI (Rect.unit (s := S512x1024) ![o, cx] ![128, 128] r4).toLoadRect F31)) (extractStridedSlice S128x128 ![0, d] (stV (v30.readAt EI (Rect.unit (s := S2x128x256) ![gg, 0, 0] ![1, 128, 256] r5).toLoadRect F30)) q7) (decayV (acsB A h0 q1') (acsB A h1 q2'))) fun i n j => stG (stOut I ((R + o) / 128)) (gg + i) (0 + n) (d + j) :=
by
  obtain ⟨k0, k1, k2, rfl, rfl, rfl, rfl, rfl, rfl, rfl⟩ := hh
  exact stnew_sp hC k0 k1 k2 rfl (ld_rows h31 ha.1 ha.2) (ld_rows h31 ha.1 ha.2) hA hT (ld_rows h31 ha.1 ha.2) (fun i n j => ld_rd3 v30 F30 h30 (fun _ _ _ hb => by unfold Box3 at hb; omega) i n j)

theorem group_ld {y : FVec Ideal S128x256 .f32} {v31 : View sig .tc .vmem S512x1024 .f32} {F31 : v31.ty.Contents EI} {v26 : View sig .tc .vmem S512x2560 .f32} {F26 : v26.ty.Contents EI} {R o c a b a' b' : ℕ} (hc : c = 512 ∨ c = 768)
    (hy : Rd y fun i j => yyo I (R + (o + i)) (c - 512 + j)) (h26 : Rows (v26.read EI F26) a b fun i j => proj I (R + i) j) (ha : a ≤ o ∧ o + 128 ≤ b)
    (h31 : Rows (v31.read EI F31) a' b' fun i j => xc I (R + i) j) (ha' : a' ≤ o ∧ o + 128 ≤ b')
    (P : Par I x3 x4 x5 x6 x7 x8 x9 x10 x11 x12 x13 x14 x15 x16 x17 x18 x19 x20 x21 x22 x23) {r1 : ∀ i, ![o, c + 512] i + ![128, 256] i ≤ S512x2560.size i} {r2 : ∀ i, ![0, c - 512] i + ![1, 256] i ≤ S1x512.size i} {r3 : ∀ i, ![o, c - 512] i + ![128, 256] i ≤ S512x1024.size i} {r4 : ∀ i, ![0, c - 512] i + ![1, 256] i ≤ S1x512.size i} :
    Rd (groupV y (v26.readAt EI (Rect.unit (s := S512x2560) ![o, c + 512] ![128, 256] r1).toLoadRect F26) (arg15.view.readAt EI (Rect.unit (s := S1x512) ![0, c - 512] ![1, 256] r2).toLoadRect (harg15.unread x14)) (v31.readAt EI (Rect.unit (s := S512x1024) ![o, c - 512] ![128, 256] r3).toLoadRect F31) (arg16.view.readAt EI (Rect.unit (s := S1x512) ![0, c - 512] ![1, 256] r4).toLoadRect (harg16.unread x15))) fun i j => mix I (R + (o + i)) (c + j) :=
  group_sp hc hy (ld_rows h26 ha.1 ha.2) (ld_in P.dsk.on) (ld_rows h31 ha'.1 ha'.2) (ld_in P.nrm.on)

theorem x1_ld {v28 : View sig .tc .vmem S512x1024 .bf16} {F28 : v28.ty.Contents EI} {R o a b : ℕ} (h28 : Rows (v28.read EI F28) a b fun i j => mix I (R + i) j) (ha : a ≤ o ∧ o + 256 ≤ b) (hx : Rd x1 fun i j => I.x (R + i) j)
    (P : Par I x3 x4 x5 x6 x7 x8 x9 x10 x11 x12 x13 x14 x15 x16 x17 x18 x19 x20 x21 x22 x23) {r1 : ∀ i, ![o, 0] i + ![256, 1024] i ≤ S512x1024.size i} {r2 : ∀ i, ![0, 0] i + ![1024, 1024] i ≤ S1024x1024.size i} {r3 : ∀ i, ![o, 0] i + ![256, 1024] i ≤ S512x1024.size i} {r4 : ∀ i, ![0, 0] i + ![1, 1024] i ≤ S1x1024.size i} :
    Rd (x1V (F := Ideal) (v28.readAt EI (Rect.unit (s := S512x1024) ![o, 0] ![256, 1024] r1).toLoadRect F28) (arg19.view.readAt EI (Rect.unit (s := S1024x1024) ![0, 0] ![1024, 1024] r2).toLoadRect (harg19.unread x18)) (arg2.view.readAt EI (Rect.unit (s := S512x1024) ![o, 0] ![256, 1024] r3).toLoadRect (harg2.unread x1)) (arg20.view.readAt EI (Rect.unit (s := S1x1024) ![0, 0] ![1, 1024] r4).toLoadRect (harg20.unread x19))) fun i j => Cert.Layer.x1 I (R + (o + i)) j :=
  x1_sp (ld_rows_h h28 ha.1 ha.2) (ld_in P.wout.on) (ld_in hx.on) (ld_in P.npost.on)

theorem h2_ld {R o : ℕ} {x : FVec Ideal S256x1024 .f32} (hx : Rd x fun i j => Cert.Layer.x1 I (R + (o + i)) j)
    (P : Par I x3 x4 x5 x6 x7 x8 x9 x10 x11 x12 x13 x14 x15 x16 x17 x18 x19 x20 x21 x22 x23) {r1 : ∀ i, ![0, 0] i + ![1, 1024] i ≤ S1x1024.size i} :
    Rd (h2V x (arg21.view.readAt EI (Rect.unit (s := S1x1024) ![0, 0] ![1, 1024] r1).toLoadRect (harg21.unread x20))) fun i j => rmsF (Cert.Layer.x1 I (R + (o + i))) I.npre j := h2_sp hx (ld_in P.npre.on)

theorem up_ld {R c : ℕ} {x y : FVec Ideal S256x1024 .bf16} (hx : Rd x fun i j => rmsF (Cert.Layer.x1 I (R + (0 + i))) I.npre j) (hy : Rd y fun i j => rmsF (Cert.Layer.x1 I (R + (256 + i))) I.npre j)
    (P : Par I x3 x4 x5 x6 x7 x8 x9 x10 x11 x12 x13 x14 x15 x16 x17 x18 x19 x20 x21 x22 x23) {r1 : ∀ i, ![0, c] i + ![1024, 512] i ≤ S1024x4096.size i} :
    Rd (upV x y (arg22.view.readAt EI (Rect.unit (s := S1024x4096) ![0, c] ![1024, 512] r1).toLoadRect (harg22.unread x21))) fun i j => ff I (R + i) (c + j) := up_sp hx hy (ld_in P.wup.on)

theorem down_ld {R : ℕ} {u : FVec Ideal S512x512 .bf16} (hu : Rd u fun i j => ff I (R + i) (0 + j))
    (P : Par I x3 x4 x5 x6 x7 x8 x9 x10 x11 x12 x13 x14 x15 x16 x17 x18 x19 x20 x21 x22 x23) {r1 : ∀ i, ![0, 0] i + ![512, 1024] i ≤ S4096x1024.size i} :
    Rd (downV u (arg23.view.readAt EI (Rect.unit (s := S4096x1024) ![0, 0] ![512, 1024] r1).toLoadRect (harg23.unread x22))) fun i j => dnP I 512 (R + i) j := down_sp hu (ld_in P.wdown.on)

theorem acc_ld {R c c' : ℕ} {A : FVec Ideal S512x1024 .f32} {u : FVec Ideal S512x512 .bf16} (hc : c' = c + 512) (hA : Rd A fun i j => dnP I c (R + i) j) (hu : Rd u fun i j => ff I (R + i) (c + j))
    (P : Par I x3 x4 x5 x6 x7 x8 x9 x10 x11 x12 x13 x14 x15 x16 x17 x18 x19 x20 x21 x22 x23) {r1 : ∀ i, ![c, 0] i + ![512, 1024] i ≤ S4096x1024.size i} :
    Rd (addf A (downV u (arg23.view.readAt EI (Rect.unit (s := S4096x1024) ![c, 0] ![512, 1024] r1).toLoadRect (harg23.unread x22)))) fun i j => dnP I c' (R + i) j := by
  subst hc
  exact acc_sp hA hu (ld_in P.wdown.on)

theorem out_ld {R o : ℕ} {x : FVec Ideal S256x1024 .f32} {A : FVec Ideal S512x1024 .f32} {q : S512x1024.Slices ![o, 0] S256x1024} (hx : Rd x fun i j => Cert.Layer.x1 I (R + (o + i)) j) (hA : Rd A fun i j => dnP I 4096 (R + i) j)
    (P : Par I x3 x4 x5 x6 x7 x8 x9 x10 x11 x12 x13 x14 x15 x16 x17 x18 x19 x20 x21 x22 x23) {r1 : ∀ i, ![0, 0] i + ![1, 1024] i ≤ S1x1024.size i} :
    Rd (outV x (extractStridedSlice S256x1024 ![o, 0] A q) (arg24.view.readAt EI (Rect.unit (s := S1x1024) ![0, 0] ![1, 1024] r1).toLoadRect (harg24.unread x23))) fun i j => Cert.Layer.out I (R + (o + i)) (0 + j) := out_sp hx hA (ld_in P.nffn.on)

/-- The whole feed-forward sum, 512 of its 4096 terms at a time. -/
theorem ffn_ld {R : ℕ} {x y : FVec Ideal S256x1024 .bf16} (hx : Rd x fun i j => rmsF (Cert.Layer.x1 I (R + (0 + i))) I.npre j) (hy : Rd y fun i j => rmsF (Cert.Layer.x1 I (R + (256 + i))) I.npre j)
    {u0 : ∀ i, ![0, 0] i + ![1024, 512] i ≤ S1024x4096.size i} {d0 : ∀ i, ![0, 0] i + ![512, 1024] i ≤ S4096x1024.size i} {u1 : ∀ i, ![0, 512] i + ![1024, 512] i ≤ S1024x4096.size i} {d1 : ∀ i, ![512, 0] i + ![512, 1024] i ≤ S4096x1024.size i} {u2 : ∀ i, ![0, 1024] i + ![1024, 512] i ≤ S1024x4096.size i} {d2 : ∀ i, ![1024, 0] i + ![512, 1024] i ≤ S4096x1024.size i} {u3 : ∀ i, ![0, 1536] i + ![1024, 512] i ≤ S1024x4096.size i} {d3 : ∀ i, ![1536, 0] i + ![512, 1024] i ≤ S4096x1024.size i} {u4 : ∀ i, ![0, 2048] i + ![1024, 512] i ≤ S1024x4096.size i} {d4 : ∀ i, ![2048, 0] i + ![512, 1024] i ≤ S4096x1024.size i} {u5 : ∀ i, ![0, 2560] i + ![1024, 512] i ≤ S1024x4096.size i} {d5 : ∀ i, ![2560, 0] i + ![512, 1024] i ≤ S4096x1024.size i} {u6 : ∀ i, ![0, 3072] i + ![1024, 512] i ≤ S1024x4096.size i} {d6 : ∀ i, ![3072, 0] i + ![512, 1024] i ≤ S4096x1024.size i} {u7 : ∀ i, ![0, 3584] i + ![1024, 512] i ≤ S1024x4096.size i} {d7 : ∀ i, ![3584, 0] i + ![512, 1024] i ≤ S4096x1024.size i}
    (P : Par I x3 x4 x5 x6 x7 x8 x9 x10 x11 x12 x13 x14 x15 x16 x17 x18 x19 x20 x21 x22 x23) :
    Rd ((addf (addf (addf (addf (addf (addf (addf (downV (upV x y (arg22.view.readAt EI (Rect.unit (s := S1024x4096) ![0, 0] ![1024, 512] u0).toLoadRect (harg22.unread x21)))
        (arg23.view.readAt EI (Rect.unit (s := S4096x1024) ![0, 0] ![512, 1024] d0).toLoadRect (harg23.unread x22)))
      (downV (upV x y (arg22.view.readAt EI (Rect.unit (s := S1024x4096) ![0, 512] ![1024, 512] u1).toLoadRect (harg22.unread x21)))
        (arg23.view.readAt EI (Rect.unit (s := S4096x1024) ![512, 0] ![512, 1024] d1).toLoadRect (harg23.unread x22))))
      (downV (upV x y (arg22.view.readAt EI (Rect.unit (s := S1024x4096) ![0, 1024] ![1024, 512] u2).toLoadRect (harg22.unread x21)))
        (arg23.view.readAt EI (Rect.unit (s := S4096x1024) ![1024, 0] ![512, 1024] d2).toLoadRect (harg23.unread x22))))
      (downV (upV x y (arg22.view.readAt EI (Rect.unit (s := S1024x4096) ![0, 1536] ![1024, 512] u3).toLoadRect (harg22.unread x21)))
        (arg23.view.readAt EI (Rect.unit (s := S4096x1024) ![1536, 0] ![512, 1024] d3).toLoadRect (harg23.unread x22))))
      (downV (upV x y (arg22.view.readAt EI (Rect.unit (s := S1024x4096) ![0, 2048] ![1024, 512] u4).toLoadRect (harg22.unread x21)))
        (arg23.view.readAt EI (Rect.unit (s := S4096x1024) ![2048, 0] ![512, 1024] d4).toLoadRect (harg23.unread x22))))
      (downV (upV x y (arg22.view.readAt EI (Rect.unit (s := S1024x4096) ![0, 2560] ![1024, 512] u5).toLoadRect (harg22.unread x21)))
        (arg23.view.readAt EI (Rect.unit (s := S4096x1024) ![2560, 0] ![512, 1024] d5).toLoadRect (harg23.unread x22))))
      (downV (upV x y (arg22.view.readAt EI (Rect.unit (s := S1024x4096) ![0, 3072] ![1024, 512] u6).toLoadRect (harg22.unread x21)))
        (arg23.view.readAt EI (Rect.unit (s := S4096x1024) ![3072, 0] ![512, 1024] d6).toLoadRect (harg23.unread x22))))
      (downV (upV x y (arg22.view.readAt EI (Rect.unit (s := S1024x4096) ![0, 3584] ![1024, 512] u7).toLoadRect (harg22.unread x21)))
        (arg23.view.readAt EI (Rect.unit (s := S4096x1024) ![3584, 0] ![512, 1024] d7).toLoadRect (harg23.unread x22))))) fun i j => dnP I 4096 (R + i) j :=
  acc_ld rfl (acc_ld rfl (acc_ld rfl (acc_ld rfl (acc_ld rfl (acc_ld rfl (acc_ld rfl (down_ld (up_ld hx hy P) P) (up_ld hx hy P) P) (up_ld hx hy P) P) (up_ld hx hy P) P) (up_ld hx hy P) P) (up_ld hx hy P) P) (up_ld hx hy P) P) (up_ld hx hy P) P

/-- The last rows of a block, kept for the next. -/
theorem keep8_ld {v29 : View sig .tc .vmem S520x1024 .f32} {F29 : v29.ty.Contents EI} {R a : ℕ} {r1} {r2} (h29 : Rows (v29.read EI F29) a 520 (xpB I R)) (ha : a ≤ 512) :
    Rd (shapeCast S8x1024 (v29.readAt EI (Rect.unit (s := S520x1024) ![512, 0] ![8, 1024] r1).toLoadRect F29) r2) fun i j => proj I (R + 504 + (0 + i)) (1536 + (0 + j)) := by
  intro i j
  pointwise []
  have := ld_rows h29 ha (by omega) (h := r1) i j
  rw [this]
  show xpB I R (512 + i) (0 + j) = _
  rw [xpB, if_neg (by omega), show R + (512 + (i : ℕ)) - 8 = R + 504 + (0 + i) by omega]
  simp only [Nat.zero_add]

/-- What the block's own rows of the three input windows hold. -/
structure Blk (I : Inp) (R Rp N : ℕ) (x0 x1 : Vec Ideal S512x1024 .f32) (x2 : Vec Ideal S256x1024 .f32) : Prop where
  hR : R % 512 = 0
  x0 : Rd x0 fun i j => I.x (R + i) j
  x1 : Rd x1 fun i j => I.x (Rp + i) j
  x2 : Rd x2 fun i j => I.x (N + i) j

theorem st_first {q : ℕ} (h : q % 16 = 0) (a b c : ℕ) : st I q a b c = 0 := by
  cases q with
  | zero => rfl
  | succ q => rw [st, if_pos h]

theorem st_next {q : ℕ} (h : (q + 1) % 16 ≠ 0) : st I (q + 1) = stOut I q := by rw [st, if_neg h]; rfl

/-- The state after a chunk is the state before the next. -/
theorem On3.next {R o o' : ℕ} {X : Vec Ideal S2x128x256 .f32} {Q : ℕ → ℕ → ℕ → Prop} (h : On3 X Q (stG (stOut I ((R + o) / 128)))) (hR : R % 512 = 0) (ho : o' = o + 128 ∧ o % 128 = 0 ∧ o < 384) :
    On3 X Q (stG (st I ((R + o') / 128))) := by
  rw [ho.1, show (R + (o + 128)) / 128 = (R + o) / 128 + 1 by omega, st_next (by omega)]
  exact h

/-- A block's rows for the convolution, copied from the projection. -/
theorem keep_ld {v26 : View sig .tc .vmem S512x2560 .f32} {F26 : v26.ty.Contents EI} {R o a b : ℕ} {r1} {r2} (h26 : Rows (v26.read EI F26) a b fun i j => proj I (R + i) j)
    (ha : a ≤ o ∧ o + 128 ≤ b) :
    Rd (shapeCast S128x1024 (v26.readAt EI (Rect.unit (s := S512x2560) ![o, 1536] ![128, 1024] r1).toLoadRect F26) r2) fun i j => xpB I R (o + 8 + i) (0 + j) := by
  intro i j
  pointwise []
  have := ld_rows h26 ha.1 ha.2 (h := r1) i j
  rw [this, xpB, if_neg (by omega), show R + (o + 8 + (i : ℕ)) - 8 = R + (o + i) by omega]

theorem zero_bits : Ideal.ofBits .f32 0x00000000#32 = 0 := by simp [Ideal.ofBits, Ideal.ieee]

/-- The rows before a sequence. -/
theorem zero8_ld {z : EReal} (hz : z = 0) {R : ℕ} (hR : R % 2048 = 0) {r} :
    Rd (shapeCast S8x1024 (broadcast (α := EReal) S8x1024 z) r) fun i j => xpB I R (0 + i) (0 + j) := by
  intro i j
  pointwise []
  have := i.isLt
  rw [hz, xpB, if_pos (by omega)]

/-- The state before a sequence. -/
theorem zero_st {z : EReal} (hz : z = 0) {R : ℕ} (hR : R % 2048 = 0) {r} :
    Rd3 (shapeCast S2x128x256 (broadcast (α := EReal) S2x128x256 z) r) fun i j k => stG (st I (R / 128)) (0 + i) (0 + j) (0 + k) := by
  intro i j k
  pointwise []
  rw [hz, stG, st_first (by omega)]

end Cert.KernelIdeal.Tiles
-- ==== Proof.Host.lean ====
/-
  What the host operations before the kernel leave in the arrays its windows are cut from, by coordinates.
-/
module

public import proofs.«01_k».proof.Proof.Args
public import proofs.«01_k».proof.Proof.Words
public import proofs.«01_k».proof.Proof.Gen.KernelIdeal.Frame.Runs
public import Idealize.ShloMosaic.Lib.StableHlo.RunRead

@[expose] public section

set_option maxRecDepth 16384

noncomputable section

namespace Cert.KernelIdeal.Host

open Idealize.ShloMosaic Idealize.SL.Sem Cert.KernelIdeal Cert.KernelIdeal.Gen Cert.Layer Cert.KernelIdeal.Tiles

variable (m : (ℓ : Loc nD τ sig) → Buf (Elt Ideal) ℓ) (c : Dev nD)

set_option maxHeartbeats 4000000 in
/-- The arguments a device is launched with. -/
abbrev I : Inp := inp (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6))
  (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12))
  (m (c, Proc.devRef .tc main_arg13)) (m (c, Proc.devRef .tc main_arg14)) (m (c, Proc.devRef .tc main_arg15)) (m (c, Proc.devRef .tc main_arg16)) (m (c, Proc.devRef .tc main_arg17)) (m (c, Proc.devRef .tc main_arg18))

theorem tri_bit (i s : Fin 128) : IntOp.cmpi .sge (IntOp.addi (BitVec.ofNat 32 i) 0#32) (BitVec.ofNat 32 s) = if (s : ℕ) ≤ i then 1#1 else 0#1 := by
  revert i s; decide +kernel

theorem sel_bit (p : Prop) [Decidable p] : Scalar.select (if p then 1#1 else 0#1 : BitVec 1) (1#1 : BitVec 1) 0#1 = if p then 1#1 else 0#1 := by
  split <;> rfl

theorem zero_int : FloatOps.sitofp (F := Ideal) FTy.f32 0#32 = 0 := by
  show ((((0#32).toInt : ℤ) : ℝ) : EReal) = 0
  simp

theorem x_rd : Rd (V m c main_v0) (I m c).x := by
  intro i j
  show StableHlo.after _ _ (Proc.devRef .tc main_v0) (ix2 i j) = _
  after_reads_simp
  pointwise
  exact ix3_at rfl rfl rfl

theorem win_rd : Rd (V m c main_v20) (I m c).win := by
  intro i j
  show StableHlo.after _ _ (Proc.devRef .tc main_v20) (ix2 i j) = _
  after_reads_simp
  pointwise
  exact ix3_at rfl rfl rfl

theorem wdt_rd : Rd (V m c main_v23) (Tiles.wdt (I m c)) := by
  intro i j
  show StableHlo.after _ _ (Proc.devRef .tc main_v23) (ix2 i j) = _
  after_reads_simp
  simp only [StableHlo.TRef.ofBuf, StableHlo.TRef.toBuf, cast_cast, cast_eq]
  pointwise
  unfold Tiles.wdt
  split
  · exact ix3_at rfl rfl rfl
  · exact zero_int

theorem wc_rd (i : Fin 4) (j : Fin 128) (k : Fin 256) : (V m c main_v31) (ix3 i j k) = wcB (I m c) i j k := by
  show StableHlo.after _ _ (Proc.devRef .tc main_v31) (ix3 i j k) = _
  after_reads_simp
  simp only [StableHlo.TRef.ofBuf, StableHlo.TRef.toBuf, cast_cast, cast_eq]
  pointwise
  have e := tri_bit j ⟨k % 128, by omega⟩
  simp only at e
  rw [e, sel_bit, sel_word]
  unfold wcB
  split
  · exact ix4_at rfl (by show (i : ℕ) * 2 + k / 128 = 2 * i + k / 128; omega) rfl rfl
  · exact zero_bits

theorem bs_rd : Rd (V m c main_v34) (fun i j => (I m c).bs (j / 64) i) := by
  intro i j
  show StableHlo.after _ _ (Proc.devRef .tc main_v34) (ix2 i j) = _
  after_reads_simp
  pointwise
  exact ix3_at rfl rfl rfl

theorem dtb_rd : Rd (V m c main_v36) (fun _ j => dtbP (I m c) j) := by
  intro i j
  show StableHlo.after _ _ (Proc.devRef .tc main_v36) (ix2 i j) = _
  after_reads_simp
  simp only [StableHlo.TRef.ofBuf, StableHlo.TRef.toBuf, cast_cast, cast_eq]
  pointwise
  unfold dtbP
  split
  · exact ix2_at rfl rfl
  · exact zero_int

theorem al_rd : Rd (V m c main_v40) (fun _ j => aP (I m c) j) := by
  intro i j
  show StableHlo.after _ _ (Proc.devRef .tc main_v40) (ix2 i j) = _
  after_reads_simp
  simp only [StableHlo.TRef.ofBuf, StableHlo.TRef.toBuf, cast_cast, cast_eq]
  pointwise
  unfold aP
  split
  · exact congrArg (fun z => -(Ideal.exp z)) (ix2_at rfl rfl)
  · exact zero_int

theorem dsk_rd : Rd (V m c main_v43) (fun _ j => (I m c).dsk (j / 64)) := by
  intro i j
  show StableHlo.after _ _ (Proc.devRef .tc main_v43) (ix2 i j) = _
  after_reads_simp
  pointwise
  exact ix2_at rfl rfl

theorem tri_rd : Rd (V m c main_v53) (fun i s => if s ≤ i then (1 : EReal) else 0) := by
  intro i j
  show StableHlo.after _ _ (Proc.devRef .tc main_v53) (ix2 i j) = _
  after_reads_simp
  simp only [StableHlo.TRef.ofBuf, StableHlo.TRef.toBuf, cast_cast, cast_eq]
  pointwise
  rw [tri_bit, sel_bit]
  split
  · show ((((1#1 : BitVec 1).toNat : ℕ) : ℝ) : EReal) = 1
    simp
  · show ((((0#1 : BitVec 1).toNat : ℕ) : ℝ) : EReal) = 0
    simp

theorem nmix_rd : Rd (V m c main_v54) (fun _ j => (I m c).nmix j) := by
  intro i j
  show StableHlo.after _ _ (Proc.devRef .tc main_v54) (ix2 i j) = _
  after_reads_simp
  pointwise
  exact ix2_at rfl rfl

theorem cb_rd : Rd (V m c main_v57) (fun _ j => (I m c).cb j) := by
  intro i j
  show StableHlo.after _ _ (Proc.devRef .tc main_v57) (ix2 i j) = _
  after_reads_simp
  pointwise
  exact ix2_at rfl rfl

theorem nrm_rd : Rd (V m c main_v58) (fun _ j => (I m c).nrm j) := by
  intro i j
  show StableHlo.after _ _ (Proc.devRef .tc main_v58) (ix2 i j) = _
  after_reads_simp
  pointwise
  exact ix2_at rfl rfl

theorem npost_rd : Rd (V m c main_v60) (fun _ j => (I m c).npost j) := by
  intro i j
  show StableHlo.after _ _ (Proc.devRef .tc main_v60) (ix2 i j) = _
  after_reads_simp
  pointwise
  exact ix2_at rfl rfl

theorem npre_rd : Rd (V m c main_v61) (fun _ j => (I m c).npre j) := by
  intro i j
  show StableHlo.after _ _ (Proc.devRef .tc main_v61) (ix2 i j) = _
  after_reads_simp
  pointwise
  exact ix2_at rfl rfl

theorem nffn_rd : Rd (V m c main_v64) (fun _ j => (I m c).nffn j) := by
  intro i j
  show StableHlo.after _ _ (Proc.devRef .tc main_v64) (ix2 i j) = _
  after_reads_simp
  pointwise
  exact ix2_at rfl rfl

theorem lnw_rd : Rd (V m c main_v55) (fun _ j => (I m c).lnw j) := by
  intro i j
  show StableHlo.after _ _ (Proc.devRef .tc main_v55) (ix2 i j) = _
  after_reads_simp
  pointwise
  exact ix3_at rfl rfl rfl

theorem lnb_rd : Rd (V m c main_v56) (fun _ j => (I m c).lnb j) := by
  intro i j
  show StableHlo.after _ _ (Proc.devRef .tc main_v56) (ix2 i j) = _
  after_reads_simp
  pointwise
  exact ix3_at rfl rfl rfl

theorem wout_rd : Rd (V m c main_v59) (I m c).wout := by
  intro i j
  show StableHlo.after _ _ (Proc.devRef .tc main_v59) (ix2 i j) = _
  after_reads_simp
  pointwise
  exact ix3_at rfl rfl rfl

theorem wup_rd : Rd (V m c main_v62) (I m c).wup := by
  intro i j
  show StableHlo.after _ _ (Proc.devRef .tc main_v62) (ix2 i j) = _
  after_reads_simp
  pointwise
  exact ix3_at rfl rfl rfl

theorem wdown_rd : Rd (V m c main_v63) (I m c).wdown := by
  intro i j
  show StableHlo.after _ _ (Proc.devRef .tc main_v63) (ix2 i j) = _
  after_reads_simp
  pointwise
  exact ix3_at rfl rfl rfl

theorem cw_rd : Rd (V m c main_v7) (I m c).cw := by
  intro i j
  show StableHlo.after _ _ (Proc.devRef .tc main_v7) (ix2 i j) = _
  after_reads_simp
  pointwise
  exact ix3_at rfl rfl rfl

theorem quot_word (i : Fin 256) : Scalar.select
    (IntOp.andi (IntOp.cmpi .ne (if BitVec.ofNat 32 ↑i = 0 then (0 : BitVec 32) else if (BitVec.ofNat 32 ↑i).msb = true then -1 else 1)
        (if 64#32 = 0 then (0 : BitVec 32) else if BitVec.msb 64#32 = true then -1 else 1))
      (IntOp.cmpi .ne (IntOp.remsi .host (BitVec.ofNat 32 ↑i) 64#32) 0#32))
    (IntOp.subi (IntOp.divsi .host (BitVec.ofNat 32 ↑i) 64#32) 1#32) (IntOp.divsi .host (BitVec.ofNat 32 ↑i) 64#32) = BitVec.ofNat 32 (i / 64) := by
  revert i; decide +kernel

theorem same_word (a b : ℕ) (ha : a < 4) (hb : b < 4) : IntOp.cmpi .eq (BitVec.ofNat 32 a) (BitVec.ofNat 32 b) = if a = b then 1#1 else 0#1 := by
  have : ∀ a b : Fin 4, IntOp.cmpi .eq (BitVec.ofNat 32 a) (BitVec.ofNat 32 b) = if (a : ℕ) = b then 1#1 else 0#1 := by decide +kernel
  exact this ⟨a, ha⟩ ⟨b, hb⟩

theorem share_word : Ideal.ofBits .f32 1015021568#32 = ((1 / 64 : ℝ) : EReal) := by
  simp [Ideal.ofBits, Ideal.ieee, -EReal.coe_mul]; norm_num

theorem mavg_rd : Rd (V m c main_v52) (fun i j => if i / 64 = j / 64 then ((1 / 64 : ℝ) : EReal) else 0) := by
  intro i j
  show StableHlo.after _ _ (Proc.devRef .tc main_v52) (ix2 i j) = _
  after_reads_simp
  simp only [StableHlo.TRef.ofBuf, StableHlo.TRef.toBuf, cast_cast, cast_eq]
  pointwise
  refine (congrArg₂ (fun a b => Scalar.select (IntOp.cmpi .eq a b) (Ideal.ofBits .f32 1015021568#32) (0 : EReal)) (quot_word i) (quot_word j)).trans ?_
  rw [same_word _ _ (by omega) (by omega), sel_word, share_word]

end Cert.KernelIdeal.Host
-- ==== Proof.Wins.lean ====
/-
  The blocks the kernel's windows hold at a point of its grid, by the entries of the layer's inputs.
-/
module

public import proofs.«01_k».proof.Proof.Host

@[expose] public section

set_option maxRecDepth 16384

noncomputable section

namespace Cert.KernelIdeal.Steps

open Idealize.ShloMosaic Idealize.SL.Sem Cert.KernelIdeal Cert.KernelIdeal.Gen Cert.Layer Cert.KernelIdeal.Tiles Cert.KernelIdeal.Host

variable (m : (ℓ : Loc nD τ sig) → Buf (Elt Ideal) ℓ) (c : Dev nD) (t : Fin cfg0.N)

theorem at0 : ∀ t : Fin cfg0.N, win0_0.index t 0 = min t.val 63 ∧ win0_0.index t 1 = 0 := by decide +kernel
theorem at1 : ∀ t : Fin cfg0.N, win0_1.index t 0 = t.val - 1 ∧ win0_1.index t 1 = 0 := by decide +kernel
theorem at2' : ∀ t : Fin cfg0.N, win0_2.index t 0 = min (2 * (t.val + 1)) 127 ∧ win0_2.index t 1 = 0 := by decide +kernel
theorem at24 : ∀ t : Fin cfg0.N, win0_24.index t 0 = t.val - 1 ∧ win0_24.index t 1 = 0 := by decide +kernel

theorem b0 : Rd (iblk m c 0 t : Vec Ideal S512x1024 .f32) fun i j => (I m c).x (512 * min t.val 63 + i) j := by
  intro i j
  obtain ⟨e0, e1⟩ := at0 t
  have ht : t.val < 65 := t.isLt
  have hi := i.isLt
  refine Eq.trans ?_ (x_rd m c ⟨512 * min t.val 63 + i, by omega⟩ j)
  unfold iblk
  rw [View.read_apply]
  show V m c main_v0 _ = V m c main_v0 _
  congr 1
  funext a
  apply Fin.ext
  match a with
  | ⟨0, _⟩ => show win0_0.index t 0 * 512 + 1 * i.val = 512 * min t.val 63 + i.val; rw [e0]; omega
  | ⟨1, _⟩ => show win0_0.index t 1 * 1024 + 1 * j.val = j.val; rw [e1]; omega

theorem b1 : Rd (iblk m c 1 t : Vec Ideal S512x1024 .f32) fun i j => (I m c).x (512 * (t.val - 1) + i) j := by
  intro i j
  obtain ⟨e0, e1⟩ := at1 t
  have ht : t.val < 65 := t.isLt
  have hi := i.isLt
  refine Eq.trans ?_ (x_rd m c ⟨512 * (t.val - 1) + i, by omega⟩ j)
  unfold iblk
  rw [View.read_apply]
  show V m c main_v0 _ = V m c main_v0 _
  congr 1
  funext a
  apply Fin.ext
  match a with
  | ⟨0, _⟩ => show win0_1.index t 0 * 512 + 1 * i.val = 512 * (t.val - 1) + i.val; rw [e0]; omega
  | ⟨1, _⟩ => show win0_1.index t 1 * 1024 + 1 * j.val = j.val; rw [e1]; omega

theorem b2 : Rd (iblk m c 2 t : Vec Ideal S256x1024 .f32) fun i j => (I m c).x (256 * min (2 * (t.val + 1)) 127 + i) j := by
  intro i j
  obtain ⟨e0, e1⟩ := at2' t
  have ht : t.val < 65 := t.isLt
  have hi := i.isLt
  refine Eq.trans ?_ (x_rd m c ⟨256 * min (2 * (t.val + 1)) 127 + i, by omega⟩ j)
  unfold iblk
  rw [View.read_apply]
  show V m c main_v0 _ = V m c main_v0 _
  congr 1
  funext a
  apply Fin.ext
  match a with
  | ⟨0, _⟩ => show win0_2.index t 0 * 256 + 1 * i.val = 256 * min (2 * (t.val + 1)) 127 + i.val; rw [e0]; omega
  | ⟨1, _⟩ => show win0_2.index t 1 * 1024 + 1 * j.val = j.val; rw [e1]; omega

theorem whole3 : ∀ (t : Fin cfg0.N) a, win0_3.index t a = 0 := by decide +kernel
theorem e3 : (iblk m c 3 t : Vec Ideal S1x1024 .f32) = V m c main_v54 :=
  Memref.read_access_unit_zero (Elt Ideal) main_v54 (funext fun a => (congrArg (· * _) (whole3 t a)).trans (Nat.zero_mul _)) _ (V m c main_v54)

theorem whole4 : ∀ (t : Fin cfg0.N) a, win0_4.index t a = 0 := by decide +kernel
theorem e4 : (iblk m c 4 t : Vec Ideal S1024x2560 .bf16) = V m c main_v20 :=
  Memref.read_access_unit_zero (Elt Ideal) main_v20 (funext fun a => (congrArg (· * _) (whole4 t a)).trans (Nat.zero_mul _)) _ (V m c main_v20)

theorem whole5 : ∀ (t : Fin cfg0.N) a, win0_5.index t a = 0 := by decide +kernel
theorem e5 : (iblk m c 5 t : Vec Ideal S1024x128 .bf16) = V m c main_v23 :=
  Memref.read_access_unit_zero (Elt Ideal) main_v23 (funext fun a => (congrArg (· * _) (whole5 t a)).trans (Nat.zero_mul _)) _ (V m c main_v23)

theorem whole6 : ∀ (t : Fin cfg0.N) a, win0_6.index t a = 0 := by decide +kernel
theorem e6 : (iblk m c 6 t : Vec Ideal S1x512 .f32) = V m c main_v55 :=
  Memref.read_access_unit_zero (Elt Ideal) main_v55 (funext fun a => (congrArg (· * _) (whole6 t a)).trans (Nat.zero_mul _)) _ (V m c main_v55)

theorem whole7 : ∀ (t : Fin cfg0.N) a, win0_7.index t a = 0 := by decide +kernel
theorem e7 : (iblk m c 7 t : Vec Ideal S1x512 .f32) = V m c main_v56 :=
  Memref.read_access_unit_zero (Elt Ideal) main_v56 (funext fun a => (congrArg (· * _) (whole7 t a)).trans (Nat.zero_mul _)) _ (V m c main_v56)

theorem whole8 : ∀ (t : Fin cfg0.N) a, win0_8.index t a = 0 := by decide +kernel
theorem e8 : (iblk m c 8 t : Vec Ideal S4x128x256 .bf16) = V m c main_v31 :=
  Memref.read_access_unit_zero (Elt Ideal) main_v31 (funext fun a => (congrArg (· * _) (whole8 t a)).trans (Nat.zero_mul _)) _ (V m c main_v31)

theorem whole9 : ∀ (t : Fin cfg0.N) a, win0_9.index t a = 0 := by decide +kernel
theorem e9 : (iblk m c 9 t : Vec Ideal S128x512 .f32) = V m c main_v34 :=
  Memref.read_access_unit_zero (Elt Ideal) main_v34 (funext fun a => (congrArg (· * _) (whole9 t a)).trans (Nat.zero_mul _)) _ (V m c main_v34)

theorem whole10 : ∀ (t : Fin cfg0.N) a, win0_10.index t a = 0 := by decide +kernel
theorem e10 : (iblk m c 10 t : Vec Ideal S4x1024 .f32) = V m c main_v7 :=
  Memref.read_access_unit_zero (Elt Ideal) main_v7 (funext fun a => (congrArg (· * _) (whole10 t a)).trans (Nat.zero_mul _)) _ (V m c main_v7)

theorem whole11 : ∀ (t : Fin cfg0.N) a, win0_11.index t a = 0 := by decide +kernel
theorem e11 : (iblk m c 11 t : Vec Ideal S1x1024 .f32) = V m c main_v57 :=
  Memref.read_access_unit_zero (Elt Ideal) main_v57 (funext fun a => (congrArg (· * _) (whole11 t a)).trans (Nat.zero_mul _)) _ (V m c main_v57)

theorem whole12 : ∀ (t : Fin cfg0.N) a, win0_12.index t a = 0 := by decide +kernel
theorem e12 : (iblk m c 12 t : Vec Ideal S1x128 .f32) = V m c main_v36 :=
  Memref.read_access_unit_zero (Elt Ideal) main_v36 (funext fun a => (congrArg (· * _) (whole12 t a)).trans (Nat.zero_mul _)) _ (V m c main_v36)

theorem whole13 : ∀ (t : Fin cfg0.N) a, win0_13.index t a = 0 := by decide +kernel
theorem e13 : (iblk m c 13 t : Vec Ideal S1x128 .f32) = V m c main_v40 :=
  Memref.read_access_unit_zero (Elt Ideal) main_v40 (funext fun a => (congrArg (· * _) (whole13 t a)).trans (Nat.zero_mul _)) _ (V m c main_v40)

theorem whole14 : ∀ (t : Fin cfg0.N) a, win0_14.index t a = 0 := by decide +kernel
theorem e14 : (iblk m c 14 t : Vec Ideal S1x512 .f32) = V m c main_v43 :=
  Memref.read_access_unit_zero (Elt Ideal) main_v43 (funext fun a => (congrArg (· * _) (whole14 t a)).trans (Nat.zero_mul _)) _ (V m c main_v43)

theorem whole15 : ∀ (t : Fin cfg0.N) a, win0_15.index t a = 0 := by decide +kernel
theorem e15 : (iblk m c 15 t : Vec Ideal S1x512 .f32) = V m c main_v58 :=
  Memref.read_access_unit_zero (Elt Ideal) main_v58 (funext fun a => (congrArg (· * _) (whole15 t a)).trans (Nat.zero_mul _)) _ (V m c main_v58)

theorem whole16 : ∀ (t : Fin cfg0.N) a, win0_16.index t a = 0 := by decide +kernel
theorem e16 : (iblk m c 16 t : Vec Ideal S256x256 .bf16) = V m c main_v52 :=
  Memref.read_access_unit_zero (Elt Ideal) main_v52 (funext fun a => (congrArg (· * _) (whole16 t a)).trans (Nat.zero_mul _)) _ (V m c main_v52)

theorem whole17 : ∀ (t : Fin cfg0.N) a, win0_17.index t a = 0 := by decide +kernel
theorem e17 : (iblk m c 17 t : Vec Ideal S128x128 .bf16) = V m c main_v53 :=
  Memref.read_access_unit_zero (Elt Ideal) main_v53 (funext fun a => (congrArg (· * _) (whole17 t a)).trans (Nat.zero_mul _)) _ (V m c main_v53)

theorem whole18 : ∀ (t : Fin cfg0.N) a, win0_18.index t a = 0 := by decide +kernel
theorem e18 : (iblk m c 18 t : Vec Ideal S1024x1024 .bf16) = V m c main_v59 :=
  Memref.read_access_unit_zero (Elt Ideal) main_v59 (funext fun a => (congrArg (· * _) (whole18 t a)).trans (Nat.zero_mul _)) _ (V m c main_v59)

theorem whole19 : ∀ (t : Fin cfg0.N) a, win0_19.index t a = 0 := by decide +kernel
theorem e19 : (iblk m c 19 t : Vec Ideal S1x1024 .f32) = V m c main_v60 :=
  Memref.read_access_unit_zero (Elt Ideal) main_v60 (funext fun a => (congrArg (· * _) (whole19 t a)).trans (Nat.zero_mul _)) _ (V m c main_v60)

theorem whole20 : ∀ (t : Fin cfg0.N) a, win0_20.index t a = 0 := by decide +kernel
theorem e20 : (iblk m c 20 t : Vec Ideal S1x1024 .f32) = V m c main_v61 :=
  Memref.read_access_unit_zero (Elt Ideal) main_v61 (funext fun a => (congrArg (· * _) (whole20 t a)).trans (Nat.zero_mul _)) _ (V m c main_v61)

theorem whole21 : ∀ (t : Fin cfg0.N) a, win0_21.index t a = 0 := by decide +kernel
theorem e21 : (iblk m c 21 t : Vec Ideal S1024x4096 .bf16) = V m c main_v62 :=
  Memref.read_access_unit_zero (Elt Ideal) main_v62 (funext fun a => (congrArg (· * _) (whole21 t a)).trans (Nat.zero_mul _)) _ (V m c main_v62)

theorem whole22 : ∀ (t : Fin cfg0.N) a, win0_22.index t a = 0 := by decide +kernel
theorem e22 : (iblk m c 22 t : Vec Ideal S4096x1024 .bf16) = V m c main_v63 :=
  Memref.read_access_unit_zero (Elt Ideal) main_v63 (funext fun a => (congrArg (· * _) (whole22 t a)).trans (Nat.zero_mul _)) _ (V m c main_v63)

theorem whole23 : ∀ (t : Fin cfg0.N) a, win0_23.index t a = 0 := by decide +kernel
theorem e23 : (iblk m c 23 t : Vec Ideal S1x1024 .f32) = V m c main_v64 :=
  Memref.read_access_unit_zero (Elt Ideal) main_v64 (funext fun a => (congrArg (· * _) (whole23 t a)).trans (Nat.zero_mul _)) _ (V m c main_v64)

/-- The windows over the parameters. -/
theorem par : Par (I m c) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) where
  nmix := fun i j => (congrFun (e3 m c t) (ix2 i j)).trans (nmix_rd m c i j)
  win := fun i j => (congrFun (e4 m c t) (ix2 i j)).trans (win_rd m c i j)
  wdt := fun i j => (congrFun (e5 m c t) (ix2 i j)).trans (wdt_rd m c i j)
  lnw := fun i j => (congrFun (e6 m c t) (ix2 i j)).trans (lnw_rd m c i j)
  lnb := fun i j => (congrFun (e7 m c t) (ix2 i j)).trans (lnb_rd m c i j)
  wc := fun i j k => (congrFun (e8 m c t) (ix3 i j k)).trans (wc_rd m c i j k)
  bs := fun i j => (congrFun (e9 m c t) (ix2 i j)).trans (bs_rd m c i j)
  cw := fun i j => (congrFun (e10 m c t) (ix2 i j)).trans (cw_rd m c i j)
  cb := fun i j => (congrFun (e11 m c t) (ix2 i j)).trans (cb_rd m c i j)
  dtb := fun i j => (congrFun (e12 m c t) (ix2 i j)).trans (dtb_rd m c i j)
  al := fun i j => (congrFun (e13 m c t) (ix2 i j)).trans (al_rd m c i j)
  dsk := fun i j => (congrFun (e14 m c t) (ix2 i j)).trans (dsk_rd m c i j)
  nrm := fun i j => (congrFun (e15 m c t) (ix2 i j)).trans (nrm_rd m c i j)
  mavg := fun i j => (congrFun (e16 m c t) (ix2 i j)).trans (mavg_rd m c i j)
  tri := fun i j => (congrFun (e17 m c t) (ix2 i j)).trans (tri_rd m c i j)
  wout := fun i j => (congrFun (e18 m c t) (ix2 i j)).trans (wout_rd m c i j)
  npost := fun i j => (congrFun (e19 m c t) (ix2 i j)).trans (npost_rd m c i j)
  npre := fun i j => (congrFun (e20 m c t) (ix2 i j)).trans (npre_rd m c i j)
  wup := fun i j => (congrFun (e21 m c t) (ix2 i j)).trans (wup_rd m c i j)
  wdown := fun i j => (congrFun (e22 m c t) (ix2 i j)).trans (wdown_rd m c i j)
  nffn := fun i j => (congrFun (e23 m c t) (ix2 i j)).trans (nffn_rd m c i j)

/-- The windows over the rows. -/
theorem blk {R Rp N : ℕ} (hR : R = 512 * min t.val 63) (hRp : Rp = 512 * (t.val - 1)) (hN : N = 256 * min (2 * (t.val + 1)) 127) :
    Blk (I m c) R Rp N (iblk m c 0 t) (iblk m c 1 t) (iblk m c 2 t) where
  hR := by omega
  x0 := by subst hR; exact b0 m c t
  x1 := by subst hRp; exact b1 m c t
  x2 := by subst hN; exact b2 m c t

end Cert.KernelIdeal.Steps
-- ==== Proof.CaseA.lean ====
/-
  What the buffers hold during and after the first block.
-/
module

public import proofs.«01_k».proof.Proof.Words
public import proofs.«01_k».proof.Proof.Gen.KernelIdeal.Frame.RunA

@[expose] public section

set_option maxRecDepth 16384

noncomputable section

namespace Cert.KernelIdeal.Tiles.CaseA

open Idealize.ShloMosaic Idealize.SL.Sem Cert.KernelIdeal Cert.KernelIdeal.Gen Cert.Layer Cert.KernelIdeal.Tiles

local notation "EI" => Elt Ideal

seal shapeCast broadcastTo broadcast extractStridedSlice mulf addf subf divf exp2 truncf extf select transpose concatenate log log1p View.readAt View.writes

variable {I : Inp} {R Rp N : ℕ}
variable {c : Dev nD} {i : grid0.Coords} {arg1 : Memref sig .tc .vmem S512x1024 .f32} {harg1 : arg1.IsWhole} {arg2 : Memref sig .tc .vmem S512x1024 .f32} {harg2 : arg2.IsWhole} {arg3 : Memref sig .tc .vmem S256x1024 .f32} {harg3 : arg3.IsWhole} {arg4 : Memref sig .tc .vmem S1x1024 .f32} {harg4 : arg4.IsWhole} {arg5 : Memref sig .tc .vmem S1024x2560 .bf16} {harg5 : arg5.IsWhole} {arg6 : Memref sig .tc .vmem S1024x128 .bf16} {harg6 : arg6.IsWhole} {arg7 : Memref sig .tc .vmem S1x512 .f32} {harg7 : arg7.IsWhole} {arg8 : Memref sig .tc .vmem S1x512 .f32} {harg8 : arg8.IsWhole} {arg9 : Memref sig .tc .vmem S4x128x256 .bf16} {harg9 : arg9.IsWhole} {arg10 : Memref sig .tc .vmem S128x512 .f32} {harg10 : arg10.IsWhole} {arg11 : Memref sig .tc .vmem S4x1024 .f32} {harg11 : arg11.IsWhole} {arg12 : Memref sig .tc .vmem S1x1024 .f32} {harg12 : arg12.IsWhole} {arg13 : Memref sig .tc .vmem S1x128 .f32} {harg13 : arg13.IsWhole} {arg14 : Memref sig .tc .vmem S1x128 .f32} {harg14 : arg14.IsWhole} {arg15 : Memref sig .tc .vmem S1x512 .f32} {harg15 : arg15.IsWhole} {arg16 : Memref sig .tc .vmem S1x512 .f32} {harg16 : arg16.IsWhole} {arg17 : Memref sig .tc .vmem S256x256 .bf16} {harg17 : arg17.IsWhole} {arg18 : Memref sig .tc .vmem S128x128 .bf16} {harg18 : arg18.IsWhole} {arg19 : Memref sig .tc .vmem S1024x1024 .bf16} {harg19 : arg19.IsWhole} {arg20 : Memref sig .tc .vmem S1x1024 .f32} {harg20 : arg20.IsWhole} {arg21 : Memref sig .tc .vmem S1x1024 .f32} {harg21 : arg21.IsWhole} {arg22 : Memref sig .tc .vmem S1024x4096 .bf16} {harg22 : arg22.IsWhole} {arg23 : Memref sig .tc .vmem S4096x1024 .bf16} {harg23 : arg23.IsWhole} {arg24 : Memref sig .tc .vmem S1x1024 .f32} {harg24 : arg24.IsWhole} {arg25 : Memref sig .tc .vmem S512x1024 .f32} {harg25 : arg25.IsWhole} {arg26 : Memref sig .tc .vmem S512x2560 .f32} {harg26 : arg26.IsWhole} {arg27 : Memref sig .tc .vmem S512x128 .f32} {harg27 : arg27.IsWhole} {arg28 : Memref sig .tc .vmem S512x1024 .bf16} {harg28 : arg28.IsWhole} {arg29 : Memref sig .tc .vmem S520x1024 .f32} {harg29 : arg29.IsWhole} {arg30 : Memref sig .tc .vmem S2x128x256 .f32} {harg30 : arg30.IsWhole} {arg31 : Memref sig .tc .vmem S512x1024 .f32} {harg31 : arg31.IsWhole} {hc0 : cond0_0 i} {hc1 : cond0_1 i} {x0 : Vec Ideal S512x1024 .f32} {x1 : Vec Ideal S512x1024 .f32} {x2 : Vec Ideal S256x1024 .f32} {x3 : Vec Ideal S1x1024 .f32} {x4 : Vec Ideal S1024x2560 .bf16} {x5 : Vec Ideal S1024x128 .bf16} {x6 : Vec Ideal S1x512 .f32} {x7 : Vec Ideal S1x512 .f32} {x8 : Vec Ideal S4x128x256 .bf16} {x9 : Vec Ideal S128x512 .f32} {x10 : Vec Ideal S4x1024 .f32} {x11 : Vec Ideal S1x1024 .f32} {x12 : Vec Ideal S1x128 .f32} {x13 : Vec Ideal S1x128 .f32} {x14 : Vec Ideal S1x512 .f32} {x15 : Vec Ideal S1x512 .f32} {x16 : Vec Ideal S256x256 .bf16} {x17 : Vec Ideal S128x128 .bf16} {x18 : Vec Ideal S1024x1024 .bf16} {x19 : Vec Ideal S1x1024 .f32} {x20 : Vec Ideal S1x1024 .f32} {x21 : Vec Ideal S1024x4096 .bf16} {x22 : Vec Ideal S4096x1024 .bf16} {x23 : Vec Ideal S1x1024 .f32}

theorem lo5 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_5 c arg1 harg1 arg4 harg4 arg5 harg5 x0 x3 x4))) 0 256 fun i j => proj I (R + i) j := by
  unfold kernelRun0_A.sl.HS0_5
  exact cons_w (proj_ld (hn_ld P H.x0) P) (cons_w (proj_ld (hn_ld P H.x0) P) (cons_w (proj_ld (hn_ld P H.x0) P) (cons_w (proj_ld (hn_ld P H.x0) P) (cons_w (proj_ld (hn_ld P H.x0) P) (On.none fun i j _ _ => by unfold Box; omega)))))

theorem lo6 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_6 c arg1 harg1 arg4 harg4 arg5 harg5 x0 x3 x4))) 0 256 fun i j => proj I (R + i) j := by
  unfold kernelRun0_A.sl.HS0_6
  exact skip_on v f (fun i j _ _ _ => by unfold Box; omega) (lo5 v f P H)

theorem lo7 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_7 c arg1 harg1 arg4 harg4 arg5 harg5 x0 x3 x4))) 0 256 fun i j => proj I (R + i) j := by
  unfold kernelRun0_A.sl.HS0_7
  exact skip_on v f (fun i j _ _ _ => by unfold Box; omega) (lo6 v f P H)

theorem lo8 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_8 c arg1 harg1 arg4 harg4 arg5 harg5 x0 x3 x4))) 0 256 fun i j => proj I (R + i) j := by
  unfold kernelRun0_A.sl.HS0_8
  exact skip_on v f (fun i j _ _ _ => by unfold Box; omega) (lo7 v f P H)

theorem lo9 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_9 c arg1 harg1 arg4 harg4 arg5 harg5 x0 x3 x4))) 0 256 fun i j => proj I (R + i) j := by
  unfold kernelRun0_A.sl.HS0_9
  exact skip_on v f (fun i j _ _ _ => by unfold Box; omega) (lo8 v f P H)

theorem lo10 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_10 c arg1 harg1 arg4 harg4 arg5 harg5 x0 x3 x4))) 0 256 fun i j => proj I (R + i) j := by
  unfold kernelRun0_A.sl.HS0_10
  exact skip_on v f (fun i j _ _ _ => by unfold Box; omega) (lo9 v f P H)

theorem lo27 (v : View sig .tc .vmem S512x128 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS1_1 c arg1 harg1 arg4 harg4 arg6 harg6 x0 x3 x5))) 0 256 fun i j => dtr I (R + i) j := by
  unfold kernelRun0_A.sl.HS1_1
  exact cons_w (dtraw_ld (hn_ld P H.x0) P) (On.none fun i j _ _ => by unfold Box; omega)

theorem up10 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_10 c arg1 harg1 arg4 harg4 arg5 harg5 x0 x3 x4))) 256 512 fun i j => proj I (R + i) j := by
  unfold kernelRun0_A.sl.HS0_10
  exact cons_w (proj_ld (hn_ld P H.x0) P) (cons_w (proj_ld (hn_ld P H.x0) P) (cons_w (proj_ld (hn_ld P H.x0) P) (cons_w (proj_ld (hn_ld P H.x0) P) (cons_w (proj_ld (hn_ld P H.x0) P) (On.none fun i j _ _ => by unfold Box; omega)))))

theorem up11 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_11 c arg1 harg1 arg3 harg3 arg4 harg4 arg5 harg5 x0 x2 x3 x4))) 256 512 fun i j => proj I (R + i) j := by
  unfold kernelRun0_A.sl.HS0_11
  exact skip_on v f (fun i j _ _ _ => by unfold Box; omega) (up10 v f P H)

theorem up12 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_12 c arg1 harg1 arg3 harg3 arg4 harg4 arg5 harg5 x0 x2 x3 x4))) 256 512 fun i j => proj I (R + i) j := by
  unfold kernelRun0_A.sl.HS0_12
  exact skip_on v f (fun i j _ _ _ => by unfold Box; omega) (up11 v f P H)

theorem up13 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_13 c arg1 harg1 arg3 harg3 arg4 harg4 arg5 harg5 x0 x2 x3 x4))) 256 512 fun i j => proj I (R + i) j := by
  unfold kernelRun0_A.sl.HS0_13
  exact skip_on v f (fun i j _ _ _ => by unfold Box; omega) (up12 v f P H)

theorem up14 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_14 c arg1 harg1 arg3 harg3 arg4 harg4 arg5 harg5 x0 x2 x3 x4))) 256 512 fun i j => proj I (R + i) j := by
  unfold kernelRun0_A.sl.HS0_14
  exact skip_on v f (fun i j _ _ _ => by unfold Box; omega) (up13 v f P H)

theorem up15 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS0_15 c arg1 harg1 arg3 harg3 arg4 harg4 arg5 harg5 x0 x2 x3 x4))) 256 512 fun i j => proj I (R + i) j := by
  unfold kernelRun0_A.sl.HS0_15
  exact skip_on v f (fun i j _ _ _ => by unfold Box; omega) (up14 v f P H)

theorem up27 (v : View sig .tc .vmem S512x128 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A.sl.HS1_2 c arg1 harg1 arg4 harg4 arg6 harg6 x0 x3 x5))) 256 512 fun i j => dtr I (R + i) j := by
  unfold kernelRun0_A.sl.HS1_2
  exact cons_w (dtraw_ld (hn_ld P H.x0) P) (On.none fun i j _ _ => by unfold Box; omega)

theorem xp1 (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A.sl.HS3_2 c arg1 harg1 arg4 harg4 arg5 harg5 arg26 x0 x3 x4))) 0 136 (xpB I R) := by
  unfold kernelRun0_A.sl.HS3_2
  refine cons_w ?_ (cons_w (zero8_ld zero_bits hF) (On.none fun i j _ _ => by unfold Box; omega))
  refine keep_ld (a := 0) (b := 256) ?_ (by decide)
  exact lo6 _ _ P H

theorem xp2 (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A.sl.HS3_3 c arg1 harg1 arg4 harg4 arg5 harg5 arg26 x0 x3 x4))) 0 264 (xpB I R) := by
  unfold kernelRun0_A.sl.HS3_3
  refine cons_w ?_ ((xp1 v f P H hF).mono fun i j _ _ => by unfold Box; omega)
  refine keep_ld (a := 0) (b := 256) ?_ (by decide)
  exact lo9 _ _ P H

theorem xp3 (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A.sl.HS3_4 c arg1 harg1 arg3 harg3 arg4 harg4 arg5 harg5 arg26 x0 x2 x3 x4))) 0 392 (xpB I R) := by
  unfold kernelRun0_A.sl.HS3_4
  refine cons_w ?_ ((xp2 v f P H hF).mono fun i j _ _ => by unfold Box; omega)
  refine keep_ld (a := 256) (b := 512) ?_ (by decide)
  exact up11 _ _ P H

theorem xp4 (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A.sl.HS3_5 c arg1 harg1 arg3 harg3 arg4 harg4 arg5 harg5 arg26 x0 x2 x3 x4))) 0 520 (xpB I R) := by
  unfold kernelRun0_A.sl.HS3_5
  refine cons_w ?_ ((xp3 v f P H hF).mono fun i j _ _ => by unfold Box; omega)
  refine keep_ld (a := 256) (b := 512) ?_ (by decide)
  exact up14 _ _ P H

theorem xc1 (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A.sl.HS5_8 c arg1 harg1 arg4 harg4 arg5 harg5 arg11 harg11 arg12 harg12 arg26 arg29 x0 x3 x4 x10 x11))) 0 128 fun i j => xc I (R + i) j := by
  unfold kernelRun0_A.sl.HS5_8
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp1 _ _ P H hF) (xp1 _ _ P H hF) (xp1 _ _ P H hF) (xp1 _ _ P H hF) (by decide) P

theorem xc2 (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A.sl.HS5_16 c arg1 harg1 arg4 harg4 arg5 harg5 arg11 harg11 arg12 harg12 arg26 arg29 x0 x3 x4 x10 x11))) 128 256 fun i j => xc I (R + i) j := by
  unfold kernelRun0_A.sl.HS5_16
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp2 _ _ P H hF) (xp2 _ _ P H hF) (xp2 _ _ P H hF) (xp2 _ _ P H hF) (by decide) P

theorem xc3 (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A.sl.HS5_24 c arg1 harg1 arg3 harg3 arg4 harg4 arg5 harg5 arg11 harg11 arg12 harg12 arg26 arg29 x0 x2 x3 x4 x10 x11))) 256 384 fun i j => xc I (R + i) j := by
  unfold kernelRun0_A.sl.HS5_24
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp3 _ _ P H hF) (xp3 _ _ P H hF) (xp3 _ _ P H hF) (xp3 _ _ P H hF) (by decide) P

theorem xc4 (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A.sl.HS5_32 c arg1 harg1 arg3 harg3 arg4 harg4 arg5 harg5 arg11 harg11 arg12 harg12 arg26 arg29 x0 x2 x3 x4 x10 x11))) 384 512 fun i j => xc I (R + i) j := by
  unfold kernelRun0_A.sl.HS5_32
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp4 _ _ P H hF) (xp4 _ _ P H hF) (xp4 _ _ P H hF) (xp4 _ _ P H hF) (by decide) P

theorem st0 (v : View sig .tc .vmem S2x128x256 .f32) (f : v.ty.Contents EI) (hF : R % 2048 = 0) :
    On3 (v.read EI (v.writes EI f kernelRun0_A.sl.HS4_1)) (fun g _ _ => 0 ≤ g ∧ g < 2) (stG (st I (R / 128))) := by
  unfold kernelRun0_A.sl.HS4_1
  exact cons_w3 (zero_st zero_bits hF) (On3.none fun i j k _ _ _ => by unfold Box3; omega)

theorem st1 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    On3 (v.read EI (v.writes EI f (kernelRun0_A.sl.HS4_5 c arg1 harg1 arg4 harg4 arg5 harg5 arg6 harg6 arg11 harg11 arg12 harg12 arg13 harg13 arg14 harg14 arg18 harg18 arg26 arg27 arg29 arg30 arg31 x0 x3 x4 x5 x10 x11 x12 x13 x17))) (fun g _ _ => 0 ≤ g ∧ g < 2) (stG (stOut I ((R + 0) / 128))) := by
  unfold kernelRun0_A.sl.HS4_5
  refine cons_w3 ?_ (cons_w3 ?_ (cons_w3 ?_ (cons_w3 ?_ (On3.none fun i j k _ _ _ => by unfold Box3; omega))))
  all_goals refine stnew_ld (a := 0) (b := 128) (s := 0) (t := 2) ?_ ?_ ?_ (tr_sp ?_ ?_) ?_ ?_ ?_ ?_
  all_goals first
    | decide
    | exact xc1 _ _ P H hF
    | exact st0 _ _ hF
    | exact acs_ld (by have := H.hR; omega) (lo27 _ _ P H) (by decide) P
    | exact dt_ld (lo27 _ _ P H) (by decide) P
    | (have := H.hR; omega)

theorem st2 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    On3 (v.read EI (v.writes EI f (kernelRun0_A.sl.HS4_9 c arg1 harg1 arg4 harg4 arg5 harg5 arg6 harg6 arg11 harg11 arg12 harg12 arg13 harg13 arg14 harg14 arg18 harg18 arg26 arg27 arg29 arg30 arg31 x0 x3 x4 x5 x10 x11 x12 x13 x17))) (fun g _ _ => 0 ≤ g ∧ g < 2) (stG (stOut I ((R + 128) / 128))) := by
  unfold kernelRun0_A.sl.HS4_9
  refine cons_w3 ?_ (cons_w3 ?_ (cons_w3 ?_ (cons_w3 ?_ (On3.none fun i j k _ _ _ => by unfold Box3; omega))))
  all_goals refine stnew_ld (a := 128) (b := 256) (s := 0) (t := 2) ?_ ?_ ?_ (tr_sp ?_ ?_) ?_ ?_ ?_ ?_
  all_goals first
    | decide
    | exact xc2 _ _ P H hF
    | exact (st1 _ _ P H hF).next H.hR (by decide)
    | exact acs_ld (by have := H.hR; omega) (lo27 _ _ P H) (by decide) P
    | exact dt_ld (lo27 _ _ P H) (by decide) P
    | (have := H.hR; omega)

theorem st3 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    On3 (v.read EI (v.writes EI f (kernelRun0_A.sl.HS4_13 c arg1 harg1 arg3 harg3 arg4 harg4 arg5 harg5 arg6 harg6 arg11 harg11 arg12 harg12 arg13 harg13 arg14 harg14 arg18 harg18 arg26 arg27 arg29 arg30 arg31 x0 x2 x3 x4 x5 x10 x11 x12 x13 x17))) (fun g _ _ => 0 ≤ g ∧ g < 2) (stG (stOut I ((R + 256) / 128))) := by
  unfold kernelRun0_A.sl.HS4_13
  refine cons_w3 ?_ (cons_w3 ?_ (cons_w3 ?_ (cons_w3 ?_ (On3.none fun i j k _ _ _ => by unfold Box3; omega))))
  all_goals refine stnew_ld (a := 256) (b := 384) (s := 0) (t := 2) ?_ ?_ ?_ (tr_sp ?_ ?_) ?_ ?_ ?_ ?_
  all_goals first
    | decide
    | exact xc3 _ _ P H hF
    | exact (st2 _ _ P H hF).next H.hR (by decide)
    | exact acs_ld (by have := H.hR; omega) (up27 _ _ P H) (by decide) P
    | exact dt_ld (up27 _ _ P H) (by decide) P
    | (have := H.hR; omega)

theorem proj_all (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.1)) 0 256 fun i j => proj I (N + i) j := by
  refine cons_w ?_ (cons_w ?_ (cons_w ?_ (cons_w ?_ (cons_w ?_ (On.none fun i j _ _ => by unfold Box; omega)))))
  all_goals exact proj_ld (hn_ld P H.x2) P

theorem dtr_all (v : View sig .tc .vmem S512x128 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.1)) 0 256 fun i j => dtr I (N + i) j := by
  refine cons_w ?_ (On.none fun i j _ _ => by unfold Box; omega)
  exact dtraw_ld (hn_ld P H.x2) P

theorem keep_all (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.2.1)) 0 8 fun i j => proj I (R + 504 + i) (1536 + j) := by
  refine cons_w ?_ (On.none fun i j _ _ => by unfold Box; omega)
  exact keep8_ld (a := 8) ((xp4 _ _ P H hF).mono fun i j _ _ => by omega) (by decide)

theorem st_all (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (hF : R % 2048 = 0) :
    On3 (v.read EI (v.writes EI f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.2.2.1)) (fun g _ _ => 0 ≤ g ∧ g < 2) (stG (stOut I ((R + 384) / 128))) := by
  refine cons_w3 ?_ (cons_w3 ?_ (cons_w3 ?_ (cons_w3 ?_ (On3.none fun i j k _ _ _ => by unfold Box3; omega))))
  all_goals refine stnew_ld (a := 384) (b := 512) (s := 0) (t := 2) ?_ ?_ ?_ (tr_sp ?_ ?_) ?_ ?_ ?_ ?_
  all_goals first
    | decide
    | exact xc4 _ _ P H hF
    | exact (st3 _ _ P H hF).next H.hR (by decide)
    | exact acs_ld (by have := H.hR; omega) (up27 _ _ P H) (by decide) P
    | exact dt_ld (up27 _ _ P H) (by decide) P
    | (have := H.hR; omega)

end Cert.KernelIdeal.Tiles.CaseA
-- ==== Proof.MixA.lean ====
/-
  What the buffer of mixed rows holds during and after the first block.
-/
module

public import proofs.«01_k».proof.Proof.CaseA

@[expose] public section

set_option maxRecDepth 16384

noncomputable section

namespace Cert.KernelIdeal.Tiles.CaseA

open Idealize.ShloMosaic Idealize.SL.Sem Cert.KernelIdeal Cert.KernelIdeal.Gen Cert.Layer Cert.KernelIdeal.Tiles

local notation "EI" => Elt Ideal

seal shapeCast broadcastTo broadcast extractStridedSlice mulf addf subf divf exp2 truncf extf select transpose concatenate log log1p View.readAt View.writes

variable {I : Inp} {R Rp N : ℕ}
variable {c : Dev nD} {i : grid0.Coords} {arg1 : Memref sig .tc .vmem S512x1024 .f32} {harg1 : arg1.IsWhole} {arg2 : Memref sig .tc .vmem S512x1024 .f32} {harg2 : arg2.IsWhole} {arg3 : Memref sig .tc .vmem S256x1024 .f32} {harg3 : arg3.IsWhole} {arg4 : Memref sig .tc .vmem S1x1024 .f32} {harg4 : arg4.IsWhole} {arg5 : Memref sig .tc .vmem S1024x2560 .bf16} {harg5 : arg5.IsWhole} {arg6 : Memref sig .tc .vmem S1024x128 .bf16} {harg6 : arg6.IsWhole} {arg7 : Memref sig .tc .vmem S1x512 .f32} {harg7 : arg7.IsWhole} {arg8 : Memref sig .tc .vmem S1x512 .f32} {harg8 : arg8.IsWhole} {arg9 : Memref sig .tc .vmem S4x128x256 .bf16} {harg9 : arg9.IsWhole} {arg10 : Memref sig .tc .vmem S128x512 .f32} {harg10 : arg10.IsWhole} {arg11 : Memref sig .tc .vmem S4x1024 .f32} {harg11 : arg11.IsWhole} {arg12 : Memref sig .tc .vmem S1x1024 .f32} {harg12 : arg12.IsWhole} {arg13 : Memref sig .tc .vmem S1x128 .f32} {harg13 : arg13.IsWhole} {arg14 : Memref sig .tc .vmem S1x128 .f32} {harg14 : arg14.IsWhole} {arg15 : Memref sig .tc .vmem S1x512 .f32} {harg15 : arg15.IsWhole} {arg16 : Memref sig .tc .vmem S1x512 .f32} {harg16 : arg16.IsWhole} {arg17 : Memref sig .tc .vmem S256x256 .bf16} {harg17 : arg17.IsWhole} {arg18 : Memref sig .tc .vmem S128x128 .bf16} {harg18 : arg18.IsWhole} {arg19 : Memref sig .tc .vmem S1024x1024 .bf16} {harg19 : arg19.IsWhole} {arg20 : Memref sig .tc .vmem S1x1024 .f32} {harg20 : arg20.IsWhole} {arg21 : Memref sig .tc .vmem S1x1024 .f32} {harg21 : arg21.IsWhole} {arg22 : Memref sig .tc .vmem S1024x4096 .bf16} {harg22 : arg22.IsWhole} {arg23 : Memref sig .tc .vmem S4096x1024 .bf16} {harg23 : arg23.IsWhole} {arg24 : Memref sig .tc .vmem S1x1024 .f32} {harg24 : arg24.IsWhole} {arg25 : Memref sig .tc .vmem S512x1024 .f32} {harg25 : arg25.IsWhole} {arg26 : Memref sig .tc .vmem S512x2560 .f32} {harg26 : arg26.IsWhole} {arg27 : Memref sig .tc .vmem S512x128 .f32} {harg27 : arg27.IsWhole} {arg28 : Memref sig .tc .vmem S512x1024 .bf16} {harg28 : arg28.IsWhole} {arg29 : Memref sig .tc .vmem S520x1024 .f32} {harg29 : arg29.IsWhole} {arg30 : Memref sig .tc .vmem S2x128x256 .f32} {harg30 : arg30.IsWhole} {arg31 : Memref sig .tc .vmem S512x1024 .f32} {harg31 : arg31.IsWhole} {hc0 : cond0_0 i} {hc1 : cond0_1 i} {x0 : Vec Ideal S512x1024 .f32} {x1 : Vec Ideal S512x1024 .f32} {x2 : Vec Ideal S256x1024 .f32} {x3 : Vec Ideal S1x1024 .f32} {x4 : Vec Ideal S1024x2560 .bf16} {x5 : Vec Ideal S1024x128 .bf16} {x6 : Vec Ideal S1x512 .f32} {x7 : Vec Ideal S1x512 .f32} {x8 : Vec Ideal S4x128x256 .bf16} {x9 : Vec Ideal S128x512 .f32} {x10 : Vec Ideal S4x1024 .f32} {x11 : Vec Ideal S1x1024 .f32} {x12 : Vec Ideal S1x128 .f32} {x13 : Vec Ideal S1x128 .f32} {x14 : Vec Ideal S1x512 .f32} {x15 : Vec Ideal S1x512 .f32} {x16 : Vec Ideal S256x256 .bf16} {x17 : Vec Ideal S128x128 .bf16} {x18 : Vec Ideal S1024x1024 .bf16} {x19 : Vec Ideal S1x1024 .f32} {x20 : Vec Ideal S1x1024 .f32} {x21 : Vec Ideal S1024x4096 .bf16} {x22 : Vec Ideal S4096x1024 .bf16} {x23 : Vec Ideal S1x1024 .f32}

set_option maxHeartbeats 4000000 in
theorem mix_all (v : View sig .tc .vmem S512x1024 .bf16) (f : v.ty.Contents EI) (P : Par I x3 x4 x5 x6 x7 x8 x9 x10 x11 x12 x13 x14 x15 x16 x17 x18 x19 x20 x21 x22 x23) (H : Blk I R Rp N x0 x1 x2) (hF : R % 2048 = 0) :
    Rows (v.read EI (v.writes EI f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23).2.2.2.1)) 0 512 fun i j => mix I (R + i) j := by
  refine cons_h ?_ (cons_h ?_ (cons_h ?_ (cons_h ?_ (cons_h ?_ (cons_h ?_ (On.mono (P := fun r _ => 0 ≤ r ∧ r < 384) (cons_h ?_ (cons_h ?_ (cons_h ?_ (cons_h ?_ (cons_h ?_ (cons_h ?_ (On.mono (P := fun r _ => 0 ≤ r ∧ r < 256) (cons_h ?_ (cons_h ?_ (cons_h ?_ (cons_h ?_ (cons_h ?_ (cons_h ?_ (On.mono (P := fun r _ => 0 ≤ r ∧ r < 128) (cons_h ?_ (cons_h ?_ (cons_h ?_ (cons_h ?_ (cons_h ?_ (cons_h ?_ (On.none fun i j _ _ => by unfold Box; omega))))))) (fun i j _ _ => by unfold Box; omega)))))))) (fun i j _ _ => by unfold Box; omega)))))))) (fun i j _ _ => by unfold Box; omega)))))))
  · refine group_ld (o := 384) (c := 768) (a := 256) (b := 512) (a' := 384) (b' := 512) (by decide) ?_ ?_ (by decide) ?_ (by decide) P
    on_goal 1 => refine cat_sp ?_ ?_ <;> refine ytile_ld (o := 384) (a := 384) (b := 512) (s := 0) (t := 2) ?_ ?_ ?_ (tr_sp ?_ ?_) ?_ ?_ ?_ ?_
    all_goals first
      | decide
      | exact xc4 _ _ P H hF
      | exact up15 _ _ P H
      | exact (st3 _ _ P H hF).next H.hR (by decide)
      | exact acs_ld (by have := H.hR; omega) (up27 _ _ P H) (by decide) P
      | exact dt_ld (up27 _ _ P H) (by decide) P
      | (have := H.hR; omega)
  · refine group_ld (o := 384) (c := 512) (a := 256) (b := 512) (a' := 384) (b' := 512) (by decide) ?_ ?_ (by decide) ?_ (by decide) P
    on_goal 1 => refine cat_sp ?_ ?_ <;> refine ytile_ld (o := 384) (a := 384) (b := 512) (s := 0) (t := 2) ?_ ?_ ?_ (tr_sp ?_ ?_) ?_ ?_ ?_ ?_
    all_goals first
      | decide
      | exact xc4 _ _ P H hF
      | exact up15 _ _ P H
      | exact (st3 _ _ P H hF).next H.hR (by decide)
      | exact acs_ld (by have := H.hR; omega) (up27 _ _ P H) (by decide) P
      | exact dt_ld (up27 _ _ P H) (by decide) P
      | (have := H.hR; omega)
  · refine mix_ld (o := 384) (c := 384) (a := 256) (b := 512) ?_ (by decide) (vn_ld (o := 384) (a := 256) (b := 512) ?_ (by decide) P) ?_ (by decide) P
    all_goals first
      | (have := H.hR; omega)
      | exact up15 _ _ P H
      | exact up13 _ _ P H
  · refine mix_ld (o := 384) (c := 256) (a := 256) (b := 512) ?_ (by decide) (vn_ld (o := 384) (a := 256) (b := 512) ?_ (by decide) P) ?_ (by decide) P
    all_goals first
      | (have := H.hR; omega)
      | exact up15 _ _ P H
      | exact up13 _ _ P H
  · refine mix_ld (o := 384) (c := 128) (a := 256) (b := 512) ?_ (by decide) (vn_ld (o := 384) (a := 256) (b := 512) ?_ (by decide) P) ?_ (by decide) P
    all_goals first
      | (have := H.hR; omega)
      | exact up15 _ _ P H
      | exact up13 _ _ P H
  · refine mix_ld (o := 384) (c := 0) (a := 256) (b := 512) ?_ (by decide) (vn_ld (o := 384) (a := 256) (b := 512) ?_ (by decide) P) ?_ (by decide) P
    all_goals first
      | (have := H.hR; omega)
      | exact up15 _ _ P H
      | exact up13 _ _ P H
  · refine group_ld (o := 256) (c := 768) (a := 256) (b := 512) (a' := 256) (b' := 384) (by decide) ?_ ?_ (by decide) ?_ (by decide) P
    on_goal 1 => refine cat_sp ?_ ?_ <;> refine ytile_ld (o := 256) (a := 256) (b := 384) (s := 0) (t := 2) ?_ ?_ ?_ (tr_sp ?_ ?_) ?_ ?_ ?_ ?_
    all_goals first
      | decide
      | exact xc3 _ _ P H hF
      | exact up12 _ _ P H
      | exact (st2 _ _ P H hF).next H.hR (by decide)
      | exact acs_ld (by have := H.hR; omega) (up27 _ _ P H) (by decide) P
      | exact dt_ld (up27 _ _ P H) (by decide) P
      | (have := H.hR; omega)
  · refine group_ld (o := 256) (c := 512) (a := 256) (b := 512) (a' := 256) (b' := 384) (by decide) ?_ ?_ (by decide) ?_ (by decide) P
    on_goal 1 => refine cat_sp ?_ ?_ <;> refine ytile_ld (o := 256) (a := 256) (b := 384) (s := 0) (t := 2) ?_ ?_ ?_ (tr_sp ?_ ?_) ?_ ?_ ?_ ?_
    all_goals first
      | decide
      | exact xc3 _ _ P H hF
      | exact up12 _ _ P H
      | exact (st2 _ _ P H hF).next H.hR (by decide)
      | exact acs_ld (by have := H.hR; omega) (up27 _ _ P H) (by decide) P
      | exact dt_ld (up27 _ _ P H) (by decide) P
      | (have := H.hR; omega)
  · refine mix_ld (o := 256) (c := 384) (a := 256) (b := 512) ?_ (by decide) (vn_ld (o := 256) (a := 256) (b := 512) ?_ (by decide) P) ?_ (by decide) P
    all_goals first
      | (have := H.hR; omega)
      | exact up12 _ _ P H
      | exact up10 _ _ P H
  · refine mix_ld (o := 256) (c := 256) (a := 256) (b := 512) ?_ (by decide) (vn_ld (o := 256) (a := 256) (b := 512) ?_ (by decide) P) ?_ (by decide) P
    all_goals first
      | (have := H.hR; omega)
      | exact up12 _ _ P H
      | exact up10 _ _ P H
  · refine mix_ld (o := 256) (c := 128) (a := 256) (b := 512) ?_ (by decide) (vn_ld (o := 256) (a := 256) (b := 512) ?_ (by decide) P) ?_ (by decide) P
    all_goals first
      | (have := H.hR; omega)
      | exact up12 _ _ P H
      | exact up10 _ _ P H
  · refine mix_ld (o := 256) (c := 0) (a := 256) (b := 512) ?_ (by decide) (vn_ld (o := 256) (a := 256) (b := 512) ?_ (by decide) P) ?_ (by decide) P
    all_goals first
      | (have := H.hR; omega)
      | exact up12 _ _ P H
      | exact up10 _ _ P H
  · refine group_ld (o := 128) (c := 768) (a := 0) (b := 256) (a' := 128) (b' := 256) (by decide) ?_ ?_ (by decide) ?_ (by decide) P
    on_goal 1 => refine cat_sp ?_ ?_ <;> refine ytile_ld (o := 128) (a := 128) (b := 256) (s := 0) (t := 2) ?_ ?_ ?_ (tr_sp ?_ ?_) ?_ ?_ ?_ ?_
    all_goals first
      | decide
      | exact xc2 _ _ P H hF
      | exact lo10 _ _ P H
      | exact (st1 _ _ P H hF).next H.hR (by decide)
      | exact acs_ld (by have := H.hR; omega) (lo27 _ _ P H) (by decide) P
      | exact dt_ld (lo27 _ _ P H) (by decide) P
      | (have := H.hR; omega)
  · refine group_ld (o := 128) (c := 512) (a := 0) (b := 256) (a' := 128) (b' := 256) (by decide) ?_ ?_ (by decide) ?_ (by decide) P
    on_goal 1 => refine cat_sp ?_ ?_ <;> refine ytile_ld (o := 128) (a := 128) (b := 256) (s := 0) (t := 2) ?_ ?_ ?_ (tr_sp ?_ ?_) ?_ ?_ ?_ ?_
    all_goals first
      | decide
      | exact xc2 _ _ P H hF
      | exact lo10 _ _ P H
      | exact (st1 _ _ P H hF).next H.hR (by decide)
      | exact acs_ld (by have := H.hR; omega) (lo27 _ _ P H) (by decide) P
      | exact dt_ld (lo27 _ _ P H) (by decide) P
      | (have := H.hR; omega)
  · refine mix_ld (o := 128) (c := 384) (a := 0) (b := 256) ?_ (by decide) (vn_ld (o := 128) (a := 0) (b := 256) ?_ (by decide) P) ?_ (by decide) P
    all_goals first
      | (have := H.hR; omega)
      | exact lo10 _ _ P H
      | exact lo8 _ _ P H
  · refine mix_ld (o := 128) (c := 256) (a := 0) (b := 256) ?_ (by decide) (vn_ld (o := 128) (a := 0) (b := 256) ?_ (by decide) P) ?_ (by decide) P
    all_goals first
      | (have := H.hR; omega)
      | exact lo10 _ _ P H
      | exact lo8 _ _ P H
  · refine mix_ld (o := 128) (c := 128) (a := 0) (b := 256) ?_ (by decide) (vn_ld (o := 128) (a := 0) (b := 256) ?_ (by decide) P) ?_ (by decide) P
    all_goals first
      | (have := H.hR; omega)
      | exact lo10 _ _ P H
      | exact lo8 _ _ P H
  · refine mix_ld (o := 128) (c := 0) (a := 0) (b := 256) ?_ (by decide) (vn_ld (o := 128) (a := 0) (b := 256) ?_ (by decide) P) ?_ (by decide) P
    all_goals first
      | (have := H.hR; omega)
      | exact lo10 _ _ P H
      | exact lo8 _ _ P H
  · refine group_ld (o := 0) (c := 768) (a := 0) (b := 256) (a' := 0) (b' := 128) (by decide) ?_ ?_ (by decide) ?_ (by decide) P
    on_goal 1 => refine cat_sp ?_ ?_ <;> refine ytile_ld (o := 0) (a := 0) (b := 128) (s := 0) (t := 2) ?_ ?_ ?_ (tr_sp ?_ ?_) ?_ ?_ ?_ ?_
    all_goals first
      | decide
      | exact xc1 _ _ P H hF
      | exact lo7 _ _ P H
      | exact st0 _ _ hF
      | exact acs_ld (by have := H.hR; omega) (lo27 _ _ P H) (by decide) P
      | exact dt_ld (lo27 _ _ P H) (by decide) P
      | (have := H.hR; omega)
  · refine group_ld (o := 0) (c := 512) (a := 0) (b := 256) (a' := 0) (b' := 128) (by decide) ?_ ?_ (by decide) ?_ (by decide) P
    on_goal 1 => refine cat_sp ?_ ?_ <;> refine ytile_ld (o := 0) (a := 0) (b := 128) (s := 0) (t := 2) ?_ ?_ ?_ (tr_sp ?_ ?_) ?_ ?_ ?_ ?_
    all_goals first
      | decide
      | exact xc1 _ _ P H hF
      | exact lo7 _ _ P H
      | exact st0 _ _ hF
      | exact acs_ld (by have := H.hR; omega) (lo27 _ _ P H) (by decide) P
      | exact dt_ld (lo27 _ _ P H) (by decide) P
      | (have := H.hR; omega)
  · refine mix_ld (o := 0) (c := 384) (a := 0) (b := 256) ?_ (by decide) (vn_ld (o := 0) (a := 0) (b := 256) ?_ (by decide) P) ?_ (by decide) P
    all_goals first
      | (have := H.hR; omega)
      | exact lo7 _ _ P H
      | exact lo5 _ _ P H
  · refine mix_ld (o := 0) (c := 256) (a := 0) (b := 256) ?_ (by decide) (vn_ld (o := 0) (a := 0) (b := 256) ?_ (by decide) P) ?_ (by decide) P
    all_goals first
      | (have := H.hR; omega)
      | exact lo7 _ _ P H
      | exact lo5 _ _ P H
  · refine mix_ld (o := 0) (c := 128) (a := 0) (b := 256) ?_ (by decide) (vn_ld (o := 0) (a := 0) (b := 256) ?_ (by decide) P) ?_ (by decide) P
    all_goals first
      | (have := H.hR; omega)
      | exact lo7 _ _ P H
      | exact lo5 _ _ P H
  · refine mix_ld (o := 0) (c := 0) (a := 0) (b := 256) ?_ (by decide) (vn_ld (o := 0) (a := 0) (b := 256) ?_ (by decide) P) ?_ (by decide) P
    all_goals first
      | (have := H.hR; omega)
      | exact lo7 _ _ P H
      | exact lo5 _ _ P H

end Cert.KernelIdeal.Tiles.CaseA
-- ==== Proof.CaseB.lean ====
/-
  What the buffers hold during and after a block that is not the first of a sequence.
-/
module

public import proofs.«01_k».proof.Proof.Words
public import proofs.«01_k».proof.Proof.Gen.KernelIdeal.Frame.RunB

@[expose] public section

set_option maxRecDepth 16384

noncomputable section

namespace Cert.KernelIdeal.Tiles.CaseB

open Idealize.ShloMosaic Idealize.SL.Sem Cert.KernelIdeal Cert.KernelIdeal.Gen Cert.Layer Cert.KernelIdeal.Tiles

local notation "EI" => Elt Ideal

seal shapeCast broadcastTo broadcast extractStridedSlice mulf addf subf divf exp2 truncf extf select transpose concatenate log log1p View.readAt View.writes

variable {I : Inp} {R Rp N : ℕ}
variable {c : Dev nD} {i : grid0.Coords} {arg1 : Memref sig .tc .vmem S512x1024 .f32} {harg1 : arg1.IsWhole} {arg2 : Memref sig .tc .vmem S512x1024 .f32} {harg2 : arg2.IsWhole} {arg3 : Memref sig .tc .vmem S256x1024 .f32} {harg3 : arg3.IsWhole} {arg4 : Memref sig .tc .vmem S1x1024 .f32} {harg4 : arg4.IsWhole} {arg5 : Memref sig .tc .vmem S1024x2560 .bf16} {harg5 : arg5.IsWhole} {arg6 : Memref sig .tc .vmem S1024x128 .bf16} {harg6 : arg6.IsWhole} {arg7 : Memref sig .tc .vmem S1x512 .f32} {harg7 : arg7.IsWhole} {arg8 : Memref sig .tc .vmem S1x512 .f32} {harg8 : arg8.IsWhole} {arg9 : Memref sig .tc .vmem S4x128x256 .bf16} {harg9 : arg9.IsWhole} {arg10 : Memref sig .tc .vmem S128x512 .f32} {harg10 : arg10.IsWhole} {arg11 : Memref sig .tc .vmem S4x1024 .f32} {harg11 : arg11.IsWhole} {arg12 : Memref sig .tc .vmem S1x1024 .f32} {harg12 : arg12.IsWhole} {arg13 : Memref sig .tc .vmem S1x128 .f32} {harg13 : arg13.IsWhole} {arg14 : Memref sig .tc .vmem S1x128 .f32} {harg14 : arg14.IsWhole} {arg15 : Memref sig .tc .vmem S1x512 .f32} {harg15 : arg15.IsWhole} {arg16 : Memref sig .tc .vmem S1x512 .f32} {harg16 : arg16.IsWhole} {arg17 : Memref sig .tc .vmem S256x256 .bf16} {harg17 : arg17.IsWhole} {arg18 : Memref sig .tc .vmem S128x128 .bf16} {harg18 : arg18.IsWhole} {arg19 : Memref sig .tc .vmem S1024x1024 .bf16} {harg19 : arg19.IsWhole} {arg20 : Memref sig .tc .vmem S1x1024 .f32} {harg20 : arg20.IsWhole} {arg21 : Memref sig .tc .vmem S1x1024 .f32} {harg21 : arg21.IsWhole} {arg22 : Memref sig .tc .vmem S1024x4096 .bf16} {harg22 : arg22.IsWhole} {arg23 : Memref sig .tc .vmem S4096x1024 .bf16} {harg23 : arg23.IsWhole} {arg24 : Memref sig .tc .vmem S1x1024 .f32} {harg24 : arg24.IsWhole} {arg25 : Memref sig .tc .vmem S512x1024 .f32} {harg25 : arg25.IsWhole} {arg26 : Memref sig .tc .vmem S512x2560 .f32} {harg26 : arg26.IsWhole} {arg27 : Memref sig .tc .vmem S512x128 .f32} {harg27 : arg27.IsWhole} {arg28 : Memref sig .tc .vmem S512x1024 .bf16} {harg28 : arg28.IsWhole} {arg29 : Memref sig .tc .vmem S520x1024 .f32} {harg29 : arg29.IsWhole} {arg30 : Memref sig .tc .vmem S2x128x256 .f32} {harg30 : arg30.IsWhole} {arg31 : Memref sig .tc .vmem S512x1024 .f32} {harg31 : arg31.IsWhole} {hc0 : ¬cond0_0 i} {hc1 : ¬cond0_1 i} {x0 : Vec Ideal S512x1024 .f32} {x1 : Vec Ideal S512x1024 .f32} {x2 : Vec Ideal S256x1024 .f32} {x3 : Vec Ideal S1x1024 .f32} {x4 : Vec Ideal S1024x2560 .bf16} {x5 : Vec Ideal S1024x128 .bf16} {x6 : Vec Ideal S1x512 .f32} {x7 : Vec Ideal S1x512 .f32} {x8 : Vec Ideal S4x128x256 .bf16} {x9 : Vec Ideal S128x512 .f32} {x10 : Vec Ideal S4x1024 .f32} {x11 : Vec Ideal S1x1024 .f32} {x12 : Vec Ideal S1x128 .f32} {x13 : Vec Ideal S1x128 .f32} {x14 : Vec Ideal S1x512 .f32} {x15 : Vec Ideal S1x512 .f32} {x16 : Vec Ideal S256x256 .bf16} {x17 : Vec Ideal S128x128 .bf16} {x18 : Vec Ideal S1024x1024 .bf16} {x19 : Vec Ideal S1x1024 .f32} {x20 : Vec Ideal S1x1024 .f32} {x21 : Vec Ideal S1024x4096 .bf16} {x22 : Vec Ideal S4096x1024 .bf16} {x23 : Vec Ideal S1x1024 .f32} {xs0 : Vec Ideal S512x2560 .f32} {xs1 : Vec Ideal S512x128 .f32} {xs2 : Vec Ideal S512x1024 .bf16} {xs3 : Vec Ideal S520x1024 .f32} {xs4 : Vec Ideal S2x128x256 .f32}

theorem up5 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS0_5 c arg1 harg1 arg4 harg4 arg5 harg5 x0 x3 x4))) 256 512 fun i j => proj I (R + i) j := by
  unfold kernelRun0_B.sl.HS0_5
  exact cons_w (proj_ld (hn_ld P H.x0) P) (cons_w (proj_ld (hn_ld P H.x0) P) (cons_w (proj_ld (hn_ld P H.x0) P) (cons_w (proj_ld (hn_ld P H.x0) P) (cons_w (proj_ld (hn_ld P H.x0) P) (On.none fun i j _ _ => by unfold Box; omega)))))

theorem up6 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS0_6 c arg1 harg1 arg3 harg3 arg4 harg4 arg5 harg5 x0 x2 x3 x4))) 256 512 fun i j => proj I (R + i) j := by
  unfold kernelRun0_B.sl.HS0_6
  exact skip_on v f (fun i j _ _ _ => by unfold Box; omega) (up5 v f P H)

theorem up7 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS0_7 c arg1 harg1 arg3 harg3 arg4 harg4 arg5 harg5 x0 x2 x3 x4))) 256 512 fun i j => proj I (R + i) j := by
  unfold kernelRun0_B.sl.HS0_7
  exact skip_on v f (fun i j _ _ _ => by unfold Box; omega) (up6 v f P H)

theorem up8 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS0_8 c arg1 harg1 arg3 harg3 arg4 harg4 arg5 harg5 x0 x2 x3 x4))) 256 512 fun i j => proj I (R + i) j := by
  unfold kernelRun0_B.sl.HS0_8
  exact skip_on v f (fun i j _ _ _ => by unfold Box; omega) (up7 v f P H)

theorem up9 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS0_9 c arg1 harg1 arg3 harg3 arg4 harg4 arg5 harg5 x0 x2 x3 x4))) 256 512 fun i j => proj I (R + i) j := by
  unfold kernelRun0_B.sl.HS0_9
  exact skip_on v f (fun i j _ _ _ => by unfold Box; omega) (up8 v f P H)

theorem up10 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS0_10 c arg1 harg1 arg3 harg3 arg4 harg4 arg5 harg5 x0 x2 x3 x4))) 256 512 fun i j => proj I (R + i) j := by
  unfold kernelRun0_B.sl.HS0_10
  exact skip_on v f (fun i j _ _ _ => by unfold Box; omega) (up9 v f P H)

theorem up27 (v : View sig .tc .vmem S512x128 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS1_1 c arg1 harg1 arg4 harg4 arg6 harg6 x0 x3 x5))) 256 512 fun i j => dtr I (R + i) j := by
  unfold kernelRun0_B.sl.HS1_1
  exact cons_w (dtraw_ld (hn_ld P H.x0) P) (On.none fun i j _ _ => by unfold Box; omega)

theorem xp1 (v : View sig .tc .vmem S520x1024 .f32) (f : v.ty.Contents EI) {a : ℕ} (h26 : Rows xs0 0 256 fun i j => proj I (R + i) j) (P : Par I x3 x4 x5 x6 x7 x8 x9 x10 x11 x12 x13 x14 x15 x16 x17 x18 x19 x20 x21 x22 x23) (H : Blk I R Rp N x0 x1 x2) (hf : Rows (v.read EI f) a 8 (xpB I R)) :
    Rows (v.read EI (v.writes EI f (kernelRun0_B.sl.HS3_1 c arg26 harg26 xs0))) a 136 (xpB I R) := by
  unfold kernelRun0_B.sl.HS3_1
  refine cons_w ?_ (nil_on (hf.mono fun i j _ _ => by unfold Box; omega))
  refine keep_ld (a := 0) (b := 256) ?_ (by decide)
  exact rows_in h26

theorem xp2 (v : View sig .tc .vmem S520x1024 .f32) (f : v.ty.Contents EI) {a : ℕ} (h26 : Rows xs0 0 256 fun i j => proj I (R + i) j) (P : Par I x3 x4 x5 x6 x7 x8 x9 x10 x11 x12 x13 x14 x15 x16 x17 x18 x19 x20 x21 x22 x23) (H : Blk I R Rp N x0 x1 x2) (hf : Rows (v.read EI f) a 8 (xpB I R)) :
    Rows (v.read EI (v.writes EI f (kernelRun0_B.sl.HS3_2 c arg26 harg26 xs0))) a 264 (xpB I R) := by
  unfold kernelRun0_B.sl.HS3_2
  refine cons_w ?_ ((xp1 v f h26 P H hf).mono fun i j _ _ => by unfold Box; omega)
  refine keep_ld (a := 0) (b := 256) ?_ (by decide)
  exact rows_in h26

theorem xp3 (v : View sig .tc .vmem S520x1024 .f32) (f : v.ty.Contents EI) {a : ℕ} (h26 : Rows xs0 0 256 fun i j => proj I (R + i) j) (P : Par I x3 x4 x5 x6 x7 x8 x9 x10 x11 x12 x13 x14 x15 x16 x17 x18 x19 x20 x21 x22 x23) (H : Blk I R Rp N x0 x1 x2) (hf : Rows (v.read EI f) a 8 (xpB I R)) :
    Rows (v.read EI (v.writes EI f (kernelRun0_B.sl.HS3_3 c arg1 harg1 arg3 harg3 arg4 harg4 arg5 harg5 arg26 harg26 x0 x2 x3 x4 xs0))) a 392 (xpB I R) := by
  unfold kernelRun0_B.sl.HS3_3
  refine cons_w ?_ ((xp2 v f h26 P H hf).mono fun i j _ _ => by unfold Box; omega)
  refine keep_ld (a := 256) (b := 512) ?_ (by decide)
  exact up6 _ _ P H

theorem xp4 (v : View sig .tc .vmem S520x1024 .f32) (f : v.ty.Contents EI) {a : ℕ} (h26 : Rows xs0 0 256 fun i j => proj I (R + i) j) (P : Par I x3 x4 x5 x6 x7 x8 x9 x10 x11 x12 x13 x14 x15 x16 x17 x18 x19 x20 x21 x22 x23) (H : Blk I R Rp N x0 x1 x2) (hf : Rows (v.read EI f) a 8 (xpB I R)) :
    Rows (v.read EI (v.writes EI f (kernelRun0_B.sl.HS3_4 c arg1 harg1 arg3 harg3 arg4 harg4 arg5 harg5 arg26 harg26 x0 x2 x3 x4 xs0))) a 520 (xpB I R) := by
  unfold kernelRun0_B.sl.HS3_4
  refine cons_w ?_ ((xp3 v f h26 P H hf).mono fun i j _ _ => by unfold Box; omega)
  refine keep_ld (a := 256) (b := 512) ?_ (by decide)
  exact up9 _ _ P H

theorem xc1 (v : View sig .tc .vmem S512x1024 .f32) (f : v.ty.Contents EI) (h26 : Rows xs0 0 256 fun i j => proj I (R + i) j) (P : Par I x3 x4 x5 x6 x7 x8 x9 x10 x11 x12 x13 x14 x15 x16 x17 x18 x19 x20 x21 x22 x23) (H : Blk I R Rp N x0 x1 x2) (h29 : Rows xs3 0 8 (xpB I R)) :
    Rows (v.read EI (v.writes EI f (kernelRun0_B.sl.HS5_8 c arg11 harg11 arg12 harg12 arg26 harg26 arg29 harg29 x10 x11 xs0 xs3))) 0 128 fun i j => xc I (R + i) j := by
  unfold kernelRun0_B.sl.HS5_8
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp1 (a := 8) _ _ h26 P H (On.none fun i j _ _ => by omega)) (xp1 (a := 0) _ _ h26 P H (rows_in h29)) (xp1 (a := 0) _ _ h26 P H (rows_in h29)) (xp1 (a := 0) _ _ h26 P H (rows_in h29)) (by decide) P

theorem xc2 (v : View sig .tc .vmem S512x1024 .f32) (f : v.ty.Contents EI) (h26 : Rows xs0 0 256 fun i j => proj I (R + i) j) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS5_16 c arg11 harg11 arg12 harg12 arg26 harg26 arg29 harg29 x10 x11 xs0 xs3))) 128 256 fun i j => xc I (R + i) j := by
  unfold kernelRun0_B.sl.HS5_16
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp2 (a := 8) _ _ h26 P H (On.none fun i j _ _ => by omega)) (xp2 (a := 8) _ _ h26 P H (On.none fun i j _ _ => by omega)) (xp2 (a := 8) _ _ h26 P H (On.none fun i j _ _ => by omega)) (xp2 (a := 8) _ _ h26 P H (On.none fun i j _ _ => by omega)) (by decide) P

theorem xc3 (v : View sig .tc .vmem S512x1024 .f32) (f : v.ty.Contents EI) (h26 : Rows xs0 0 256 fun i j => proj I (R + i) j) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS5_24 c arg1 harg1 arg3 harg3 arg4 harg4 arg5 harg5 arg11 harg11 arg12 harg12 arg26 harg26 arg29 harg29 x0 x2 x3 x4 x10 x11 xs0 xs3))) 256 384 fun i j => xc I (R + i) j := by
  unfold kernelRun0_B.sl.HS5_24
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp3 (a := 8) _ _ h26 P H (On.none fun i j _ _ => by omega)) (xp3 (a := 8) _ _ h26 P H (On.none fun i j _ _ => by omega)) (xp3 (a := 8) _ _ h26 P H (On.none fun i j _ _ => by omega)) (xp3 (a := 8) _ _ h26 P H (On.none fun i j _ _ => by omega)) (by decide) P

theorem xc4 (v : View sig .tc .vmem S512x1024 .f32) (f : v.ty.Contents EI) (h26 : Rows xs0 0 256 fun i j => proj I (R + i) j) (P : Par I x3 x4 x5 x6 x7 x8 x9 x10 x11 x12 x13 x14 x15 x16 x17 x18 x19 x20 x21 x22 x23) (H : Blk I R Rp N x0 x1 x2) :
    Rows (v.read EI (v.writes EI f (kernelRun0_B.sl.HS5_32 c arg1 harg1 arg3 harg3 arg4 harg4 arg5 harg5 arg11 harg11 arg12 harg12 arg26 harg26 arg29 harg29 x0 x2 x3 x4 x10 x11 xs0 xs3))) 384 512 fun i j => xc I (R + i) j := by
  unfold kernelRun0_B.sl.HS5_32
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp4 (a := 8) _ _ h26 P H (On.none fun i j _ _ => by omega)) (xp4 (a := 8) _ _ h26 P H (On.none fun i j _ _ => by omega)) (xp4 (a := 8) _ _ h26 P H (On.none fun i j _ _ => by omega)) (xp4 (a := 8) _ _ h26 P H (On.none fun i j _ _ => by omega)) (by decide) P

theorem st1 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (h29 : Rows xs3 0 8 (xpB I R)) (h30 : On3 xs4 (fun g _ _ => 0 ≤ g ∧ g < 2) (stG (st I (R / 128)))) :
    On3 (v.read EI (v.writes EI f (kernelRun0_B.sl.HS4_4 c arg11 harg11 arg12 harg12 arg13 harg13 arg14 harg14 arg18 harg18 arg26 harg26 arg27 harg27 arg29 harg29 arg30 harg30 arg31 x10 x11 x12 x13 x17 xs0 xs1 xs3 xs4))) (fun g _ _ => 0 ≤ g ∧ g < 2) (stG (stOut I ((R + 0) / 128))) := by
  unfold kernelRun0_B.sl.HS4_4
  refine cons_w3 ?_ (cons_w3 ?_ (cons_w3 ?_ (cons_w3 ?_ (On3.none fun i j k _ _ _ => by unfold Box3; omega))))
  all_goals refine stnew_ld (a := 0) (b := 128) (s := 0) (t := 2) ?_ ?_ ?_ (tr_sp ?_ ?_) ?_ ?_ ?_ ?_
  all_goals first
    | decide
    | exact xc1 _ _ h26 P H h29
    | (rw [harg30.read_unread]; exact h30)
    | exact acs_ld (by have := H.hR; omega) (rows_in h27) (by decide) P
    | exact dt_ld (rows_in h27) (by decide) P
    | (have := H.hR; omega)

theorem st2 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (h29 : Rows xs3 0 8 (xpB I R)) (h30 : On3 xs4 (fun g _ _ => 0 ≤ g ∧ g < 2) (stG (st I (R / 128)))) :
    On3 (v.read EI (v.writes EI f (kernelRun0_B.sl.HS4_8 c arg11 harg11 arg12 harg12 arg13 harg13 arg14 harg14 arg18 harg18 arg26 harg26 arg27 harg27 arg29 harg29 arg30 harg30 arg31 x10 x11 x12 x13 x17 xs0 xs1 xs3 xs4))) (fun g _ _ => 0 ≤ g ∧ g < 2) (stG (stOut I ((R + 128) / 128))) := by
  unfold kernelRun0_B.sl.HS4_8
  refine cons_w3 ?_ (cons_w3 ?_ (cons_w3 ?_ (cons_w3 ?_ (On3.none fun i j k _ _ _ => by unfold Box3; omega))))
  all_goals refine stnew_ld (a := 128) (b := 256) (s := 0) (t := 2) ?_ ?_ ?_ (tr_sp ?_ ?_) ?_ ?_ ?_ ?_
  all_goals first
    | decide
    | exact xc2 _ _ h26 P H
    | exact (st1 _ _ P H h26 h27 h29 h30).next H.hR (by decide)
    | exact acs_ld (by have := H.hR; omega) (rows_in h27) (by decide) P
    | exact dt_ld (rows_in h27) (by decide) P
    | (have := H.hR; omega)

theorem st3 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (h29 : Rows xs3 0 8 (xpB I R)) (h30 : On3 xs4 (fun g _ _ => 0 ≤ g ∧ g < 2) (stG (st I (R / 128)))) :
    On3 (v.read EI (v.writes EI f (kernelRun0_B.sl.HS4_12 c arg1 harg1 arg3 harg3 arg4 harg4 arg5 harg5 arg6 harg6 arg11 harg11 arg12 harg12 arg13 harg13 arg14 harg14 arg18 harg18 arg26 harg26 arg27 harg27 arg29 harg29 arg30 harg30 arg31 x0 x2 x3 x4 x5 x10 x11 x12 x13 x17 xs0 xs1 xs3 xs4))) (fun g _ _ => 0 ≤ g ∧ g < 2) (stG (stOut I ((R + 256) / 128))) := by
  unfold kernelRun0_B.sl.HS4_12
  refine cons_w3 ?_ (cons_w3 ?_ (cons_w3 ?_ (cons_w3 ?_ (On3.none fun i j k _ _ _ => by unfold Box3; omega))))
  all_goals refine stnew_ld (a := 256) (b := 384) (s := 0) (t := 2) ?_ ?_ ?_ (tr_sp ?_ ?_) ?_ ?_ ?_ ?_
  all_goals first
    | decide
    | exact xc3 _ _ h26 P H
    | exact (st2 _ _ P H h26 h27 h29 h30).next H.hR (by decide)
    | exact acs_ld (by have := H.hR; omega) (up27 _ _ P H) (by decide) P
    | exact dt_ld (up27 _ _ P H) (by decide) P
    | (have := H.hR; omega)

theorem out_all (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (h28 : Rd xs2 fun i j => mix I (Rp + i) j) :
    Rows (v.read EI (v.writes EI f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).1)) 0 512 fun i j => Cert.Layer.out I (Rp + i) j := by
  refine cons_w ?_ (cons_w ?_ (On.none fun i j _ _ => by unfold Box; omega))
  all_goals refine out_ld (x1_ld (a := 0) (b := 512) ?_ (by decide) H.x1 P) (ffn_ld (h2_ld (x1_ld (a := 0) (b := 512) ?_ (by decide) H.x1 P) P) (h2_ld (x1_ld (a := 0) (b := 512) ?_ (by decide) H.x1 P) P) P) P
  all_goals exact rows_in_h (fun i j _ => h28 i j)

theorem proj_all (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.1)) 0 256 fun i j => proj I (N + i) j := by
  refine cons_w ?_ (cons_w ?_ (cons_w ?_ (cons_w ?_ (cons_w ?_ (On.none fun i j _ _ => by unfold Box; omega)))))
  all_goals exact proj_ld (hn_ld P H.x2) P

theorem dtr_all (v : View sig .tc .vmem S512x128 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.1)) 0 256 fun i j => dtr I (N + i) j := by
  refine cons_w ?_ (On.none fun i j _ _ => by unfold Box; omega)
  exact dtraw_ld (hn_ld P H.x2) P

theorem keep_all (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (h29 : Rows xs3 0 8 (xpB I R)) (h30 : On3 xs4 (fun g _ _ => 0 ≤ g ∧ g < 2) (stG (st I (R / 128)))) :
    Rows (v.read EI (v.writes EI f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.2.1)) 0 8 fun i j => proj I (R + 504 + i) (1536 + j) := by
  refine cons_w ?_ (On.none fun i j _ _ => by unfold Box; omega)
  exact keep8_ld (a := 8) (xp4 (a := 8) _ _ h26 P H (On.none fun i j _ _ => by omega)) (by decide)

theorem st_all (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (h29 : Rows xs3 0 8 (xpB I R)) (h30 : On3 xs4 (fun g _ _ => 0 ≤ g ∧ g < 2) (stG (st I (R / 128)))) :
    On3 (v.read EI (v.writes EI f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.2.2.1)) (fun g _ _ => 0 ≤ g ∧ g < 2) (stG (stOut I ((R + 384) / 128))) := by
  refine cons_w3 ?_ (cons_w3 ?_ (cons_w3 ?_ (cons_w3 ?_ (On3.none fun i j k _ _ _ => by unfold Box3; omega))))
  all_goals refine stnew_ld (a := 384) (b := 512) (s := 0) (t := 2) ?_ ?_ ?_ (tr_sp ?_ ?_) ?_ ?_ ?_ ?_
  all_goals first
    | decide
    | exact xc4 _ _ h26 P H
    | exact (st3 _ _ P H h26 h27 h29 h30).next H.hR (by decide)
    | exact acs_ld (by have := H.hR; omega) (up27 _ _ P H) (by decide) P
    | exact dt_ld (up27 _ _ P H) (by decide) P
    | (have := H.hR; omega)

end Cert.KernelIdeal.Tiles.CaseB
-- ==== Proof.MixB.lean ====
/-
  What the buffer of mixed rows holds during and after a block that is not the first of a sequence.
-/
module

public import proofs.«01_k».proof.Proof.CaseB

@[expose] public section

set_option maxRecDepth 16384

noncomputable section

namespace Cert.KernelIdeal.Tiles.CaseB

open Idealize.ShloMosaic Idealize.SL.Sem Cert.KernelIdeal Cert.KernelIdeal.Gen Cert.Layer Cert.KernelIdeal.Tiles

local notation "EI" => Elt Ideal

seal shapeCast broadcastTo broadcast extractStridedSlice mulf addf subf divf exp2 truncf extf select transpose concatenate log log1p View.readAt View.writes

variable {I : Inp} {R Rp N : ℕ}
variable {c : Dev nD} {i : grid0.Coords} {arg1 : Memref sig .tc .vmem S512x1024 .f32} {harg1 : arg1.IsWhole} {arg2 : Memref sig .tc .vmem S512x1024 .f32} {harg2 : arg2.IsWhole} {arg3 : Memref sig .tc .vmem S256x1024 .f32} {harg3 : arg3.IsWhole} {arg4 : Memref sig .tc .vmem S1x1024 .f32} {harg4 : arg4.IsWhole} {arg5 : Memref sig .tc .vmem S1024x2560 .bf16} {harg5 : arg5.IsWhole} {arg6 : Memref sig .tc .vmem S1024x128 .bf16} {harg6 : arg6.IsWhole} {arg7 : Memref sig .tc .vmem S1x512 .f32} {harg7 : arg7.IsWhole} {arg8 : Memref sig .tc .vmem S1x512 .f32} {harg8 : arg8.IsWhole} {arg9 : Memref sig .tc .vmem S4x128x256 .bf16} {harg9 : arg9.IsWhole} {arg10 : Memref sig .tc .vmem S128x512 .f32} {harg10 : arg10.IsWhole} {arg11 : Memref sig .tc .vmem S4x1024 .f32} {harg11 : arg11.IsWhole} {arg12 : Memref sig .tc .vmem S1x1024 .f32} {harg12 : arg12.IsWhole} {arg13 : Memref sig .tc .vmem S1x128 .f32} {harg13 : arg13.IsWhole} {arg14 : Memref sig .tc .vmem S1x128 .f32} {harg14 : arg14.IsWhole} {arg15 : Memref sig .tc .vmem S1x512 .f32} {harg15 : arg15.IsWhole} {arg16 : Memref sig .tc .vmem S1x512 .f32} {harg16 : arg16.IsWhole} {arg17 : Memref sig .tc .vmem S256x256 .bf16} {harg17 : arg17.IsWhole} {arg18 : Memref sig .tc .vmem S128x128 .bf16} {harg18 : arg18.IsWhole} {arg19 : Memref sig .tc .vmem S1024x1024 .bf16} {harg19 : arg19.IsWhole} {arg20 : Memref sig .tc .vmem S1x1024 .f32} {harg20 : arg20.IsWhole} {arg21 : Memref sig .tc .vmem S1x1024 .f32} {harg21 : arg21.IsWhole} {arg22 : Memref sig .tc .vmem S1024x4096 .bf16} {harg22 : arg22.IsWhole} {arg23 : Memref sig .tc .vmem S4096x1024 .bf16} {harg23 : arg23.IsWhole} {arg24 : Memref sig .tc .vmem S1x1024 .f32} {harg24 : arg24.IsWhole} {arg25 : Memref sig .tc .vmem S512x1024 .f32} {harg25 : arg25.IsWhole} {arg26 : Memref sig .tc .vmem S512x2560 .f32} {harg26 : arg26.IsWhole} {arg27 : Memref sig .tc .vmem S512x128 .f32} {harg27 : arg27.IsWhole} {arg28 : Memref sig .tc .vmem S512x1024 .bf16} {harg28 : arg28.IsWhole} {arg29 : Memref sig .tc .vmem S520x1024 .f32} {harg29 : arg29.IsWhole} {arg30 : Memref sig .tc .vmem S2x128x256 .f32} {harg30 : arg30.IsWhole} {arg31 : Memref sig .tc .vmem S512x1024 .f32} {harg31 : arg31.IsWhole} {hc0 : ¬cond0_0 i} {hc1 : ¬cond0_1 i} {x0 : Vec Ideal S512x1024 .f32} {x1 : Vec Ideal S512x1024 .f32} {x2 : Vec Ideal S256x1024 .f32} {x3 : Vec Ideal S1x1024 .f32} {x4 : Vec Ideal S1024x2560 .bf16} {x5 : Vec Ideal S1024x128 .bf16} {x6 : Vec Ideal S1x512 .f32} {x7 : Vec Ideal S1x512 .f32} {x8 : Vec Ideal S4x128x256 .bf16} {x9 : Vec Ideal S128x512 .f32} {x10 : Vec Ideal S4x1024 .f32} {x11 : Vec Ideal S1x1024 .f32} {x12 : Vec Ideal S1x128 .f32} {x13 : Vec Ideal S1x128 .f32} {x14 : Vec Ideal S1x512 .f32} {x15 : Vec Ideal S1x512 .f32} {x16 : Vec Ideal S256x256 .bf16} {x17 : Vec Ideal S128x128 .bf16} {x18 : Vec Ideal S1024x1024 .bf16} {x19 : Vec Ideal S1x1024 .f32} {x20 : Vec Ideal S1x1024 .f32} {x21 : Vec Ideal S1024x4096 .bf16} {x22 : Vec Ideal S4096x1024 .bf16} {x23 : Vec Ideal S1x1024 .f32} {xs0 : Vec Ideal S512x2560 .f32} {xs1 : Vec Ideal S512x128 .f32} {xs2 : Vec Ideal S512x1024 .bf16} {xs3 : Vec Ideal S520x1024 .f32} {xs4 : Vec Ideal S2x128x256 .f32}

set_option maxHeartbeats 4000000 in
theorem mix_all (v : View sig .tc .vmem S512x1024 .bf16) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (h29 : Rows xs3 0 8 (xpB I R)) (h30 : On3 xs4 (fun g _ _ => 0 ≤ g ∧ g < 2) (stG (st I (R / 128)))) :
    Rows (v.read EI (v.writes EI f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2 xs3 xs4).2.2.2.1)) 0 512 fun i j => mix I (R + i) j := by
  refine cons_h ?_ (cons_h ?_ (cons_h ?_ (cons_h ?_ (cons_h ?_ (cons_h ?_ (On.mono (P := fun r _ => 0 ≤ r ∧ r < 384) (cons_h ?_ (cons_h ?_ (cons_h ?_ (cons_h ?_ (cons_h ?_ (cons_h ?_ (On.mono (P := fun r _ => 0 ≤ r ∧ r < 256) (cons_h ?_ (cons_h ?_ (cons_h ?_ (cons_h ?_ (cons_h ?_ (cons_h ?_ (On.mono (P := fun r _ => 0 ≤ r ∧ r < 128) (cons_h ?_ (cons_h ?_ (cons_h ?_ (cons_h ?_ (cons_h ?_ (cons_h ?_ (On.none fun i j _ _ => by unfold Box; omega))))))) (fun i j _ _ => by unfold Box; omega)))))))) (fun i j _ _ => by unfold Box; omega)))))))) (fun i j _ _ => by unfold Box; omega)))))))
  · refine group_ld (o := 384) (c := 768) (a := 256) (b := 512) (a' := 384) (b' := 512) (by decide) ?_ ?_ (by decide) ?_ (by decide) P
    on_goal 1 => refine cat_sp ?_ ?_ <;> refine ytile_ld (o := 384) (a := 384) (b := 512) (s := 0) (t := 2) ?_ ?_ ?_ (tr_sp ?_ ?_) ?_ ?_ ?_ ?_
    all_goals first
      | decide
      | exact xc4 _ _ h26 P H
      | exact up10 _ _ P H
      | exact (st3 _ _ P H h26 h27 h29 h30).next H.hR (by decide)
      | exact acs_ld (by have := H.hR; omega) (up27 _ _ P H) (by decide) P
      | exact dt_ld (up27 _ _ P H) (by decide) P
      | (have := H.hR; omega)
  · refine group_ld (o := 384) (c := 512) (a := 256) (b := 512) (a' := 384) (b' := 512) (by decide) ?_ ?_ (by decide) ?_ (by decide) P
    on_goal 1 => refine cat_sp ?_ ?_ <;> refine ytile_ld (o := 384) (a := 384) (b := 512) (s := 0) (t := 2) ?_ ?_ ?_ (tr_sp ?_ ?_) ?_ ?_ ?_ ?_
    all_goals first
      | decide
      | exact xc4 _ _ h26 P H
      | exact up10 _ _ P H
      | exact (st3 _ _ P H h26 h27 h29 h30).next H.hR (by decide)
      | exact acs_ld (by have := H.hR; omega) (up27 _ _ P H) (by decide) P
      | exact dt_ld (up27 _ _ P H) (by decide) P
      | (have := H.hR; omega)
  · refine mix_ld (o := 384) (c := 384) (a := 256) (b := 512) ?_ (by decide) (vn_ld (o := 384) (a := 256) (b := 512) ?_ (by decide) P) ?_ (by decide) P
    all_goals first
      | (have := H.hR; omega)
      | exact up10 _ _ P H
      | exact up8 _ _ P H
  · refine mix_ld (o := 384) (c := 256) (a := 256) (b := 512) ?_ (by decide) (vn_ld (o := 384) (a := 256) (b := 512) ?_ (by decide) P) ?_ (by decide) P
    all_goals first
      | (have := H.hR; omega)
      | exact up10 _ _ P H
      | exact up8 _ _ P H
  · refine mix_ld (o := 384) (c := 128) (a := 256) (b := 512) ?_ (by decide) (vn_ld (o := 384) (a := 256) (b := 512) ?_ (by decide) P) ?_ (by decide) P
    all_goals first
      | (have := H.hR; omega)
      | exact up10 _ _ P H
      | exact up8 _ _ P H
  · refine mix_ld (o := 384) (c := 0) (a := 256) (b := 512) ?_ (by decide) (vn_ld (o := 384) (a := 256) (b := 512) ?_ (by decide) P) ?_ (by decide) P
    all_goals first
      | (have := H.hR; omega)
      | exact up10 _ _ P H
      | exact up8 _ _ P H
  · refine group_ld (o := 256) (c := 768) (a := 256) (b := 512) (a' := 256) (b' := 384) (by decide) ?_ ?_ (by decide) ?_ (by decide) P
    on_goal 1 => refine cat_sp ?_ ?_ <;> refine ytile_ld (o := 256) (a := 256) (b := 384) (s := 0) (t := 2) ?_ ?_ ?_ (tr_sp ?_ ?_) ?_ ?_ ?_ ?_
    all_goals first
      | decide
      | exact xc3 _ _ h26 P H
      | exact up7 _ _ P H
      | exact (st2 _ _ P H h26 h27 h29 h30).next H.hR (by decide)
      | exact acs_ld (by have := H.hR; omega) (up27 _ _ P H) (by decide) P
      | exact dt_ld (up27 _ _ P H) (by decide) P
      | (have := H.hR; omega)
  · refine group_ld (o := 256) (c := 512) (a := 256) (b := 512) (a' := 256) (b' := 384) (by decide) ?_ ?_ (by decide) ?_ (by decide) P
    on_goal 1 => refine cat_sp ?_ ?_ <;> refine ytile_ld (o := 256) (a := 256) (b := 384) (s := 0) (t := 2) ?_ ?_ ?_ (tr_sp ?_ ?_) ?_ ?_ ?_ ?_
    all_goals first
      | decide
      | exact xc3 _ _ h26 P H
      | exact up7 _ _ P H
      | exact (st2 _ _ P H h26 h27 h29 h30).next H.hR (by decide)
      | exact acs_ld (by have := H.hR; omega) (up27 _ _ P H) (by decide) P
      | exact dt_ld (up27 _ _ P H) (by decide) P
      | (have := H.hR; omega)
  · refine mix_ld (o := 256) (c := 384) (a := 256) (b := 512) ?_ (by decide) (vn_ld (o := 256) (a := 256) (b := 512) ?_ (by decide) P) ?_ (by decide) P
    all_goals first
      | (have := H.hR; omega)
      | exact up7 _ _ P H
      | exact up5 _ _ P H
  · refine mix_ld (o := 256) (c := 256) (a := 256) (b := 512) ?_ (by decide) (vn_ld (o := 256) (a := 256) (b := 512) ?_ (by decide) P) ?_ (by decide) P
    all_goals first
      | (have := H.hR; omega)
      | exact up7 _ _ P H
      | exact up5 _ _ P H
  · refine mix_ld (o := 256) (c := 128) (a := 256) (b := 512) ?_ (by decide) (vn_ld (o := 256) (a := 256) (b := 512) ?_ (by decide) P) ?_ (by decide) P
    all_goals first
      | (have := H.hR; omega)
      | exact up7 _ _ P H
      | exact up5 _ _ P H
  · refine mix_ld (o := 256) (c := 0) (a := 256) (b := 512) ?_ (by decide) (vn_ld (o := 256) (a := 256) (b := 512) ?_ (by decide) P) ?_ (by decide) P
    all_goals first
      | (have := H.hR; omega)
      | exact up7 _ _ P H
      | exact up5 _ _ P H
  · refine group_ld (o := 128) (c := 768) (a := 0) (b := 256) (a' := 128) (b' := 256) (by decide) ?_ ?_ (by decide) ?_ (by decide) P
    on_goal 1 => refine cat_sp ?_ ?_ <;> refine ytile_ld (o := 128) (a := 128) (b := 256) (s := 0) (t := 2) ?_ ?_ ?_ (tr_sp ?_ ?_) ?_ ?_ ?_ ?_
    all_goals first
      | decide
      | exact xc2 _ _ h26 P H
      | exact rows_in h26
      | exact (st1 _ _ P H h26 h27 h29 h30).next H.hR (by decide)
      | exact acs_ld (by have := H.hR; omega) (rows_in h27) (by decide) P
      | exact dt_ld (rows_in h27) (by decide) P
      | (have := H.hR; omega)
  · refine group_ld (o := 128) (c := 512) (a := 0) (b := 256) (a' := 128) (b' := 256) (by decide) ?_ ?_ (by decide) ?_ (by decide) P
    on_goal 1 => refine cat_sp ?_ ?_ <;> refine ytile_ld (o := 128) (a := 128) (b := 256) (s := 0) (t := 2) ?_ ?_ ?_ (tr_sp ?_ ?_) ?_ ?_ ?_ ?_
    all_goals first
      | decide
      | exact xc2 _ _ h26 P H
      | exact rows_in h26
      | exact (st1 _ _ P H h26 h27 h29 h30).next H.hR (by decide)
      | exact acs_ld (by have := H.hR; omega) (rows_in h27) (by decide) P
      | exact dt_ld (rows_in h27) (by decide) P
      | (have := H.hR; omega)
  · refine mix_ld (o := 128) (c := 384) (a := 0) (b := 256) ?_ (by decide) (vn_ld (o := 128) (a := 0) (b := 256) ?_ (by decide) P) ?_ (by decide) P
    all_goals first
      | (have := H.hR; omega)
      | exact rows_in h26
  · refine mix_ld (o := 128) (c := 256) (a := 0) (b := 256) ?_ (by decide) (vn_ld (o := 128) (a := 0) (b := 256) ?_ (by decide) P) ?_ (by decide) P
    all_goals first
      | (have := H.hR; omega)
      | exact rows_in h26
  · refine mix_ld (o := 128) (c := 128) (a := 0) (b := 256) ?_ (by decide) (vn_ld (o := 128) (a := 0) (b := 256) ?_ (by decide) P) ?_ (by decide) P
    all_goals first
      | (have := H.hR; omega)
      | exact rows_in h26
  · refine mix_ld (o := 128) (c := 0) (a := 0) (b := 256) ?_ (by decide) (vn_ld (o := 128) (a := 0) (b := 256) ?_ (by decide) P) ?_ (by decide) P
    all_goals first
      | (have := H.hR; omega)
      | exact rows_in h26
  · refine group_ld (o := 0) (c := 768) (a := 0) (b := 256) (a' := 0) (b' := 128) (by decide) ?_ ?_ (by decide) ?_ (by decide) P
    on_goal 1 => refine cat_sp ?_ ?_ <;> refine ytile_ld (o := 0) (a := 0) (b := 128) (s := 0) (t := 2) ?_ ?_ ?_ (tr_sp ?_ ?_) ?_ ?_ ?_ ?_
    all_goals first
      | decide
      | exact xc1 _ _ h26 P H h29
      | exact rows_in h26
      | (rw [harg30.read_unread]; exact h30)
      | exact acs_ld (by have := H.hR; omega) (rows_in h27) (by decide) P
      | exact dt_ld (rows_in h27) (by decide) P
      | (have := H.hR; omega)
  · refine group_ld (o := 0) (c := 512) (a := 0) (b := 256) (a' := 0) (b' := 128) (by decide) ?_ ?_ (by decide) ?_ (by decide) P
    on_goal 1 => refine cat_sp ?_ ?_ <;> refine ytile_ld (o := 0) (a := 0) (b := 128) (s := 0) (t := 2) ?_ ?_ ?_ (tr_sp ?_ ?_) ?_ ?_ ?_ ?_
    all_goals first
      | decide
      | exact xc1 _ _ h26 P H h29
      | exact rows_in h26
      | (rw [harg30.read_unread]; exact h30)
      | exact acs_ld (by have := H.hR; omega) (rows_in h27) (by decide) P
      | exact dt_ld (rows_in h27) (by decide) P
      | (have := H.hR; omega)
  · refine mix_ld (o := 0) (c := 384) (a := 0) (b := 256) ?_ (by decide) (vn_ld (o := 0) (a := 0) (b := 256) ?_ (by decide) P) ?_ (by decide) P
    all_goals first
      | (have := H.hR; omega)
      | exact rows_in h26
  · refine mix_ld (o := 0) (c := 256) (a := 0) (b := 256) ?_ (by decide) (vn_ld (o := 0) (a := 0) (b := 256) ?_ (by decide) P) ?_ (by decide) P
    all_goals first
      | (have := H.hR; omega)
      | exact rows_in h26
  · refine mix_ld (o := 0) (c := 128) (a := 0) (b := 256) ?_ (by decide) (vn_ld (o := 0) (a := 0) (b := 256) ?_ (by decide) P) ?_ (by decide) P
    all_goals first
      | (have := H.hR; omega)
      | exact rows_in h26
  · refine mix_ld (o := 0) (c := 0) (a := 0) (b := 256) ?_ (by decide) (vn_ld (o := 0) (a := 0) (b := 256) ?_ (by decide) P) ?_ (by decide) P
    all_goals first
      | (have := H.hR; omega)
      | exact rows_in h26

end Cert.KernelIdeal.Tiles.CaseB
-- ==== Proof.CaseC.lean ====
/-
  What the buffers hold during and after the first block of a sequence other than the first.
-/
module

public import proofs.«01_k».proof.Proof.Words
public import proofs.«01_k».proof.Proof.Gen.KernelIdeal.Frame.RunC

@[expose] public section

set_option maxRecDepth 16384

noncomputable section

namespace Cert.KernelIdeal.Tiles.CaseC

open Idealize.ShloMosaic Idealize.SL.Sem Cert.KernelIdeal Cert.KernelIdeal.Gen Cert.Layer Cert.KernelIdeal.Tiles

local notation "EI" => Elt Ideal

seal shapeCast broadcastTo broadcast extractStridedSlice mulf addf subf divf exp2 truncf extf select transpose concatenate log log1p View.readAt View.writes

variable {I : Inp} {R Rp N : ℕ}
variable {c : Dev nD} {i : grid0.Coords} {arg1 : Memref sig .tc .vmem S512x1024 .f32} {harg1 : arg1.IsWhole} {arg2 : Memref sig .tc .vmem S512x1024 .f32} {harg2 : arg2.IsWhole} {arg3 : Memref sig .tc .vmem S256x1024 .f32} {harg3 : arg3.IsWhole} {arg4 : Memref sig .tc .vmem S1x1024 .f32} {harg4 : arg4.IsWhole} {arg5 : Memref sig .tc .vmem S1024x2560 .bf16} {harg5 : arg5.IsWhole} {arg6 : Memref sig .tc .vmem S1024x128 .bf16} {harg6 : arg6.IsWhole} {arg7 : Memref sig .tc .vmem S1x512 .f32} {harg7 : arg7.IsWhole} {arg8 : Memref sig .tc .vmem S1x512 .f32} {harg8 : arg8.IsWhole} {arg9 : Memref sig .tc .vmem S4x128x256 .bf16} {harg9 : arg9.IsWhole} {arg10 : Memref sig .tc .vmem S128x512 .f32} {harg10 : arg10.IsWhole} {arg11 : Memref sig .tc .vmem S4x1024 .f32} {harg11 : arg11.IsWhole} {arg12 : Memref sig .tc .vmem S1x1024 .f32} {harg12 : arg12.IsWhole} {arg13 : Memref sig .tc .vmem S1x128 .f32} {harg13 : arg13.IsWhole} {arg14 : Memref sig .tc .vmem S1x128 .f32} {harg14 : arg14.IsWhole} {arg15 : Memref sig .tc .vmem S1x512 .f32} {harg15 : arg15.IsWhole} {arg16 : Memref sig .tc .vmem S1x512 .f32} {harg16 : arg16.IsWhole} {arg17 : Memref sig .tc .vmem S256x256 .bf16} {harg17 : arg17.IsWhole} {arg18 : Memref sig .tc .vmem S128x128 .bf16} {harg18 : arg18.IsWhole} {arg19 : Memref sig .tc .vmem S1024x1024 .bf16} {harg19 : arg19.IsWhole} {arg20 : Memref sig .tc .vmem S1x1024 .f32} {harg20 : arg20.IsWhole} {arg21 : Memref sig .tc .vmem S1x1024 .f32} {harg21 : arg21.IsWhole} {arg22 : Memref sig .tc .vmem S1024x4096 .bf16} {harg22 : arg22.IsWhole} {arg23 : Memref sig .tc .vmem S4096x1024 .bf16} {harg23 : arg23.IsWhole} {arg24 : Memref sig .tc .vmem S1x1024 .f32} {harg24 : arg24.IsWhole} {arg25 : Memref sig .tc .vmem S512x1024 .f32} {harg25 : arg25.IsWhole} {arg26 : Memref sig .tc .vmem S512x2560 .f32} {harg26 : arg26.IsWhole} {arg27 : Memref sig .tc .vmem S512x128 .f32} {harg27 : arg27.IsWhole} {arg28 : Memref sig .tc .vmem S512x1024 .bf16} {harg28 : arg28.IsWhole} {arg29 : Memref sig .tc .vmem S520x1024 .f32} {harg29 : arg29.IsWhole} {arg30 : Memref sig .tc .vmem S2x128x256 .f32} {harg30 : arg30.IsWhole} {arg31 : Memref sig .tc .vmem S512x1024 .f32} {harg31 : arg31.IsWhole} {hc0 : ¬cond0_0 i} {hc1 : cond0_1 i} {x0 : Vec Ideal S512x1024 .f32} {x1 : Vec Ideal S512x1024 .f32} {x2 : Vec Ideal S256x1024 .f32} {x3 : Vec Ideal S1x1024 .f32} {x4 : Vec Ideal S1024x2560 .bf16} {x5 : Vec Ideal S1024x128 .bf16} {x6 : Vec Ideal S1x512 .f32} {x7 : Vec Ideal S1x512 .f32} {x8 : Vec Ideal S4x128x256 .bf16} {x9 : Vec Ideal S128x512 .f32} {x10 : Vec Ideal S4x1024 .f32} {x11 : Vec Ideal S1x1024 .f32} {x12 : Vec Ideal S1x128 .f32} {x13 : Vec Ideal S1x128 .f32} {x14 : Vec Ideal S1x512 .f32} {x15 : Vec Ideal S1x512 .f32} {x16 : Vec Ideal S256x256 .bf16} {x17 : Vec Ideal S128x128 .bf16} {x18 : Vec Ideal S1024x1024 .bf16} {x19 : Vec Ideal S1x1024 .f32} {x20 : Vec Ideal S1x1024 .f32} {x21 : Vec Ideal S1024x4096 .bf16} {x22 : Vec Ideal S4096x1024 .bf16} {x23 : Vec Ideal S1x1024 .f32} {xs0 : Vec Ideal S512x2560 .f32} {xs1 : Vec Ideal S512x128 .f32} {xs2 : Vec Ideal S512x1024 .bf16}

theorem up5 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C.sl.HS0_5 c arg1 harg1 arg4 harg4 arg5 harg5 x0 x3 x4))) 256 512 fun i j => proj I (R + i) j := by
  unfold kernelRun0_C.sl.HS0_5
  exact cons_w (proj_ld (hn_ld P H.x0) P) (cons_w (proj_ld (hn_ld P H.x0) P) (cons_w (proj_ld (hn_ld P H.x0) P) (cons_w (proj_ld (hn_ld P H.x0) P) (cons_w (proj_ld (hn_ld P H.x0) P) (On.none fun i j _ _ => by unfold Box; omega)))))

theorem up6 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C.sl.HS0_6 c arg1 harg1 arg3 harg3 arg4 harg4 arg5 harg5 x0 x2 x3 x4))) 256 512 fun i j => proj I (R + i) j := by
  unfold kernelRun0_C.sl.HS0_6
  exact skip_on v f (fun i j _ _ _ => by unfold Box; omega) (up5 v f P H)

theorem up7 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C.sl.HS0_7 c arg1 harg1 arg3 harg3 arg4 harg4 arg5 harg5 x0 x2 x3 x4))) 256 512 fun i j => proj I (R + i) j := by
  unfold kernelRun0_C.sl.HS0_7
  exact skip_on v f (fun i j _ _ _ => by unfold Box; omega) (up6 v f P H)

theorem up8 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C.sl.HS0_8 c arg1 harg1 arg3 harg3 arg4 harg4 arg5 harg5 x0 x2 x3 x4))) 256 512 fun i j => proj I (R + i) j := by
  unfold kernelRun0_C.sl.HS0_8
  exact skip_on v f (fun i j _ _ _ => by unfold Box; omega) (up7 v f P H)

theorem up9 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C.sl.HS0_9 c arg1 harg1 arg3 harg3 arg4 harg4 arg5 harg5 x0 x2 x3 x4))) 256 512 fun i j => proj I (R + i) j := by
  unfold kernelRun0_C.sl.HS0_9
  exact skip_on v f (fun i j _ _ _ => by unfold Box; omega) (up8 v f P H)

theorem up10 (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C.sl.HS0_10 c arg1 harg1 arg3 harg3 arg4 harg4 arg5 harg5 x0 x2 x3 x4))) 256 512 fun i j => proj I (R + i) j := by
  unfold kernelRun0_C.sl.HS0_10
  exact skip_on v f (fun i j _ _ _ => by unfold Box; omega) (up9 v f P H)

theorem up27 (v : View sig .tc .vmem S512x128 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C.sl.HS1_1 c arg1 harg1 arg4 harg4 arg6 harg6 x0 x3 x5))) 256 512 fun i j => dtr I (R + i) j := by
  unfold kernelRun0_C.sl.HS1_1
  exact cons_w (dtraw_ld (hn_ld P H.x0) P) (On.none fun i j _ _ => by unfold Box; omega)

theorem xp1 (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C.sl.HS3_2 c arg26 harg26 xs0))) 0 136 (xpB I R) := by
  unfold kernelRun0_C.sl.HS3_2
  refine cons_w ?_ (cons_w (zero8_ld zero_bits hF) (On.none fun i j _ _ => by unfold Box; omega))
  refine keep_ld (a := 0) (b := 256) ?_ (by decide)
  exact rows_in h26

theorem xp2 (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C.sl.HS3_3 c arg26 harg26 xs0))) 0 264 (xpB I R) := by
  unfold kernelRun0_C.sl.HS3_3
  refine cons_w ?_ ((xp1 v f P H h26 h27 hF).mono fun i j _ _ => by unfold Box; omega)
  refine keep_ld (a := 0) (b := 256) ?_ (by decide)
  exact rows_in h26

theorem xp3 (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C.sl.HS3_4 c arg1 harg1 arg3 harg3 arg4 harg4 arg5 harg5 arg26 harg26 x0 x2 x3 x4 xs0))) 0 392 (xpB I R) := by
  unfold kernelRun0_C.sl.HS3_4
  refine cons_w ?_ ((xp2 v f P H h26 h27 hF).mono fun i j _ _ => by unfold Box; omega)
  refine keep_ld (a := 256) (b := 512) ?_ (by decide)
  exact up6 _ _ P H

theorem xp4 (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C.sl.HS3_5 c arg1 harg1 arg3 harg3 arg4 harg4 arg5 harg5 arg26 harg26 x0 x2 x3 x4 xs0))) 0 520 (xpB I R) := by
  unfold kernelRun0_C.sl.HS3_5
  refine cons_w ?_ ((xp3 v f P H h26 h27 hF).mono fun i j _ _ => by unfold Box; omega)
  refine keep_ld (a := 256) (b := 512) ?_ (by decide)
  exact up9 _ _ P H

theorem xc1 (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C.sl.HS5_8 c arg11 harg11 arg12 harg12 arg26 harg26 arg29 x10 x11 xs0))) 0 128 fun i j => xc I (R + i) j := by
  unfold kernelRun0_C.sl.HS5_8
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp1 _ _ P H h26 h27 hF) (xp1 _ _ P H h26 h27 hF) (xp1 _ _ P H h26 h27 hF) (xp1 _ _ P H h26 h27 hF) (by decide) P

theorem xc2 (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C.sl.HS5_16 c arg11 harg11 arg12 harg12 arg26 harg26 arg29 x10 x11 xs0))) 128 256 fun i j => xc I (R + i) j := by
  unfold kernelRun0_C.sl.HS5_16
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp2 _ _ P H h26 h27 hF) (xp2 _ _ P H h26 h27 hF) (xp2 _ _ P H h26 h27 hF) (xp2 _ _ P H h26 h27 hF) (by decide) P

theorem xc3 (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C.sl.HS5_24 c arg1 harg1 arg3 harg3 arg4 harg4 arg5 harg5 arg11 harg11 arg12 harg12 arg26 harg26 arg29 x0 x2 x3 x4 x10 x11 xs0))) 256 384 fun i j => xc I (R + i) j := by
  unfold kernelRun0_C.sl.HS5_24
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp3 _ _ P H h26 h27 hF) (xp3 _ _ P H h26 h27 hF) (xp3 _ _ P H h26 h27 hF) (xp3 _ _ P H h26 h27 hF) (by decide) P

theorem xc4 (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C.sl.HS5_32 c arg1 harg1 arg3 harg3 arg4 harg4 arg5 harg5 arg11 harg11 arg12 harg12 arg26 harg26 arg29 x0 x2 x3 x4 x10 x11 xs0))) 384 512 fun i j => xc I (R + i) j := by
  unfold kernelRun0_C.sl.HS5_32
  refine cons_w ?_ (cons_w ?_ (cons_w ?_ (cons_w ?_ (cons_w ?_ (cons_w ?_ (cons_w ?_ (cons_w ?_ (On.none fun i j _ _ => by unfold Box; omega))))))))
  all_goals exact conv_ld H.hR (by decide) (xp4 _ _ P H h26 h27 hF) (xp4 _ _ P H h26 h27 hF) (xp4 _ _ P H h26 h27 hF) (xp4 _ _ P H h26 h27 hF) (by decide) P

theorem st0 (v : View sig .tc .vmem S2x128x256 .f32) (f : v.ty.Contents EI) (hF : R % 2048 = 0) :
    On3 (v.read EI (v.writes EI f kernelRun0_C.sl.HS4_1)) (fun g _ _ => 0 ≤ g ∧ g < 2) (stG (st I (R / 128))) := by
  unfold kernelRun0_C.sl.HS4_1
  exact cons_w3 (zero_st zero_bits hF) (On3.none fun i j k _ _ _ => by unfold Box3; omega)

theorem st1 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    On3 (v.read EI (v.writes EI f (kernelRun0_C.sl.HS4_5 c arg11 harg11 arg12 harg12 arg13 harg13 arg14 harg14 arg18 harg18 arg26 harg26 arg27 harg27 arg29 arg30 arg31 x10 x11 x12 x13 x17 xs0 xs1))) (fun g _ _ => 0 ≤ g ∧ g < 2) (stG (stOut I ((R + 0) / 128))) := by
  unfold kernelRun0_C.sl.HS4_5
  refine cons_w3 ?_ (cons_w3 ?_ (cons_w3 ?_ (cons_w3 ?_ (On3.none fun i j k _ _ _ => by unfold Box3; omega))))
  all_goals refine stnew_ld (a := 0) (b := 128) (s := 0) (t := 2) ?_ ?_ ?_ (tr_sp ?_ ?_) ?_ ?_ ?_ ?_
  all_goals first
    | decide
    | exact xc1 _ _ P H h26 h27 hF
    | exact st0 _ _ hF
    | exact acs_ld (by have := H.hR; omega) (rows_in h27) (by decide) P
    | exact dt_ld (rows_in h27) (by decide) P
    | (have := H.hR; omega)

theorem st2 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    On3 (v.read EI (v.writes EI f (kernelRun0_C.sl.HS4_9 c arg11 harg11 arg12 harg12 arg13 harg13 arg14 harg14 arg18 harg18 arg26 harg26 arg27 harg27 arg29 arg30 arg31 x10 x11 x12 x13 x17 xs0 xs1))) (fun g _ _ => 0 ≤ g ∧ g < 2) (stG (stOut I ((R + 128) / 128))) := by
  unfold kernelRun0_C.sl.HS4_9
  refine cons_w3 ?_ (cons_w3 ?_ (cons_w3 ?_ (cons_w3 ?_ (On3.none fun i j k _ _ _ => by unfold Box3; omega))))
  all_goals refine stnew_ld (a := 128) (b := 256) (s := 0) (t := 2) ?_ ?_ ?_ (tr_sp ?_ ?_) ?_ ?_ ?_ ?_
  all_goals first
    | decide
    | exact xc2 _ _ P H h26 h27 hF
    | exact (st1 _ _ P H h26 h27 hF).next H.hR (by decide)
    | exact acs_ld (by have := H.hR; omega) (rows_in h27) (by decide) P
    | exact dt_ld (rows_in h27) (by decide) P
    | (have := H.hR; omega)

theorem st3 (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    On3 (v.read EI (v.writes EI f (kernelRun0_C.sl.HS4_13 c arg1 harg1 arg3 harg3 arg4 harg4 arg5 harg5 arg6 harg6 arg11 harg11 arg12 harg12 arg13 harg13 arg14 harg14 arg18 harg18 arg26 harg26 arg27 harg27 arg29 arg30 arg31 x0 x2 x3 x4 x5 x10 x11 x12 x13 x17 xs0 xs1))) (fun g _ _ => 0 ≤ g ∧ g < 2) (stG (stOut I ((R + 256) / 128))) := by
  unfold kernelRun0_C.sl.HS4_13
  refine cons_w3 ?_ (cons_w3 ?_ (cons_w3 ?_ (cons_w3 ?_ (On3.none fun i j k _ _ _ => by unfold Box3; omega))))
  all_goals refine stnew_ld (a := 256) (b := 384) (s := 0) (t := 2) ?_ ?_ ?_ (tr_sp ?_ ?_) ?_ ?_ ?_ ?_
  all_goals first
    | decide
    | exact xc3 _ _ P H h26 h27 hF
    | exact (st2 _ _ P H h26 h27 hF).next H.hR (by decide)
    | exact acs_ld (by have := H.hR; omega) (up27 _ _ P H) (by decide) P
    | exact dt_ld (up27 _ _ P H) (by decide) P
    | (have := H.hR; omega)

theorem out_all (v : View sig .tc .vmem S512x1024 .f32) (f : v.ty.Contents EI) (P : Par I x3 x4 x5 x6 x7 x8 x9 x10 x11 x12 x13 x14 x15 x16 x17 x18 x19 x20 x21 x22 x23) (H : Blk I R Rp N x0 x1 x2) (h28 : Rd xs2 fun i j => mix I (Rp + i) j) :
    Rows (v.read EI (v.writes EI f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).1)) 0 512 fun i j => Cert.Layer.out I (Rp + i) j := by
  refine cons_w ?_ (cons_w ?_ (On.none fun i j _ _ => by unfold Box; omega))
  all_goals refine out_ld (x1_ld (a := 0) (b := 512) ?_ (by decide) H.x1 P) (ffn_ld (h2_ld (x1_ld (a := 0) (b := 512) ?_ (by decide) H.x1 P) P) (h2_ld (x1_ld (a := 0) (b := 512) ?_ (by decide) H.x1 P) P) P) P
  all_goals exact rows_in_h (fun i j _ => h28 i j)

theorem proj_all (v : View sig .tc .vmem S512x2560 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.1)) 0 256 fun i j => proj I (N + i) j := by
  refine cons_w ?_ (cons_w ?_ (cons_w ?_ (cons_w ?_ (cons_w ?_ (On.none fun i j _ _ => by unfold Box; omega)))))
  all_goals exact proj_ld (hn_ld P H.x2) P

theorem dtr_all (v : View sig .tc .vmem S512x128 .f32) (f : v.ty.Contents EI) (P : Par I x3 x4 x5 x6 x7 x8 x9 x10 x11 x12 x13 x14 x15 x16 x17 x18 x19 x20 x21 x22 x23) (H : Blk I R Rp N x0 x1 x2) :
    Rows (v.read EI (v.writes EI f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.1)) 0 256 fun i j => dtr I (N + i) j := by
  refine cons_w ?_ (On.none fun i j _ _ => by unfold Box; omega)
  exact dtraw_ld (hn_ld P H.x2) P

theorem keep_all (v : View sig .tc .vmem S520x1024 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.2.1)) 0 8 fun i j => proj I (R + 504 + i) (1536 + j) := by
  refine cons_w ?_ (On.none fun i j _ _ => by unfold Box; omega)
  exact keep8_ld (a := 8) ((xp4 _ _ P H h26 h27 hF).mono fun i j _ _ => by omega) (by decide)

theorem st_all (v : View sig .tc .vmem S2x128x256 .f32) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    On3 (v.read EI (v.writes EI f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.2.2.1)) (fun g _ _ => 0 ≤ g ∧ g < 2) (stG (stOut I ((R + 384) / 128))) := by
  refine cons_w3 ?_ (cons_w3 ?_ (cons_w3 ?_ (cons_w3 ?_ (On3.none fun i j k _ _ _ => by unfold Box3; omega))))
  all_goals refine stnew_ld (a := 384) (b := 512) (s := 0) (t := 2) ?_ ?_ ?_ (tr_sp ?_ ?_) ?_ ?_ ?_ ?_
  all_goals first
    | decide
    | exact xc4 _ _ P H h26 h27 hF
    | exact (st3 _ _ P H h26 h27 hF).next H.hR (by decide)
    | exact acs_ld (by have := H.hR; omega) (up27 _ _ P H) (by decide) P
    | exact dt_ld (up27 _ _ P H) (by decide) P
    | (have := H.hR; omega)

end Cert.KernelIdeal.Tiles.CaseC
-- ==== Proof.MixC.lean ====
/-
  What the buffer of mixed rows holds during and after the first block of a sequence other than the first.
-/
module

public import proofs.«01_k».proof.Proof.CaseC

@[expose] public section

set_option maxRecDepth 16384

noncomputable section

namespace Cert.KernelIdeal.Tiles.CaseC

open Idealize.ShloMosaic Idealize.SL.Sem Cert.KernelIdeal Cert.KernelIdeal.Gen Cert.Layer Cert.KernelIdeal.Tiles

local notation "EI" => Elt Ideal

seal shapeCast broadcastTo broadcast extractStridedSlice mulf addf subf divf exp2 truncf extf select transpose concatenate log log1p View.readAt View.writes

variable {I : Inp} {R Rp N : ℕ}
variable {c : Dev nD} {i : grid0.Coords} {arg1 : Memref sig .tc .vmem S512x1024 .f32} {harg1 : arg1.IsWhole} {arg2 : Memref sig .tc .vmem S512x1024 .f32} {harg2 : arg2.IsWhole} {arg3 : Memref sig .tc .vmem S256x1024 .f32} {harg3 : arg3.IsWhole} {arg4 : Memref sig .tc .vmem S1x1024 .f32} {harg4 : arg4.IsWhole} {arg5 : Memref sig .tc .vmem S1024x2560 .bf16} {harg5 : arg5.IsWhole} {arg6 : Memref sig .tc .vmem S1024x128 .bf16} {harg6 : arg6.IsWhole} {arg7 : Memref sig .tc .vmem S1x512 .f32} {harg7 : arg7.IsWhole} {arg8 : Memref sig .tc .vmem S1x512 .f32} {harg8 : arg8.IsWhole} {arg9 : Memref sig .tc .vmem S4x128x256 .bf16} {harg9 : arg9.IsWhole} {arg10 : Memref sig .tc .vmem S128x512 .f32} {harg10 : arg10.IsWhole} {arg11 : Memref sig .tc .vmem S4x1024 .f32} {harg11 : arg11.IsWhole} {arg12 : Memref sig .tc .vmem S1x1024 .f32} {harg12 : arg12.IsWhole} {arg13 : Memref sig .tc .vmem S1x128 .f32} {harg13 : arg13.IsWhole} {arg14 : Memref sig .tc .vmem S1x128 .f32} {harg14 : arg14.IsWhole} {arg15 : Memref sig .tc .vmem S1x512 .f32} {harg15 : arg15.IsWhole} {arg16 : Memref sig .tc .vmem S1x512 .f32} {harg16 : arg16.IsWhole} {arg17 : Memref sig .tc .vmem S256x256 .bf16} {harg17 : arg17.IsWhole} {arg18 : Memref sig .tc .vmem S128x128 .bf16} {harg18 : arg18.IsWhole} {arg19 : Memref sig .tc .vmem S1024x1024 .bf16} {harg19 : arg19.IsWhole} {arg20 : Memref sig .tc .vmem S1x1024 .f32} {harg20 : arg20.IsWhole} {arg21 : Memref sig .tc .vmem S1x1024 .f32} {harg21 : arg21.IsWhole} {arg22 : Memref sig .tc .vmem S1024x4096 .bf16} {harg22 : arg22.IsWhole} {arg23 : Memref sig .tc .vmem S4096x1024 .bf16} {harg23 : arg23.IsWhole} {arg24 : Memref sig .tc .vmem S1x1024 .f32} {harg24 : arg24.IsWhole} {arg25 : Memref sig .tc .vmem S512x1024 .f32} {harg25 : arg25.IsWhole} {arg26 : Memref sig .tc .vmem S512x2560 .f32} {harg26 : arg26.IsWhole} {arg27 : Memref sig .tc .vmem S512x128 .f32} {harg27 : arg27.IsWhole} {arg28 : Memref sig .tc .vmem S512x1024 .bf16} {harg28 : arg28.IsWhole} {arg29 : Memref sig .tc .vmem S520x1024 .f32} {harg29 : arg29.IsWhole} {arg30 : Memref sig .tc .vmem S2x128x256 .f32} {harg30 : arg30.IsWhole} {arg31 : Memref sig .tc .vmem S512x1024 .f32} {harg31 : arg31.IsWhole} {hc0 : ¬cond0_0 i} {hc1 : cond0_1 i} {x0 : Vec Ideal S512x1024 .f32} {x1 : Vec Ideal S512x1024 .f32} {x2 : Vec Ideal S256x1024 .f32} {x3 : Vec Ideal S1x1024 .f32} {x4 : Vec Ideal S1024x2560 .bf16} {x5 : Vec Ideal S1024x128 .bf16} {x6 : Vec Ideal S1x512 .f32} {x7 : Vec Ideal S1x512 .f32} {x8 : Vec Ideal S4x128x256 .bf16} {x9 : Vec Ideal S128x512 .f32} {x10 : Vec Ideal S4x1024 .f32} {x11 : Vec Ideal S1x1024 .f32} {x12 : Vec Ideal S1x128 .f32} {x13 : Vec Ideal S1x128 .f32} {x14 : Vec Ideal S1x512 .f32} {x15 : Vec Ideal S1x512 .f32} {x16 : Vec Ideal S256x256 .bf16} {x17 : Vec Ideal S128x128 .bf16} {x18 : Vec Ideal S1024x1024 .bf16} {x19 : Vec Ideal S1x1024 .f32} {x20 : Vec Ideal S1x1024 .f32} {x21 : Vec Ideal S1024x4096 .bf16} {x22 : Vec Ideal S4096x1024 .bf16} {x23 : Vec Ideal S1x1024 .f32} {xs0 : Vec Ideal S512x2560 .f32} {xs1 : Vec Ideal S512x128 .f32} {xs2 : Vec Ideal S512x1024 .bf16}

set_option maxHeartbeats 4000000 in
theorem mix_all (v : View sig .tc .vmem S512x1024 .bf16) (f : v.ty.Contents EI) (P : Par I x3 x4 x5 x6 x7 x8 x9 x10 x11 x12 x13 x14 x15 x16 x17 x18 x19 x20 x21 x22 x23) (H : Blk I R Rp N x0 x1 x2) (h26 : Rows xs0 0 256 fun i j => proj I (R + i) j) (h27 : Rows xs1 0 256 fun i j => dtr I (R + i) j) (hF : R % 2048 = 0) :
    Rows (v.read EI (v.writes EI f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 xs0 xs1 xs2).2.2.2.1)) 0 512 fun i j => mix I (R + i) j := by
  refine cons_h ?_ (cons_h ?_ (cons_h ?_ (cons_h ?_ (cons_h ?_ (cons_h ?_ (On.mono (P := fun r _ => 0 ≤ r ∧ r < 384) (cons_h ?_ (cons_h ?_ (cons_h ?_ (cons_h ?_ (cons_h ?_ (cons_h ?_ (On.mono (P := fun r _ => 0 ≤ r ∧ r < 256) (cons_h ?_ (cons_h ?_ (cons_h ?_ (cons_h ?_ (cons_h ?_ (cons_h ?_ (On.mono (P := fun r _ => 0 ≤ r ∧ r < 128) (cons_h ?_ (cons_h ?_ (cons_h ?_ (cons_h ?_ (cons_h ?_ (cons_h ?_ (On.none fun i j _ _ => by unfold Box; omega))))))) (fun i j _ _ => by unfold Box; omega)))))))) (fun i j _ _ => by unfold Box; omega)))))))) (fun i j _ _ => by unfold Box; omega)))))))
  · refine group_ld (o := 384) (c := 768) (a := 256) (b := 512) (a' := 384) (b' := 512) (by decide) ?_ ?_ (by decide) ?_ (by decide) P
    on_goal 1 => refine cat_sp ?_ ?_ <;> refine ytile_ld (o := 384) (a := 384) (b := 512) (s := 0) (t := 2) ?_ ?_ ?_ (tr_sp ?_ ?_) ?_ ?_ ?_ ?_
    all_goals first
      | decide
      | exact xc4 _ _ P H h26 h27 hF
      | exact up10 _ _ P H
      | exact (st3 _ _ P H h26 h27 hF).next H.hR (by decide)
      | exact acs_ld (by have := H.hR; omega) (up27 _ _ P H) (by decide) P
      | exact dt_ld (up27 _ _ P H) (by decide) P
      | (have := H.hR; omega)
  · refine group_ld (o := 384) (c := 512) (a := 256) (b := 512) (a' := 384) (b' := 512) (by decide) ?_ ?_ (by decide) ?_ (by decide) P
    on_goal 1 => refine cat_sp ?_ ?_ <;> refine ytile_ld (o := 384) (a := 384) (b := 512) (s := 0) (t := 2) ?_ ?_ ?_ (tr_sp ?_ ?_) ?_ ?_ ?_ ?_
    all_goals first
      | decide
      | exact xc4 _ _ P H h26 h27 hF
      | exact up10 _ _ P H
      | exact (st3 _ _ P H h26 h27 hF).next H.hR (by decide)
      | exact acs_ld (by have := H.hR; omega) (up27 _ _ P H) (by decide) P
      | exact dt_ld (up27 _ _ P H) (by decide) P
      | (have := H.hR; omega)
  · refine mix_ld (o := 384) (c := 384) (a := 256) (b := 512) ?_ (by decide) (vn_ld (o := 384) (a := 256) (b := 512) ?_ (by decide) P) ?_ (by decide) P
    all_goals first
      | (have := H.hR; omega)
      | exact up10 _ _ P H
      | exact up8 _ _ P H
  · refine mix_ld (o := 384) (c := 256) (a := 256) (b := 512) ?_ (by decide) (vn_ld (o := 384) (a := 256) (b := 512) ?_ (by decide) P) ?_ (by decide) P
    all_goals first
      | (have := H.hR; omega)
      | exact up10 _ _ P H
      | exact up8 _ _ P H
  · refine mix_ld (o := 384) (c := 128) (a := 256) (b := 512) ?_ (by decide) (vn_ld (o := 384) (a := 256) (b := 512) ?_ (by decide) P) ?_ (by decide) P
    all_goals first
      | (have := H.hR; omega)
      | exact up10 _ _ P H
      | exact up8 _ _ P H
  · refine mix_ld (o := 384) (c := 0) (a := 256) (b := 512) ?_ (by decide) (vn_ld (o := 384) (a := 256) (b := 512) ?_ (by decide) P) ?_ (by decide) P
    all_goals first
      | (have := H.hR; omega)
      | exact up10 _ _ P H
      | exact up8 _ _ P H
  · refine group_ld (o := 256) (c := 768) (a := 256) (b := 512) (a' := 256) (b' := 384) (by decide) ?_ ?_ (by decide) ?_ (by decide) P
    on_goal 1 => refine cat_sp ?_ ?_ <;> refine ytile_ld (o := 256) (a := 256) (b := 384) (s := 0) (t := 2) ?_ ?_ ?_ (tr_sp ?_ ?_) ?_ ?_ ?_ ?_
    all_goals first
      | decide
      | exact xc3 _ _ P H h26 h27 hF
      | exact up7 _ _ P H
      | exact (st2 _ _ P H h26 h27 hF).next H.hR (by decide)
      | exact acs_ld (by have := H.hR; omega) (up27 _ _ P H) (by decide) P
      | exact dt_ld (up27 _ _ P H) (by decide) P
      | (have := H.hR; omega)
  · refine group_ld (o := 256) (c := 512) (a := 256) (b := 512) (a' := 256) (b' := 384) (by decide) ?_ ?_ (by decide) ?_ (by decide) P
    on_goal 1 => refine cat_sp ?_ ?_ <;> refine ytile_ld (o := 256) (a := 256) (b := 384) (s := 0) (t := 2) ?_ ?_ ?_ (tr_sp ?_ ?_) ?_ ?_ ?_ ?_
    all_goals first
      | decide
      | exact xc3 _ _ P H h26 h27 hF
      | exact up7 _ _ P H
      | exact (st2 _ _ P H h26 h27 hF).next H.hR (by decide)
      | exact acs_ld (by have := H.hR; omega) (up27 _ _ P H) (by decide) P
      | exact dt_ld (up27 _ _ P H) (by decide) P
      | (have := H.hR; omega)
  · refine mix_ld (o := 256) (c := 384) (a := 256) (b := 512) ?_ (by decide) (vn_ld (o := 256) (a := 256) (b := 512) ?_ (by decide) P) ?_ (by decide) P
    all_goals first
      | (have := H.hR; omega)
      | exact up7 _ _ P H
      | exact up5 _ _ P H
  · refine mix_ld (o := 256) (c := 256) (a := 256) (b := 512) ?_ (by decide) (vn_ld (o := 256) (a := 256) (b := 512) ?_ (by decide) P) ?_ (by decide) P
    all_goals first
      | (have := H.hR; omega)
      | exact up7 _ _ P H
      | exact up5 _ _ P H
  · refine mix_ld (o := 256) (c := 128) (a := 256) (b := 512) ?_ (by decide) (vn_ld (o := 256) (a := 256) (b := 512) ?_ (by decide) P) ?_ (by decide) P
    all_goals first
      | (have := H.hR; omega)
      | exact up7 _ _ P H
      | exact up5 _ _ P H
  · refine mix_ld (o := 256) (c := 0) (a := 256) (b := 512) ?_ (by decide) (vn_ld (o := 256) (a := 256) (b := 512) ?_ (by decide) P) ?_ (by decide) P
    all_goals first
      | (have := H.hR; omega)
      | exact up7 _ _ P H
      | exact up5 _ _ P H
  · refine group_ld (o := 128) (c := 768) (a := 0) (b := 256) (a' := 128) (b' := 256) (by decide) ?_ ?_ (by decide) ?_ (by decide) P
    on_goal 1 => refine cat_sp ?_ ?_ <;> refine ytile_ld (o := 128) (a := 128) (b := 256) (s := 0) (t := 2) ?_ ?_ ?_ (tr_sp ?_ ?_) ?_ ?_ ?_ ?_
    all_goals first
      | decide
      | exact xc2 _ _ P H h26 h27 hF
      | exact rows_in h26
      | exact (st1 _ _ P H h26 h27 hF).next H.hR (by decide)
      | exact acs_ld (by have := H.hR; omega) (rows_in h27) (by decide) P
      | exact dt_ld (rows_in h27) (by decide) P
      | (have := H.hR; omega)
  · refine group_ld (o := 128) (c := 512) (a := 0) (b := 256) (a' := 128) (b' := 256) (by decide) ?_ ?_ (by decide) ?_ (by decide) P
    on_goal 1 => refine cat_sp ?_ ?_ <;> refine ytile_ld (o := 128) (a := 128) (b := 256) (s := 0) (t := 2) ?_ ?_ ?_ (tr_sp ?_ ?_) ?_ ?_ ?_ ?_
    all_goals first
      | decide
      | exact xc2 _ _ P H h26 h27 hF
      | exact rows_in h26
      | exact (st1 _ _ P H h26 h27 hF).next H.hR (by decide)
      | exact acs_ld (by have := H.hR; omega) (rows_in h27) (by decide) P
      | exact dt_ld (rows_in h27) (by decide) P
      | (have := H.hR; omega)
  · refine mix_ld (o := 128) (c := 384) (a := 0) (b := 256) ?_ (by decide) (vn_ld (o := 128) (a := 0) (b := 256) ?_ (by decide) P) ?_ (by decide) P
    all_goals first
      | (have := H.hR; omega)
      | exact rows_in h26
  · refine mix_ld (o := 128) (c := 256) (a := 0) (b := 256) ?_ (by decide) (vn_ld (o := 128) (a := 0) (b := 256) ?_ (by decide) P) ?_ (by decide) P
    all_goals first
      | (have := H.hR; omega)
      | exact rows_in h26
  · refine mix_ld (o := 128) (c := 128) (a := 0) (b := 256) ?_ (by decide) (vn_ld (o := 128) (a := 0) (b := 256) ?_ (by decide) P) ?_ (by decide) P
    all_goals first
      | (have := H.hR; omega)
      | exact rows_in h26
  · refine mix_ld (o := 128) (c := 0) (a := 0) (b := 256) ?_ (by decide) (vn_ld (o := 128) (a := 0) (b := 256) ?_ (by decide) P) ?_ (by decide) P
    all_goals first
      | (have := H.hR; omega)
      | exact rows_in h26
  · refine group_ld (o := 0) (c := 768) (a := 0) (b := 256) (a' := 0) (b' := 128) (by decide) ?_ ?_ (by decide) ?_ (by decide) P
    on_goal 1 => refine cat_sp ?_ ?_ <;> refine ytile_ld (o := 0) (a := 0) (b := 128) (s := 0) (t := 2) ?_ ?_ ?_ (tr_sp ?_ ?_) ?_ ?_ ?_ ?_
    all_goals first
      | decide
      | exact xc1 _ _ P H h26 h27 hF
      | exact rows_in h26
      | exact st0 _ _ hF
      | exact acs_ld (by have := H.hR; omega) (rows_in h27) (by decide) P
      | exact dt_ld (rows_in h27) (by decide) P
      | (have := H.hR; omega)
  · refine group_ld (o := 0) (c := 512) (a := 0) (b := 256) (a' := 0) (b' := 128) (by decide) ?_ ?_ (by decide) ?_ (by decide) P
    on_goal 1 => refine cat_sp ?_ ?_ <;> refine ytile_ld (o := 0) (a := 0) (b := 128) (s := 0) (t := 2) ?_ ?_ ?_ (tr_sp ?_ ?_) ?_ ?_ ?_ ?_
    all_goals first
      | decide
      | exact xc1 _ _ P H h26 h27 hF
      | exact rows_in h26
      | exact st0 _ _ hF
      | exact acs_ld (by have := H.hR; omega) (rows_in h27) (by decide) P
      | exact dt_ld (rows_in h27) (by decide) P
      | (have := H.hR; omega)
  · refine mix_ld (o := 0) (c := 384) (a := 0) (b := 256) ?_ (by decide) (vn_ld (o := 0) (a := 0) (b := 256) ?_ (by decide) P) ?_ (by decide) P
    all_goals first
      | (have := H.hR; omega)
      | exact rows_in h26
  · refine mix_ld (o := 0) (c := 256) (a := 0) (b := 256) ?_ (by decide) (vn_ld (o := 0) (a := 0) (b := 256) ?_ (by decide) P) ?_ (by decide) P
    all_goals first
      | (have := H.hR; omega)
      | exact rows_in h26
  · refine mix_ld (o := 0) (c := 128) (a := 0) (b := 256) ?_ (by decide) (vn_ld (o := 0) (a := 0) (b := 256) ?_ (by decide) P) ?_ (by decide) P
    all_goals first
      | (have := H.hR; omega)
      | exact rows_in h26
  · refine mix_ld (o := 0) (c := 0) (a := 0) (b := 256) ?_ (by decide) (vn_ld (o := 0) (a := 0) (b := 256) ?_ (by decide) P) ?_ (by decide) P
    all_goals first
      | (have := H.hR; omega)
      | exact rows_in h26

end Cert.KernelIdeal.Tiles.CaseC
-- ==== Proof.Steps.lean ====
/-
  What the kernel carries from one point of its grid to the next, and the output rows each point leaves.
-/
module

public import proofs.«01_k».proof.Proof.Wins
public import proofs.«01_k».proof.Proof.MixA
public import proofs.«01_k».proof.Proof.MixB
public import proofs.«01_k».proof.Proof.MixC
public import proofs.«01_k».proof.Proof.KernelIdealFrame

@[expose] public section

set_option maxRecDepth 16384

noncomputable section

namespace Cert.KernelIdeal.Steps

open Idealize.ShloMosaic Idealize.SL.Sem Cert.KernelIdeal Cert.KernelIdeal.Gen Cert.Layer Cert.KernelIdeal.Tiles Cert.KernelIdeal.Host

variable (m : (ℓ : Loc nD τ sig) → Buf (Elt Ideal) ℓ) (c : Dev nD)

/-- After point `n`: the next rows' projection, this block's mixed rows, its last eight rows before the convolution, the state it ends with. -/
structure Held (I : Inp) (n : ℕ) (s : Vec Ideal S512x1024 .f32 × Vec Ideal S512x2560 .f32 × Vec Ideal S512x128 .f32 × Vec Ideal S512x1024 .bf16 × Vec Ideal S520x1024 .f32 × Vec Ideal S2x128x256 .f32) : Prop where
  hproj : Rows s.2.1 0 256 fun i j => proj I (256 * min (2 * (n + 1)) 127 + i) j
  hdtr : Rows s.2.2.1 0 256 fun i j => dtr I (256 * min (2 * (n + 1)) 127 + i) j
  hmix : Rows s.2.2.2.1 0 512 fun i j => mix I (512 * n + i) j
  hkeep : Rows s.2.2.2.2.1 0 8 fun i j => proj I (512 * n + 504 + i) (1536 + j)
  hst : On3 s.2.2.2.2.2 (fun g _ _ => 0 ≤ g ∧ g < 2) (stG (stOut I ((512 * n + 384) / 128)))

section uses
variable {I : Inp} {n : ℕ} {s : Vec Ideal S512x1024 .f32 × Vec Ideal S512x2560 .f32 × Vec Ideal S512x128 .f32 × Vec Ideal S512x1024 .bf16 × Vec Ideal S520x1024 .f32 × Vec Ideal S2x128x256 .f32}

theorem Held.proj' (J : Held I n s) (hn : n + 1 ≤ 63) : Rows s.2.1 0 256 fun i j => Layer.proj I (512 * (n + 1) + i) j := by
  have h := J.hproj
  rwa [show 256 * min (2 * (n + 1)) 127 = 512 * (n + 1) by omega] at h

theorem Held.dtr' (J : Held I n s) (hn : n + 1 ≤ 63) : Rows s.2.2.1 0 256 fun i j => Tiles.dtr I (512 * (n + 1) + i) j := by
  have h := J.hdtr
  rwa [show 256 * min (2 * (n + 1)) 127 = 512 * (n + 1) by omega] at h

theorem Held.mix' (J : Held I n s) : Rd s.2.2.2.1 fun i j => Layer.mix I (512 * n + i) j :=
  fun i j => J.hmix i j ⟨Nat.zero_le _, i.isLt⟩

theorem Held.keep' (J : Held I n s) (hn : (n + 1) % 4 ≠ 0) : Rows s.2.2.2.2.1 0 8 (xpB I (512 * (n + 1))) := by
  intro i j h
  refine (J.hkeep i j h).trans ?_
  unfold xpB
  rw [if_neg (by omega)]
  exact congrArg (fun r => Layer.proj I r _) (by omega)

theorem Held.st' (J : Held I n s) (hn : (n + 1) % 4 ≠ 0) : On3 s.2.2.2.2.2 (fun g _ _ => 0 ≤ g ∧ g < 2) (stG (Layer.st I (512 * (n + 1) / 128))) := by
  have h := J.hst
  have e : Layer.st I (512 * (n + 1) / 128) = stOut I ((512 * n + 384) / 128) := by
    rw [show 512 * (n + 1) / 128 = (512 * n + 384) / 128 + 1 by omega]
    exact if_neg (by omega)
  rwa [e]

end uses

theorem first_of {t : Fin cfg0.N} (h : t.val < 64 ∧ t.val % 4 = 0) : t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60 := by
  have ht : t.val < 65 := t.isLt
  rw [Nat.mod_eq_of_lt ht]
  omega

theorem not_first_of {t : Fin cfg0.N} (h : t.val = 64 ∨ t.val % 4 ≠ 0) : ¬(t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60) := by
  have ht : t.val < 65 := t.isLt
  rw [Nat.mod_eq_of_lt ht]
  omega

abbrev before (t : Fin cfg0.N) := outsAt0 m c (t.val - 1) (Nat.lt_of_le_of_lt (Nat.sub_le _ _) t.isLt)

theorem inv_A (t : Fin cfg0.N) (ht : t.val = 0) : Held (I m c) 0 (outsAt0 m c t.val t.isLt) := by
  rw [outsAt0_A m c t (by omega) (first_of (by omega))]
  unfold all0_A
  have P := par m c t
  have H : Blk (I m c) (512 * 0) 0 (256 * min (2 * (0 + 1)) 127) (iblk m c 0 t) (iblk m c 1 t) (iblk m c 2 t) := blk m c t (by omega) (by omega) (by omega)
  refine ⟨?_, ?_, ?_, ?_, ?_⟩
  · dsimp only
    unfold sout0_A_0
    exact CaseA.proj_all _ _ P H
  · dsimp only
    unfold sout0_A_1
    exact CaseA.dtr_all _ _ P H
  · dsimp only
    unfold sout0_A_2
    exact CaseA.mix_all _ _ P H rfl
  · dsimp only
    unfold sout0_A_3
    exact CaseA.keep_all _ _ P H rfl
  · dsimp only
    unfold sout0_A_4
    exact CaseA.st_all _ _ P H rfl

theorem inv_B (t : Fin cfg0.N) (n : ℕ) (ht : t.val = n + 1) (hn : n + 1 ≤ 63) (h4 : (n + 1) % 4 ≠ 0) (J : Held (I m c) n (before m c t)) :
    Held (I m c) (n + 1) (outsAt0 m c t.val t.isLt) := by
  rw [outsAt0_B m c t (by omega) (not_first_of (by omega))]
  unfold all0_B
  have P := par m c t
  have H : Blk (I m c) (512 * (n + 1)) (512 * n) (256 * min (2 * (n + 1 + 1)) 127) (iblk m c 0 t) (iblk m c 1 t) (iblk m c 2 t) := blk m c t (by omega) (by omega) (by omega)
  refine ⟨?_, ?_, ?_, ?_, ?_⟩
  · dsimp only
    unfold sout0_B_0
    exact CaseB.proj_all _ _ P H
  · dsimp only
    unfold sout0_B_1
    exact CaseB.dtr_all _ _ P H
  · dsimp only
    unfold sout0_B_2
    exact CaseB.mix_all _ _ P H (J.proj' hn) (J.dtr' hn) (J.keep' h4) (J.st' h4)
  · dsimp only
    unfold sout0_B_3
    exact CaseB.keep_all _ _ P H (J.proj' hn) (J.dtr' hn) (J.keep' h4) (J.st' h4)
  · dsimp only
    unfold sout0_B_4
    exact CaseB.st_all _ _ P H (J.proj' hn) (J.dtr' hn) (J.keep' h4) (J.st' h4)

theorem inv_C (t : Fin cfg0.N) (n : ℕ) (ht : t.val = n + 1) (hn : n + 1 ≤ 63) (h4 : (n + 1) % 4 = 0) (J : Held (I m c) n (before m c t)) :
    Held (I m c) (n + 1) (outsAt0 m c t.val t.isLt) := by
  rw [outsAt0_C m c t (by omega) (first_of (by omega))]
  unfold all0_C
  have P := par m c t
  have H : Blk (I m c) (512 * (n + 1)) (512 * n) (256 * min (2 * (n + 1 + 1)) 127) (iblk m c 0 t) (iblk m c 1 t) (iblk m c 2 t) := blk m c t (by omega) (by omega) (by omega)
  have hF : 512 * (n + 1) % 2048 = 0 := by omega
  refine ⟨?_, ?_, ?_, ?_, ?_⟩
  · dsimp only
    unfold sout0_C_0
    exact CaseC.proj_all _ _ P H
  · dsimp only
    unfold sout0_C_1
    exact CaseC.dtr_all _ _ P H
  · dsimp only
    unfold sout0_C_2
    exact CaseC.mix_all _ _ P H (J.proj' hn) (J.dtr' hn) hF
  · dsimp only
    unfold sout0_C_3
    exact CaseC.keep_all _ _ P H (J.proj' hn) (J.dtr' hn) hF
  · dsimp only
    unfold sout0_C_4
    exact CaseC.st_all _ _ P H (J.proj' hn) (J.dtr' hn) hF

theorem inv_all : ∀ (n : ℕ) (hn : n < cfg0.N), n ≤ 63 → Held (I m c) n (outsAt0 m c n hn)
  | 0, hn, _ => inv_A m c ⟨0, hn⟩ rfl
  | n + 1, hn, h => by
    have J := inv_all n (Nat.lt_of_succ_lt hn) (by omega)
    by_cases h4 : (n + 1) % 4 = 0
    · exact inv_C m c ⟨n + 1, hn⟩ n rfl h h4 J
    · exact inv_B m c ⟨n + 1, hn⟩ n rfl h h4 J

/-- Point `n + 1` leaves the rows of block `n` of the result. -/
theorem out_at (t : Fin cfg0.N) (n : ℕ) (ht : t.val = n + 1) : Rows (outsAt0 m c t.val t.isLt).1 0 512 fun i j => out (I m c) (512 * n + i) j := by
  have hlt : t.val < 65 := t.isLt
  have J : Held (I m c) n (before m c t) := by
    have h := inv_all m c (t.val - 1) (Nat.lt_of_le_of_lt (Nat.sub_le _ _) t.isLt) (by omega)
    have e : t.val - 1 = n := by omega
    exact cast (congrArg (fun k => Held (I m c) k (before m c t)) e) h
  have P := par m c t
  have H : Blk (I m c) (512 * min t.val 63) (512 * n) (256 * min (2 * (t.val + 1)) 127) (iblk m c 0 t) (iblk m c 1 t) (iblk m c 2 t) := blk m c t rfl (by omega) rfl
  by_cases h4 : t.val < 64 ∧ t.val % 4 = 0
  · rw [outsAt0_C m c t (by omega) (first_of h4)]
    unfold all0_C
    dsimp only
    unfold out0_C_24
    exact CaseC.out_all _ _ P H J.mix'
  · rw [outsAt0_B m c t (by omega) (not_first_of (by omega))]
    unfold all0_B
    dsimp only
    unfold out0_B_24
    exact CaseB.out_all _ _ P H J.mix'

end Cert.KernelIdeal.Steps
-- ==== Proof.RefA.lean ====
/-
  The rows of the reference up to the first mixer.
-/
module

public import proofs.«01_k».proof.Proof.Args
public import proofs.«01_k».proof.Proof.Host
public import proofs.«01_k».proof.Proof.Gen.ReferenceIdeal.Read

@[expose] public section

set_option maxRecDepth 16384

noncomputable section

namespace Cert.ReferenceIdeal.Rows

open Idealize.ShloMosaic Cert.ReferenceIdeal Cert.ReferenceIdeal.Gen Cert.ReferenceIdeal.Read Cert.Layer
open Cert.KernelIdeal.Host (tri_bit sel_bit)
open Cert.KernelIdeal.Tiles (sel_word)

/-- What the nineteen arrays hold, by coordinates. -/
structure Args (I : Inp) (a0 : S16x2048x1024.Idx → EReal) (a1 : S1x1024.Idx → EReal) (a2 : S1x1024x2568.Idx → EReal) (a3 a4 : S1x8x64.Idx → EReal) (a5 : S1x8x128x128.Idx → EReal) (a6 : S1x8x128.Idx → EReal)
    (a7 : S1x4x1024.Idx → EReal) (a8 : S1x1024.Idx → EReal) (a9 a10 a11 : S1x8.Idx → EReal) (a12 : S1x512.Idx → EReal) (a13 : S1x1024x1024.Idx → EReal) (a14 a15 : S1x1024.Idx → EReal)
    (a16 : S1x1024x4096.Idx → EReal) (a17 : S1x4096x1024.Idx → EReal) (a18 : S1x1024.Idx → EReal) : Prop where
  x : ∀ u, a0 u = I.x (2048 * (u 0).val + (u 1).val) (u 2).val
  nmix : ∀ u, a1 u = I.nmix (u 1).val
  win : ∀ u, a2 u = I.win (u 1).val (u 2).val
  lnw : ∀ u, a3 u = I.lnw (64 * (u 1).val + (u 2).val)
  lnb : ∀ u, a4 u = I.lnb (64 * (u 1).val + (u 2).val)
  ws : ∀ u, a5 u = I.ws (u 1).val (u 2).val (u 3).val
  bs : ∀ u, a6 u = I.bs (u 1).val (u 2).val
  cw : ∀ u, a7 u = I.cw (u 1).val (u 2).val
  cb : ∀ u, a8 u = I.cb (u 1).val
  dtb : ∀ u, a9 u = I.dtb (u 1).val
  alog : ∀ u, a10 u = I.alog (u 1).val
  dsk : ∀ u, a11 u = I.dsk (u 1).val
  nrm : ∀ u, a12 u = I.nrm (u 1).val
  wout : ∀ u, a13 u = I.wout (u 1).val (u 2).val
  npost : ∀ u, a14 u = I.npost (u 1).val
  npre : ∀ u, a15 u = I.npre (u 1).val
  wup : ∀ u, a16 u = I.wup (u 1).val (u 2).val
  wdown : ∀ u, a17 u = I.wdown (u 1).val (u 2).val
  nffn : ∀ u, a18 u = I.nffn (u 1).val

theorem half_word : Ideal.ofBits .f32 0x3F000000#32 = ((1 / 2 : ℝ) : EReal) := by
  simp [Ideal.ofBits, Ideal.ieee, -EReal.coe_mul]; norm_num
theorem one_word : Ideal.ofBits .f32 0x3F800000#32 = ((1 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem four_word : Ideal.ofBits .f32 0x40800000#32 = ((4 : ℝ) : EReal) := by
  simp [Ideal.ofBits, Ideal.ieee, -EReal.coe_mul]; norm_num
theorem cube_word : Ideal.ofBits .f32 0x472EAB00#32 = ((44715 : ℝ) : EReal) := by
  simp [Ideal.ofBits, Ideal.ieee, -EReal.coe_mul]; norm_num
theorem million_word : Ideal.ofBits .f32 0x49742400#32 = ((1000000 : ℝ) : EReal) := by
  simp [Ideal.ofBits, Ideal.ieee, -EReal.coe_mul]; norm_num
theorem zero_word : Ideal.ofBits .f32 0x00000000#32 = 0 := Cert.KernelIdeal.Tiles.zero_bits

/-- The cubic coefficient of the gate. -/
theorem cube_eq : Ideal.div (Ideal.ofBits .f32 0x472EAB00#32) (Ideal.ofBits .f32 0x49742400#32) = ((8943 / 200000 : ℝ) : EReal) := by
  rw [cube_word, million_word, Ideal.div_coe (by norm_num), ← EReal.coe_mul]
  norm_num

/-- The gate's root of `2 / π`, with `π` four times the angle of slope one. -/
theorem root_eq : Ideal.sqrt (Ideal.div (Ideal.ofBits .f32 0x40000000#32) (Ideal.ofBits .f32 0x40800000#32 * Ideal.atan (Ideal.ofBits .f32 0x3F800000#32))) = (R2 : EReal) := by
  rw [two_word, four_word, one_word, Ideal.atan_coe, Real.arctan_one, ← EReal.coe_mul, Ideal.div_coe (by positivity), ← EReal.coe_mul,
    show (2 : ℝ) * (1 / (4 * (Real.pi / 4))) = 2 * Real.pi⁻¹ by field_simp, Ideal.sqrt_coe, if_neg (not_lt.mpr (by positivity))]
  rfl

variable {I : Inp} {a0 : S16x2048x1024.Idx → EReal} {a1 : S1x1024.Idx → EReal} {a2 : S1x1024x2568.Idx → EReal} {a3 a4 : S1x8x64.Idx → EReal} {a5 : S1x8x128x128.Idx → EReal} {a6 : S1x8x128.Idx → EReal}
    {a7 : S1x4x1024.Idx → EReal} {a8 : S1x1024.Idx → EReal} {a9 a10 a11 : S1x8.Idx → EReal} {a12 : S1x512.Idx → EReal} {a13 : S1x1024x1024.Idx → EReal} {a14 a15 : S1x1024.Idx → EReal}
    {a16 : S1x1024x4096.Idx → EReal} {a17 : S1x4096x1024.Idx → EReal} {a18 : S1x1024.Idx → EReal} (A : Args I a0 a1 a2 a3 a4 a5 a6 a7 a8 a9 a10 a11 a12 a13 a14 a15 a16 a17 a18)

include A

theorem r13 (i : S16x2048x1024.Idx) : val_main_v13 (F := Ideal) a0 a1 i = rmsF (I.x (2048 * (i 0).val + (i 1).val)) I.nmix (i 2).val := by
  simp only [val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, A.x, A.nmix, Ideal.mulf_def, Ideal.addf_def, Ideal.hostDivf_def, Ideal.hostUnary_rsqrt_def, Ideal.ofBits_def, zero_word, zero_add]
  rw [Nat.mod_eq_of_lt (show (i 2).val < 1024 from (i 2).isLt)]
  rfl

theorem r15 (i : S16x2048x2568.Idx) : val_main_v15 (F := Ideal) a0 a1 a2 i = proj I (2048 * (i 0).val + (i 1).val) (i 2).val := by
  rw [val_main_v15_apply]
  refine Finset.sum_congr rfl fun k _ => ?_
  rw [r13 A, val_main_v14_apply, A.win]
  refine congrArg₂ (fun a b => rmsF (I.x (2048 * (i 0).val + (i 1).val)) I.nmix k.val * I.win a b) ?_ ?_
  · have h2 : (i 2).val < 2568 := (i 2).isLt
    show (k.val * 2568 + (i 2).val) / 2568 % 1024 = k.val
    omega
  · have h2 : (i 2).val < 2568 := (i 2).isLt
    show (k.val * 2568 + (i 2).val) % 2568 = (i 2).val
    omega

theorem r42 (i : S16x2048x512.Idx) : val_main_v42 (F := Ideal) a0 a1 a2 i = gelu (proj I (2048 * (i 0).val + (i 1).val) (i 2).val) := by
  simp only [val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v16_apply, val_main_cst_2_apply, val_main_cst_3_apply, val_main_cst_4_apply, val_main_cst_5_apply, val_main_cst_6_apply, val_main_cst_7_apply, val_main_cst_8_apply, r15 A, Ideal.mulf_def, Ideal.addf_def, Ideal.hostDivf_def, Ideal.hostUnary_sqrt_def, Ideal.hostUnary_atan_def, Ideal.hostUnary_tanh_def, Ideal.ofBits_def, root_eq, cube_eq, half_word]
  rw [one_word]
  rfl

theorem r60 (i : S16x2048x512.Idx) : val_main_v60 (F := Ideal) a0 a1 a2 i = gv I (2048 * (i 0).val + (i 1).val) (i 2).val := by
  simp only [val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v17_apply, val_main_cst_9_apply, val_main_cst_10_apply, val_main_cst_11_apply, val_main_cst_12_apply, val_main_cst_13_apply, val_main_cst_14_apply, val_main_cst_15_apply, r15 A, Ideal.mulf_def, Ideal.addf_def, Ideal.hostDivf_def, Ideal.hostUnary_sqrt_def, Ideal.hostUnary_atan_def, Ideal.hostUnary_tanh_def, Ideal.ofBits_def, root_eq, cube_eq, half_word]
  rw [one_word]
  rfl

theorem r61 (i : S16x2048x8x64.Idx) : val_main_v61 (F := Ideal) a0 a1 a2 i = gv I (2048 * (i 0).val + (i 1).val) (64 * (i 2).val + (i 3).val) := by
  rw [val_main_v61_apply, r60 A]
  have h0 : (i 0).val < 16 := (i 0).isLt
  have h1 : (i 1).val < 2048 := (i 1).isLt
  have h2 : (i 2).val < 8 := (i 2).isLt
  have h3 : (i 3).val < 64 := (i 3).isLt
  refine congrArg₂ (gv I) ?_ ?_
  · dsimp only; omega
  · dsimp only; omega

theorem r67 (i : S16x2048x8x64.Idx) : val_main_v67 (F := Ideal) a0 a1 a2 i = gd I (2048 * (i 0).val + (i 1).val) (64 * (i 2).val + (i 3).val) := by
  simp only [val_main_v67_apply, val_main_v66_apply, val_main_v65_apply, val_main_v64_apply, val_main_v63_apply, val_main_v62_apply, val_main_cst_16_apply, val_main_cst_17_apply, r61 A, Ideal.subf_def, Ideal.addf_def, Ideal.hostDivf_def, Ideal.ofBits_def, zero_word, zero_add]
  have h3 : (i 3).val < 64 := (i 3).isLt
  unfold gd hmean
  rw [show (64 * (i 2).val + (i 3).val) / 64 = (i 2).val by omega]
  rfl

theorem r74 (i : S16x2048x8x64.Idx) : val_main_v74 (F := Ideal) a0 a1 a2 i = gd I (2048 * (i 0).val + (i 1).val) (64 * (i 2).val + (i 3).val) :=
  (congrFun (rfl : val_main_v74 (F := Ideal) a0 a1 a2 = val_main_v67 (F := Ideal) a0 a1 a2) i).trans (r67 A i)

theorem r85 (i : S16x2048x8x64.Idx) : val_main_v85 (F := Ideal) a0 a1 a2 a3 a4 i = vn I (2048 * (i 0).val + (i 1).val) (64 * (i 2).val + (i 3).val) := by
  simp only [val_main_v85_apply, val_main_v84_apply, val_main_v83_apply, val_main_v82_apply, val_main_v81_apply, val_main_v80_apply, val_main_v79_apply, val_main_v78_apply, val_main_v77_apply, val_main_v76_apply, val_main_v75_apply, val_main_v72_apply, val_main_v71_apply, val_main_v70_apply, val_main_v69_apply, val_main_v68_apply, val_main_v22_apply, val_main_v21_apply, val_main_cst_18_apply, val_main_cst_19_apply, val_main_cst_20_apply, r67 A, r74 A, A.lnw, A.lnb, Ideal.subf_def, Ideal.mulf_def, Ideal.addf_def, Ideal.hostDivf_def, Ideal.hostUnary_rsqrt_def, Ideal.ofBits_def, zero_word, zero_add]
  have h2 : (i 2).val < 8 := (i 2).isLt
  have h3 : (i 3).val < 64 := (i 3).isLt
  have e : (64 * (i 2).val + (i 3).val) / 64 = (i 2).val := by omega
  unfold vn gvar hmean
  rw [e, show 64 * (((i 2).val * 64 + (i 3).val) / 64 % 8) + ((i 2).val * 64 + (i 3).val) % 64 = 64 * (i 2).val + (i 3).val by omega]
  rfl

theorem r90 (i : S8x128x128.Idx) : val_main_v90 (F := Ideal) a5 i = if (i 2).val ≤ (i 1).val then I.ws (i 0).val (i 1).val (i 2).val else 0 := by
  simp only [val_main_v90_apply, val_main_v89_apply, val_main_v88_apply, val_main_v87_apply, val_main_v23_apply, val_main_cst_21_apply, val_main_c_apply, val_main_call1_v0_apply, val_main_call1_v1_apply, val_main_call0_v0_apply, val_main_call0_v1_apply, val_main_call0_v2_apply, val_main_call0_v3_apply, val_main_call0_v4_apply, val_main_call0_v5_apply, val_main_call0_c_apply, val_main_call0_c_0_apply, A.ws, Ideal.ofBits_def, zero_word]
  have h0 : (i 0).val < 8 := (i 0).isLt
  have h1 : (i 1).val < 128 := (i 1).isLt
  have h2 : (i 2).val < 128 := (i 2).isLt
  have e := tri_bit ⟨_, h1⟩ ⟨_, h2⟩
  simp only at e
  rw [e, sel_bit, sel_word, show (((i 0).val * 128 + (i 1).val) * 128 + (i 2).val) / 16384 % 8 = (i 0).val by omega,
    show (((i 0).val * 128 + (i 1).val) * 128 + (i 2).val) / 128 % 128 = (i 1).val by omega, show (((i 0).val * 128 + (i 1).val) * 128 + (i 2).val) % 128 = (i 2).val by omega]

theorem r96 (i : S16x16x128x8x64.Idx) : val_main_v96 (F := Ideal) a0 a1 a2 a3 a4 a5 a6 i = mixed I (2048 * (i 0).val + 128 * (i 1).val + (i 2).val) (64 * (i 3).val + (i 4).val) := by
  simp only [val_main_v96_apply, val_main_v95_apply, val_main_v94_apply, val_main_v93_apply, val_main_v92_apply, val_main_v91_apply, val_main_v86_apply, val_main_v24_apply, r90 A, r85 A, A.bs, Ideal.addf_def]
  have h0 : (i 0).val < 16 := (i 0).isLt
  have h1 : (i 1).val < 16 := (i 1).isLt
  have h2 : (i 2).val < 128 := (i 2).isLt
  have h3 : (i 3).val < 8 := (i 3).isLt
  have h4 : (i 4).val < 64 := (i 4).isLt
  unfold mixed
  rw [show (2048 * (i 0).val + 128 * (i 1).val + (i 2).val) % 128 = (i 2).val by omega, show (64 * (i 3).val + (i 4).val) / 64 = (i 3).val by omega]
  refine congrArg₂ (· + ·) (Finset.sum_congr rfl fun x _ => ?_) (congrArg₂ I.bs (by omega) (by omega))
  have hx := x.isLt
  rw [mul_comm]
  exact congrArg₂ (fun a b => _ * vn I a b) (by omega) (by omega)

theorem r98 (i : S16x2048x512.Idx) : val_main_v98 (F := Ideal) a0 a1 a2 a3 a4 a5 a6 i = gm I (2048 * (i 0).val + (i 1).val) (i 2).val := by
  rw [val_main_v98_apply, val_main_v97_apply, r42 A, r96 A, Ideal.mulf_def]
  have h0 : (i 0).val < 16 := (i 0).isLt
  have h1 : (i 1).val < 2048 := (i 1).isLt
  have h2 : (i 2).val < 512 := (i 2).isLt
  refine congrArg₂ (fun a b => gelu (proj I (2048 * (i 0).val + (i 1).val) (i 2).val) * mixed I a b) ?_ ?_
  · dsimp only; omega
  · dsimp only; omega

end Cert.ReferenceIdeal.Rows
-- ==== Proof.RefB.lean ====
/-
  The rows of the reference that enter the state-space part.
-/
module

public import proofs.«01_k».proof.Proof.RefA

@[expose] public section

set_option maxRecDepth 16384

noncomputable section

namespace Cert.ReferenceIdeal.Rows

open Idealize.ShloMosaic Cert.ReferenceIdeal Cert.ReferenceIdeal.Gen Cert.ReferenceIdeal.Read Cert.Layer

open Cert.KernelIdeal.Host (tri_bit sel_bit zero_int)
open Cert.KernelIdeal.Tiles (sel_word)

variable {I : Inp} {a0 : S16x2048x1024.Idx → EReal} {a1 : S1x1024.Idx → EReal} {a2 : S1x1024x2568.Idx → EReal} {a3 a4 : S1x8x64.Idx → EReal} {a5 : S1x8x128x128.Idx → EReal} {a6 : S1x8x128.Idx → EReal}
    {a7 : S1x4x1024.Idx → EReal} {a8 : S1x1024.Idx → EReal} {a9 a10 a11 : S1x8.Idx → EReal} {a12 : S1x512.Idx → EReal} {a13 : S1x1024x1024.Idx → EReal} {a14 a15 : S1x1024.Idx → EReal}
    {a16 : S1x1024x4096.Idx → EReal} {a17 : S1x4096x1024.Idx → EReal} {a18 : S1x1024.Idx → EReal} (A : Args I a0 a1 a2 a3 a4 a5 a6 a7 a8 a9 a10 a11 a12 a13 a14 a15 a16 a17 a18)

theorem silu_word (x : EReal) : x * Ideal.div (Ideal.ofBits .f32 0x3F800000#32) (Ideal.ofBits .f32 0x3F800000#32 + Ideal.exp (-x)) = silu x := by
  rw [one_word]; rfl

theorem softplus_word (x : EReal) : Scalar.select (Ideal.cmp .une (x - 0) (x - 0)) (x + 0) (max x 0 + Ideal.log1p (Ideal.exp (-(FloatOps.absf (F := Ideal) (φ := .f32) (x - 0))))) = softplus x := by
  rw [sub_zero, show Ideal.cmp .une x x = 0#1 by simp [Ideal.cmp]]
  rfl

include A

theorem r19 (i : S16x2048x1024.Idx) : val_main_v19 (F := Ideal) a0 a1 a2 i = proj I (2048 * (i 0).val + (i 1).val) (1536 + (i 2).val) := by
  rw [val_main_v19_apply, r15 A]

theorem r105' (b : Fin 16) (t : Fin 2051) (j : Fin 1024) : val_main_v105 (F := Ideal) a0 a1 a2 (ix3 b t j) = if 3 ≤ t.val then proj I (2048 * b.val + t.val - 3) (1536 + j.val) else 0 := by
  unfold val_main_v105
  pointwise []
  by_cases h : 3 ≤ t.val
  · rw [dif_pos ⟨h, by omega⟩, if_pos h, r19 A]
    exact congrArg₂ (proj I) (by show 2048 * b.val + (t.val - 3) = _; omega) rfl
  · rw [dif_neg (fun q => h q.1), if_neg h]
    exact zero_int

theorem r105 (i : S16x2051x1024.Idx) : val_main_v105 (F := Ideal) a0 a1 a2 i = if 3 ≤ (i 1).val then proj I (2048 * (i 0).val + (i 1).val - 3) (1536 + (i 2).val) else 0 :=
  (congrArg (val_main_v105 (F := Ideal) a0 a1 a2) (show i = ix3 (i 0) (i 1) (i 2) from funext fun a => by fin_cases a <;> rfl)).trans (r105' A (i 0) (i 1) (i 2))

theorem r136 (i : S16x2048x1024.Idx) : val_main_v136 (F := Ideal) a0 a1 a2 a7 a8 i = xc I (2048 * (i 0).val + (i 1).val) (i 2).val := by
  simp only [val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply, val_main_v110_apply, val_main_v109_apply, val_main_v108_apply, val_main_v107_apply, val_main_v106_apply, val_main_v100_apply, val_main_v99_apply, val_main_call3_v0_apply, val_main_call3_v1_apply, val_main_call3_v2_apply, val_main_call3_v3_apply, val_main_call3_v4_apply, val_main_call3_v5_apply, val_main_call3_cst_apply, val_main_call3_cst_0_apply, r105 A, A.cw, A.cb, Ideal.mulf_def, Ideal.addf_def, Ideal.hostDivf_def, Ideal.hostNegf_def, Ideal.negf_def, Ideal.hostUnary_exp_def, Ideal.ofBits_def, silu_word]
  have h0 : (i 0).val < 16 := (i 0).isLt
  have h1 : (i 1).val < 2048 := (i 1).isLt
  have h2 : (i 2).val < 1024 := (i 2).isLt
  unfold xc
  refine congrArg silu (congrArg₂ (· + ·) (congrArg₂ (· + ·) (congrArg₂ (· + ·) (congrArg₂ (· + ·) (congrArg₂ (· * ·) ?_ ?_) (congrArg₂ (· * ·) ?_ ?_)) (congrArg₂ (· * ·) ?_ ?_)) (congrArg₂ (· * ·) ?_ ?_)) (congrArg I.cb (by omega)))
  all_goals first
    | exact congrArg₂ I.cw (by omega) (by omega)
    | (unfold xb; exact if_congr (by omega) (congrArg₂ (proj I) (by omega) rfl) rfl)

theorem r146 (i : S16x2048x8.Idx) : val_main_v146 (F := Ideal) a0 a1 a2 a9 i = dt I (2048 * (i 0).val + (i 1).val) (i 2).val := by
  simp only [val_main_v146_apply, val_main_v145_apply, val_main_v144_apply, val_main_v143_apply, val_main_v101_apply, val_main_v20_apply, val_main_call4_cst_apply, val_main_call4_v0_apply, val_main_call4_v1_apply, val_main_call4_v2_apply, val_main_call4_v3_apply, val_main_call4_v4_apply, val_main_call4_v5_apply, val_main_call4_v6_apply, val_main_call4_v7_apply, val_main_call4_v8_apply, val_main_call4_v9_apply, val_main_call4_v10_apply, val_main_call4_v11_apply, r15 A, A.dtb, Ideal.mulf_def, Ideal.addf_def, Ideal.subf_def, Ideal.maximumf_def, Ideal.hostNegf_def, Ideal.hostAbsf_def, Ideal.negf_def, Ideal.hostUnary_exp_def, Ideal.hostUnary_log1p_def, Ideal.ofBits_def, zero_word]
  have h2 : (i 2).val < 8 := (i 2).isLt
  refine (softplus_word _).trans ?_
  rw [Nat.mod_eq_of_lt h2]
  rfl

theorem r150 (i : S16x16x128x8.Idx) : val_main_v150 (F := Ideal) a0 a1 a2 a9 i = dt I (2048 * (i 0).val + 128 * (i 1).val + (i 2).val) (i 3).val := by
  rw [val_main_v150_apply, r146 A]
  have h0 : (i 0).val < 16 := (i 0).isLt
  have h1 : (i 1).val < 16 := (i 1).isLt
  have h2 : (i 2).val < 128 := (i 2).isLt
  have h3 : (i 3).val < 8 := (i 3).isLt
  refine congrArg₂ (dt I) ?_ ?_
  · dsimp only; omega
  · dsimp only; omega

theorem r161 (i : S16x16x128x8.Idx) : val_main_v161 (F := Ideal) a0 a1 a2 a9 a10 i = dta I (2048 * (i 0).val + 128 * (i 1).val + (i 2).val) (i 3).val := by
  simp only [val_main_v161_apply, val_main_v160_apply, val_main_v159_apply, val_main_v148_apply, val_main_v147_apply, val_main_v102_apply, r150 A, A.alog, Ideal.mulf_def, Ideal.hostNegf_def, Ideal.negf_def, Ideal.hostUnary_exp_def]
  rw [Nat.mod_eq_of_lt (show (i 3).val < 8 from (i 3).isLt)]
  rfl

theorem r138 (i : S16x2048x8x64.Idx) : val_main_v138 (F := Ideal) a0 a1 a2 a7 a8 i = xc I (2048 * (i 0).val + (i 1).val) (64 * (i 2).val + (i 3).val) := by
  rw [val_main_v138_apply, val_main_v137_apply, r136 A]
  have h0 : (i 0).val < 16 := (i 0).isLt
  have h1 : (i 1).val < 2048 := (i 1).isLt
  have h2 : (i 2).val < 8 := (i 2).isLt
  have h3 : (i 3).val < 64 := (i 3).isLt
  refine congrArg₂ (xc I) ?_ ?_
  · dsimp only; omega
  · dsimp only; omega

theorem r149 (i : S16x16x128x8x64.Idx) : val_main_v149 (F := Ideal) a0 a1 a2 a7 a8 i = xc I (2048 * (i 0).val + 128 * (i 1).val + (i 2).val) (64 * (i 3).val + (i 4).val) := by
  rw [val_main_v149_apply, r138 A]
  have h0 : (i 0).val < 16 := (i 0).isLt
  have h1 : (i 1).val < 16 := (i 1).isLt
  have h2 : (i 2).val < 128 := (i 2).isLt
  have h3 : (i 3).val < 8 := (i 3).isLt
  have h4 : (i 4).val < 64 := (i 4).isLt
  refine congrArg₂ (xc I) ?_ ?_
  · dsimp only; omega
  · dsimp only; omega

theorem r165 (i : S16x16x128x8x64.Idx) : val_main_v165 (F := Ideal) a0 a1 a2 a7 a8 a9 i = xdt I (2048 * (i 0).val + 128 * (i 1).val + (i 2).val) (i 3).val (i 4).val := by
  rw [val_main_v165_apply, val_main_v164_apply, val_main_v163_apply, r150 A, r149 A, Ideal.mulf_def]
  rfl

theorem r140 (i : S16x2048x2x128.Idx) : val_main_v140 (F := Ideal) a0 a1 a2 a7 a8 i = xc I (2048 * (i 0).val + (i 1).val) (512 + 128 * (i 2).val + (i 3).val) := by
  rw [val_main_v140_apply, val_main_v139_apply, r136 A]
  have h0 : (i 0).val < 16 := (i 0).isLt
  have h1 : (i 1).val < 2048 := (i 1).isLt
  have h2 : (i 2).val < 2 := (i 2).isLt
  have h3 : (i 3).val < 128 := (i 3).isLt
  refine congrArg₂ (xc I) ?_ ?_
  · dsimp only; omega
  · dsimp only; omega

theorem r153 (i : S16x2048x8x128.Idx) : val_main_v153 (F := Ideal) a0 a1 a2 a7 a8 i = bm I (2048 * (i 0).val + (i 1).val) (i 2).val (i 3).val := by
  rw [val_main_v153_apply, val_main_v152_apply, val_main_v151_apply, r140 A]
  have h0 : (i 0).val < 16 := (i 0).isLt
  have h1 : (i 1).val < 2048 := (i 1).isLt
  have h2 : (i 2).val < 8 := (i 2).isLt
  have h3 : (i 3).val < 128 := (i 3).isLt
  refine congrArg₂ (xc I) ?_ ?_
  · dsimp only; omega
  · dsimp only; omega

theorem r154 (i : S16x16x128x8x128.Idx) : val_main_v154 (F := Ideal) a0 a1 a2 a7 a8 i = bm I (2048 * (i 0).val + 128 * (i 1).val + (i 2).val) (i 3).val (i 4).val := by
  rw [val_main_v154_apply, r153 A]
  have h0 : (i 0).val < 16 := (i 0).isLt
  have h1 : (i 1).val < 16 := (i 1).isLt
  have h2 : (i 2).val < 128 := (i 2).isLt
  have h3 : (i 3).val < 8 := (i 3).isLt
  have h4 : (i 4).val < 128 := (i 4).isLt
  refine congr (congrArg₂ (bm I) ?_ ?_) ?_
  · dsimp only; omega
  · dsimp only; omega
  · dsimp only; omega

theorem r142 (i : S16x2048x2x128.Idx) : val_main_v142 (F := Ideal) a0 a1 a2 a7 a8 i = xc I (2048 * (i 0).val + (i 1).val) (768 + 128 * (i 2).val + (i 3).val) := by
  rw [val_main_v142_apply, val_main_v141_apply, r136 A]
  have h0 : (i 0).val < 16 := (i 0).isLt
  have h1 : (i 1).val < 2048 := (i 1).isLt
  have h2 : (i 2).val < 2 := (i 2).isLt
  have h3 : (i 3).val < 128 := (i 3).isLt
  refine congrArg₂ (xc I) ?_ ?_
  · dsimp only; omega
  · dsimp only; omega

theorem r157 (i : S16x2048x8x128.Idx) : val_main_v157 (F := Ideal) a0 a1 a2 a7 a8 i = cm I (2048 * (i 0).val + (i 1).val) (i 2).val (i 3).val := by
  rw [val_main_v157_apply, val_main_v156_apply, val_main_v155_apply, r142 A]
  have h0 : (i 0).val < 16 := (i 0).isLt
  have h1 : (i 1).val < 2048 := (i 1).isLt
  have h2 : (i 2).val < 8 := (i 2).isLt
  have h3 : (i 3).val < 128 := (i 3).isLt
  refine congrArg₂ (xc I) ?_ ?_
  · dsimp only; omega
  · dsimp only; omega

theorem r158 (i : S16x16x128x8x128.Idx) : val_main_v158 (F := Ideal) a0 a1 a2 a7 a8 i = cm I (2048 * (i 0).val + 128 * (i 1).val + (i 2).val) (i 3).val (i 4).val := by
  rw [val_main_v158_apply, r157 A]
  have h0 : (i 0).val < 16 := (i 0).isLt
  have h1 : (i 1).val < 16 := (i 1).isLt
  have h2 : (i 2).val < 128 := (i 2).isLt
  have h3 : (i 3).val < 8 := (i 3).isLt
  have h4 : (i 4).val < 128 := (i 4).isLt
  refine congr (congrArg₂ (cm I) ?_ ?_) ?_
  · dsimp only; omega
  · dsimp only; omega
  · dsimp only; omega

end Cert.ReferenceIdeal.Rows
-- ==== Proof.RefC.lean ====
/-
  The reference's running sums, masks and chunk products.
-/
module

public import proofs.«01_k».proof.Proof.RefB

@[expose] public section

set_option maxRecDepth 16384

noncomputable section

namespace Cert.ReferenceIdeal.Rows

open Idealize.ShloMosaic Cert.ReferenceIdeal Cert.ReferenceIdeal.Gen Cert.ReferenceIdeal.Read Cert.Layer

open Cert.KernelIdeal.Host (tri_bit sel_bit zero_int)
open Cert.KernelIdeal.Tiles (sel_word neg_inf)

theorem fold_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The positions of a window of one along all but the third axis. -/
def winEquiv : (⟨4, ![1, 1, 128, 1]⟩ : Shape).Idx ≃ Fin 128 where
  toFun q := q 2
  invFun s := ix4 0 0 s 0
  left_inv q := by
    funext a
    fin_cases a
    · exact Fin.ext (by have : (q 0).val < 1 := (q 0).isLt; show 0 = (q 0).val; omega)
    · exact Fin.ext (by have : (q 1).val < 1 := (q 1).isLt; show 0 = (q 1).val; omega)
    · rfl
    · exact Fin.ext (by have : (q 3).val < 1 := (q 3).isLt; show 0 = (q 3).val; omega)
  right_inv s := rfl

/-- A running sum along the third axis. -/
theorem cums (x : S16x16x128x8.Idx → EReal) (h : S16x16x128x8.ReduceWindows ![1, 1, 128, 1] ![1, 1, 1, 1] ![0, 0, 127, 0] ![0, 0, 0, 0] S16x16x128x8) (i : S16x16x128x8.Idx) :
    Ideal.hostReduceWindowAdd (s := S16x16x128x8) ![1, 1, 128, 1] ![1, 1, 1, 1] ![0, 0, 127, 0] ![0, 0, 0, 0] h x 0 i
      = ∑ s : Fin 128, if s.val ≤ (i 2).val then x (ix4 (i 0) (i 1) s (i 3)) else 0 := by
  unfold Ideal.hostReduceWindowAdd Host.reduceWindow
  dsimp only
  rw [fold_sum, zero_add, ← Fin.sum_univ_def]
  have h0 : (i 0).val < 16 := (i 0).isLt
  have h1 : (i 1).val < 16 := (i 1).isLt
  have h2 : (i 2).val < 128 := (i 2).isLt
  have h3 : (i 3).val < 8 := (i 3).isLt
  refine Fintype.sum_equiv (((⟨4, ![1, 1, 128, 1]⟩ : Shape).rowMajor.symm.trans winEquiv).trans (Equiv.addRight (⟨((i 2).val + 1) % 128, Nat.mod_lt _ (by decide)⟩ : Fin 128))) _ _ fun k => ?_
  obtain ⟨w, rfl⟩ : ∃ w : Fin 128, k = (⟨4, ![1, 1, 128, 1]⟩ : Shape).rowMajor (winEquiv.symm w) := ⟨winEquiv ((⟨4, ![1, 1, 128, 1]⟩ : Shape).rowMajor.symm k), by simp⟩
  simp only [Equiv.trans_apply, Equiv.symm_apply_apply, Equiv.apply_symm_apply]
  have hw := w.isLt
  have es : ((Equiv.addRight (⟨((i 2).val + 1) % 128, Nat.mod_lt _ (by decide)⟩ : Fin 128)) w).val = (w.val + ((i 2).val + 1) % 128) % 128 := rfl
  by_cases hc : 127 ≤ (i 2).val + w.val
  · rw [dif_pos, if_pos (by rw [es]; omega)]
    · refine congrArg x (funext fun a => Fin.ext ?_)
      fin_cases a
      · show (i 0).val * 1 + 0 - 0 = (i 0).val; omega
      · show (i 1).val * 1 + 0 - 0 = (i 1).val; omega
      · show (i 2).val * 1 + w.val - 127 = _; refine Eq.trans ?_ es.symm; omega
      · show (i 3).val * 1 + 0 - 0 = (i 3).val; omega
    · intro a
      fin_cases a
      · show 0 ≤ (i 0).val * 1 + 0 ∧ (i 0).val * 1 + 0 - 0 < 16; omega
      · show 0 ≤ (i 1).val * 1 + 0 ∧ (i 1).val * 1 + 0 - 0 < 16; omega
      · show 127 ≤ (i 2).val * 1 + w.val ∧ (i 2).val * 1 + w.val - 127 < 128; omega
      · show 0 ≤ (i 3).val * 1 + 0 ∧ (i 3).val * 1 + 0 - 0 < 8; omega
  · rw [dif_neg, if_neg (by rw [es]; omega)]
    intro hin
    have := (hin 2).1
    have : 127 ≤ (i 2).val * 1 + w.val := this
    omega

variable {I : Inp} {a0 : S16x2048x1024.Idx → EReal} {a1 : S1x1024.Idx → EReal} {a2 : S1x1024x2568.Idx → EReal} {a3 a4 : S1x8x64.Idx → EReal} {a5 : S1x8x128x128.Idx → EReal} {a6 : S1x8x128.Idx → EReal}
    {a7 : S1x4x1024.Idx → EReal} {a8 : S1x1024.Idx → EReal} {a9 a10 a11 : S1x8.Idx → EReal} {a12 : S1x512.Idx → EReal} {a13 : S1x1024x1024.Idx → EReal} {a14 a15 : S1x1024.Idx → EReal}
    {a16 : S1x1024x4096.Idx → EReal} {a17 : S1x4096x1024.Idx → EReal} {a18 : S1x1024.Idx → EReal} (A : Args I a0 a1 a2 a3 a4 a5 a6 a7 a8 a9 a10 a11 a12 a13 a14 a15 a16 a17 a18)

include A

theorem r162 (i : S16x16x128x8.Idx) : val_main_v162 (F := Ideal) a0 a1 a2 a9 a10 i = acs I (2048 * (i 0).val + 128 * (i 1).val + (i 2).val) (i 3).val := by
  have e : val_main_v162 (F := Ideal) a0 a1 a2 a9 a10 i
      = Ideal.hostReduceWindowAdd (s := S16x16x128x8) ![1, 1, 128, 1] ![1, 1, 1, 1] ![0, 0, 127, 0] ![0, 0, 0, 0]
        reduceWindows_S16x16x128x8_S16x16x128x8_w1s1p0_0_w1s1p0_0_w128s1p127_0_w1s1p0_0 (val_main_v161 (F := Ideal) a0 a1 a2 a9 a10) (Ideal.ofBits .f32 0x00000000#32) i := rfl
  rw [e, zero_word, cums]
  have h2 : (i 2).val < 128 := (i 2).isLt
  unfold acs
  refine Finset.sum_congr rfl fun s _ => ?_
  rw [r161 A]
  refine if_congr ?_ (congrArg₂ (dta I) ?_ rfl) rfl
  · omega
  · show 2048 * (i 0).val + 128 * (i 1).val + s.val = _; omega

theorem r175 (i : S16x16x128x128x8.Idx) : val_main_v175 (F := Ideal) a0 a1 a2 a9 a10 i
    = Ideal.exp (if (i 3).val ≤ (i 2).val then acs I (2048 * (i 0).val + 128 * (i 1).val + (i 2).val) (i 4).val - acs I (2048 * (i 0).val + 128 * (i 1).val + (i 3).val) (i 4).val else ⊥) := by
  simp only [val_main_v175_apply, val_main_v174_apply, val_main_v173_apply, val_main_v172_apply, val_main_v171_apply, val_main_v170_apply, val_main_v169_apply, val_main_v168_apply, val_main_v167_apply, val_main_v166_apply, val_main_c_23_apply, val_main_cst_24_apply, val_main_call6_v0_apply, val_main_call6_v1_apply, val_main_call6_v2_apply, val_main_call6_v3_apply, val_main_call6_v4_apply, val_main_call6_v5_apply, val_main_call6_c_apply, val_main_call6_c_0_apply, val_main_call7_v0_apply, val_main_call7_v1_apply, val_main_call7_v2_apply, r162 A, Ideal.subf_def, Ideal.hostUnary_exp_def, Ideal.ofBits_def, neg_inf]
  have h2 : (i 2).val < 128 := (i 2).isLt
  have h3 : (i 3).val < 128 := (i 3).isLt
  have e := tri_bit ⟨_, h2⟩ ⟨_, h3⟩
  simp only at e
  rw [e, sel_bit, sel_word]

theorem r180 (i : S16x16x128x8x64.Idx) : val_main_v180 (F := Ideal) a0 a1 a2 a7 a8 a9 a10 i = ydiag I (2048 * (i 0).val + 128 * (i 1).val + (i 2).val) (i 3).val (i 4).val := by
  rw [val_main_v180_apply, val_main_v179_apply]
  have h2 : (i 2).val < 128 := (i 2).isLt
  unfold ydiag
  refine Finset.sum_congr rfl fun s _ => ?_
  have hs := s.isLt
  rw [r165 A, val_main_v178_apply, val_main_v177_apply, val_main_v176_apply, r175 A, Ideal.mulf_def, mul_comm]
  have e1 : (2048 * (i 0).val + 128 * (i 1).val + (i 2).val) % 128 = (i 2).val := by omega
  have e2 : 128 * ((2048 * (i 0).val + 128 * (i 1).val + (i 2).val) / 128) = 2048 * (i 0).val + 128 * (i 1).val := by omega
  rw [e1, e2]
  refine congrArg₂ (· * ·) (congrArg₂ (· * ·) ?_ rfl) rfl
  unfold cbm
  refine Finset.sum_congr rfl fun n _ => ?_
  rw [r154 A, r158 A, mul_comm]

theorem r188 (i : S16x16x8x64x128.Idx) : val_main_v188 (F := Ideal) a0 a1 a2 a7 a8 a9 a10 i
    = ∑ s : Fin 128, bm I (128 * (16 * (i 0).val + (i 1).val) + s) (i 2).val (i 4).val
      * Ideal.exp (acs I (128 * (16 * (i 0).val + (i 1).val) + 127) (i 2).val - acs I (128 * (16 * (i 0).val + (i 1).val) + s) (i 2).val)
      * xdt I (128 * (16 * (i 0).val + (i 1).val) + s) (i 2).val (i 3).val := by
  rw [val_main_v188_apply]
  refine Finset.sum_congr rfl fun s _ => ?_
  have hs := s.isLt
  have h0 : (i 0).val < 16 := (i 0).isLt
  have h1 : (i 1).val < 16 := (i 1).isLt
  rw [val_main_v187_apply, val_main_v186_apply, val_main_v185_apply, val_main_v184_apply, val_main_v183_apply, val_main_v182_apply, val_main_v181_apply, r165 A, r154 A, r162 A, r162 A, Ideal.mulf_def, Ideal.subf_def, Ideal.hostUnary_exp_def, mul_comm]
  have e : ∀ x : ℕ, 128 * (16 * (i 0).val + (i 1).val) + x = 2048 * (i 0).val + 128 * (i 1).val + x := fun x => by omega
  rw [e, e]
  rfl

theorem r191 (i : S16x16x8.Idx) : val_main_v191 (F := Ideal) a0 a1 a2 a9 a10 i = Ideal.exp (acs I (128 * (16 * (i 0).val + (i 1).val) + 127) (i 2).val) := by
  simp only [val_main_v191_apply, val_main_v190_apply, val_main_v189_apply, r162 A, Ideal.hostUnary_exp_def]
  have h0 : (i 0).val < 16 := (i 0).isLt
  have h1 : (i 1).val < 16 := (i 1).isLt
  have h2 : (i 2).val < 8 := (i 2).isLt
  refine congrArg Ideal.exp (congrArg₂ (acs I) ?_ ?_) <;> omega

omit A

/-- Contents of the chunks' states: chunk `k` of every sequence. -/
def At (I : Inp) (k : ℕ) (v : S16x8x64x128.Idx → EReal) : Prop := ∀ i, v i = st I (16 * (i 0).val + k) (i 1).val (i 2).val (i 3).val

theorem at_zero (I : Inp) : At I 0 (val_main_v192 (F := Ideal)) := by
  intro i
  rw [val_main_v192_apply, val_main_cst_25_apply, Ideal.ofBits_def, zero_word]
  rcases Nat.eq_zero_or_pos (i 0).val with h | h
  · rw [h]; rfl
  · obtain ⟨n, hn⟩ : ∃ n, 16 * (i 0).val + 0 = n + 1 := ⟨16 * (i 0).val - 1, by omega⟩
    rw [hn, st, if_pos (by omega)]

theorem piece1 (d : S16x16x8.Idx → EReal) (k : ℕ) (hk : k < 16) (hs : S16x16x8.Slices ![0, k, 0] S16x1x8) (b : Fin 16) (h : Fin 8) (p : Fin 64) (n : Fin 128) :
    broadcastInDim S16x8x64x128 ![0, 1, 2, 3] bcast_S16x8x1x1_S16x8x64x128_0_1_2_3 (broadcastInDim S16x8x1x1 ![0, 1] bcast_S16x8_S16x8x1x1_0_1
      (shapeCast S16x8 (extractStridedSlice S16x1x8 ![0, k, 0] d hs) shapeCasts_S16x1x8_S16x8)) (ix4 b h p n) = d (ix3 b ⟨k, hk⟩ h) := by
  pointwise []
  done

theorem piece2 (e : S16x16x8x64x128.Idx → EReal) (k : ℕ) (hk : k < 16) (hs : S16x16x8x64x128.Slices ![0, k, 0, 0, 0] S16x1x8x64x128) (b : Fin 16) (h : Fin 8) (p : Fin 64) (n : Fin 128) :
    shapeCast S16x8x64x128 (extractStridedSlice S16x1x8x64x128 ![0, k, 0, 0, 0] e hs) shapeCasts_S16x1x8x64x128_S16x8x64x128 (ix4 b h p n) = e (ix5 b ⟨k, hk⟩ h p n) := by
  pointwise []
  done

/-- A chunk's update takes the states before it to those after it. -/
theorem at_succ {S : S16x8x64x128.Idx → EReal} {d : S16x16x8.Idx → EReal} {e : S16x16x8x64x128.Idx → EReal} {k : ℕ} (hS : At I k S)
    (hd : ∀ i, d i = Ideal.exp (acs I (128 * (16 * (i 0).val + (i 1).val) + 127) (i 2).val))
    (he : ∀ i, e i = ∑ s : Fin 128, bm I (128 * (16 * (i 0).val + (i 1).val) + s) (i 2).val (i 4).val
      * Ideal.exp (acs I (128 * (16 * (i 0).val + (i 1).val) + 127) (i 2).val - acs I (128 * (16 * (i 0).val + (i 1).val) + s) (i 2).val)
      * xdt I (128 * (16 * (i 0).val + (i 1).val) + s) (i 2).val (i 3).val)
    (hk : k + 1 < 16) (hs1 : S16x16x8.Slices ![0, k, 0] S16x1x8) (hs2 : S16x16x8x64x128.Slices ![0, k, 0, 0, 0] S16x1x8x64x128) :
    At I (k + 1) (addf (F := Ideal) (φ := .f32) (mulf (F := Ideal) (φ := .f32) S (broadcastInDim S16x8x64x128 ![0, 1, 2, 3] bcast_S16x8x1x1_S16x8x64x128_0_1_2_3 (broadcastInDim S16x8x1x1 ![0, 1] bcast_S16x8_S16x8x1x1_0_1
      (shapeCast S16x8 (extractStridedSlice S16x1x8 ![0, k, 0] d hs1) shapeCasts_S16x1x8_S16x8))))
      (shapeCast S16x8x64x128 (extractStridedSlice S16x1x8x64x128 ![0, k, 0, 0, 0] e hs2) shapeCasts_S16x1x8x64x128_S16x8x64x128)) := by
  intro i
  obtain ⟨b, h, p, n, rfl⟩ : ∃ (b : Fin 16) (h : Fin 8) (p : Fin 64) (n : Fin 128), i = ix4 b h p n := ⟨i 0, i 1, i 2, i 3, funext fun a => by fin_cases a <;> rfl⟩
  refine (congrArg₂ (· + ·) (congrArg₂ (· * ·) (hS (ix4 b h p n)) ((piece1 d k (by omega) hs1 b h p n).trans (hd _))) ((piece2 e k (by omega) hs2 b h p n).trans (he _))).trans ?_
  show _ = st I (16 * b.val + (k + 1)) h.val p.val n.val
  rw [← Nat.add_assoc, st, if_neg (by omega)]
  rfl

/-- A state with the chunk axis put in. -/
theorem lift {S : S16x8x64x128.Idx → EReal} {k : ℕ} (hS : At I k S) (b : Fin 16) (c : Fin 1) (h : Fin 8) (p : Fin 64) (n : Fin 128) :
    broadcastInDim S16x1x8x64x128 ![0, 2, 3, 4] bcast_S16x8x64x128_S16x1x8x64x128_0_2_3_4 S (ix5 b c h p n) = st I (16 * b.val + k) h.val p.val n.val := by
  have e : broadcastInDim S16x1x8x64x128 ![0, 2, 3, 4] bcast_S16x8x64x128_S16x1x8x64x128_0_2_3_4 S (ix5 b c h p n) = S (ix4 b h p n) := by
    pointwise []
  exact e.trans (hS _)

end Cert.ReferenceIdeal.Rows
-- ==== Proof.RefD.lean ====
/-
  The reference's chunk states, its outputs' rows and its result.
-/
module

public import proofs.«01_k».proof.Proof.RefC
public import Idealize.ShloMosaic.Lib.Pipeline.ValueKit.Tiles

@[expose] public section

set_option maxRecDepth 16384

noncomputable section

namespace Cert.ReferenceIdeal.Rows

open Idealize.ShloMosaic Cert.ReferenceIdeal Cert.ReferenceIdeal.Gen Cert.ReferenceIdeal.Read Cert.Layer

open Cert.KernelIdeal.Host (tri_bit sel_bit zero_int)
open Cert.KernelIdeal.Tiles (sel_word)

variable {I : Inp} {a0 : S16x2048x1024.Idx → EReal} {a1 : S1x1024.Idx → EReal} {a2 : S1x1024x2568.Idx → EReal} {a3 a4 : S1x8x64.Idx → EReal} {a5 : S1x8x128x128.Idx → EReal} {a6 : S1x8x128.Idx → EReal}
    {a7 : S1x4x1024.Idx → EReal} {a8 : S1x1024.Idx → EReal} {a9 a10 a11 : S1x8.Idx → EReal} {a12 : S1x512.Idx → EReal} {a13 : S1x1024x1024.Idx → EReal} {a14 a15 : S1x1024.Idx → EReal}
    {a16 : S1x1024x4096.Idx → EReal} {a17 : S1x4096x1024.Idx → EReal} {a18 : S1x1024.Idx → EReal} (A : Args I a0 a1 a2 a3 a4 a5 a6 a7 a8 a9 a10 a11 a12 a13 a14 a15 a16 a17 a18)

theorem piece_at {k : ℕ} {S : S16x8x64x128.Idx → EReal} (hS : At I k S) (b c : Fin 16) (h : Fin 8) (p : Fin 64) (n : Fin 128) :
    PieceAt (t := S16x16x8x64x128) 1 (ix5 b c h p n) (st I (16 * b.val + c.val) h.val p.val n.val) S16x1x8x64x128
      (broadcastInDim S16x1x8x64x128 ![0, 2, 3, 4] bcast_S16x8x64x128_S16x1x8x64x128_0_2_3_4 S) k := by
  intro hk hr i hi hb
  have e : i = ix5 b 0 h p n := funext fun a => by
    fin_cases a
    · exact Fin.ext (hb 0 (by decide))
    · exact Fin.ext hi
    · exact Fin.ext (hb 2 (by decide))
    · exact Fin.ext (hb 3 (by decide))
    · exact Fin.ext (hb 4 (by decide))
  have hk' : c.val = k := hk
  rw [e, lift hS, hk']

include A

theorem s1 : At I 1 (val_main_v200 (F := Ideal) a0 a1 a2 a7 a8 a9 a10) := by
  unfold val_main_v200 val_main_v199 val_main_v198 val_main_v197 val_main_v196 val_main_v195 val_main_v194 val_main_v193
  exact at_succ (k := 0) (at_zero I) (r191 A) (r188 A) (by decide) _ _

theorem s2 : At I 2 (val_main_v208 (F := Ideal) a0 a1 a2 a7 a8 a9 a10) := by
  unfold val_main_v208 val_main_v207 val_main_v206 val_main_v205 val_main_v204 val_main_v203 val_main_v202 val_main_v201
  exact at_succ (k := 1) (s1 A) (r191 A) (r188 A) (by decide) _ _

theorem s3 : At I 3 (val_main_v216 (F := Ideal) a0 a1 a2 a7 a8 a9 a10) := by
  unfold val_main_v216 val_main_v215 val_main_v214 val_main_v213 val_main_v212 val_main_v211 val_main_v210 val_main_v209
  exact at_succ (k := 2) (s2 A) (r191 A) (r188 A) (by decide) _ _

theorem s4 : At I 4 (val_main_v224 (F := Ideal) a0 a1 a2 a7 a8 a9 a10) := by
  unfold val_main_v224 val_main_v223 val_main_v222 val_main_v221 val_main_v220 val_main_v219 val_main_v218 val_main_v217
  exact at_succ (k := 3) (s3 A) (r191 A) (r188 A) (by decide) _ _

theorem s5 : At I 5 (val_main_v232 (F := Ideal) a0 a1 a2 a7 a8 a9 a10) := by
  unfold val_main_v232 val_main_v231 val_main_v230 val_main_v229 val_main_v228 val_main_v227 val_main_v226 val_main_v225
  exact at_succ (k := 4) (s4 A) (r191 A) (r188 A) (by decide) _ _

theorem s6 : At I 6 (val_main_v240 (F := Ideal) a0 a1 a2 a7 a8 a9 a10) := by
  unfold val_main_v240 val_main_v239 val_main_v238 val_main_v237 val_main_v236 val_main_v235 val_main_v234 val_main_v233
  exact at_succ (k := 5) (s5 A) (r191 A) (r188 A) (by decide) _ _

theorem s7 : At I 7 (val_main_v248 (F := Ideal) a0 a1 a2 a7 a8 a9 a10) := by
  unfold val_main_v248 val_main_v247 val_main_v246 val_main_v245 val_main_v244 val_main_v243 val_main_v242 val_main_v241
  exact at_succ (k := 6) (s6 A) (r191 A) (r188 A) (by decide) _ _

theorem s8 : At I 8 (val_main_v256 (F := Ideal) a0 a1 a2 a7 a8 a9 a10) := by
  unfold val_main_v256 val_main_v255 val_main_v254 val_main_v253 val_main_v252 val_main_v251 val_main_v250 val_main_v249
  exact at_succ (k := 7) (s7 A) (r191 A) (r188 A) (by decide) _ _

theorem s9 : At I 9 (val_main_v264 (F := Ideal) a0 a1 a2 a7 a8 a9 a10) := by
  unfold val_main_v264 val_main_v263 val_main_v262 val_main_v261 val_main_v260 val_main_v259 val_main_v258 val_main_v257
  exact at_succ (k := 8) (s8 A) (r191 A) (r188 A) (by decide) _ _

theorem s10 : At I 10 (val_main_v272 (F := Ideal) a0 a1 a2 a7 a8 a9 a10) := by
  unfold val_main_v272 val_main_v271 val_main_v270 val_main_v269 val_main_v268 val_main_v267 val_main_v266 val_main_v265
  exact at_succ (k := 9) (s9 A) (r191 A) (r188 A) (by decide) _ _

theorem s11 : At I 11 (val_main_v280 (F := Ideal) a0 a1 a2 a7 a8 a9 a10) := by
  unfold val_main_v280 val_main_v279 val_main_v278 val_main_v277 val_main_v276 val_main_v275 val_main_v274 val_main_v273
  exact at_succ (k := 10) (s10 A) (r191 A) (r188 A) (by decide) _ _

theorem s12 : At I 12 (val_main_v288 (F := Ideal) a0 a1 a2 a7 a8 a9 a10) := by
  unfold val_main_v288 val_main_v287 val_main_v286 val_main_v285 val_main_v284 val_main_v283 val_main_v282 val_main_v281
  exact at_succ (k := 11) (s11 A) (r191 A) (r188 A) (by decide) _ _

theorem s13 : At I 13 (val_main_v296 (F := Ideal) a0 a1 a2 a7 a8 a9 a10) := by
  unfold val_main_v296 val_main_v295 val_main_v294 val_main_v293 val_main_v292 val_main_v291 val_main_v290 val_main_v289
  exact at_succ (k := 12) (s12 A) (r191 A) (r188 A) (by decide) _ _

theorem s14 : At I 14 (val_main_v304 (F := Ideal) a0 a1 a2 a7 a8 a9 a10) := by
  unfold val_main_v304 val_main_v303 val_main_v302 val_main_v301 val_main_v300 val_main_v299 val_main_v298 val_main_v297
  exact at_succ (k := 13) (s13 A) (r191 A) (r188 A) (by decide) _ _

theorem s15 : At I 15 (val_main_v312 (F := Ideal) a0 a1 a2 a7 a8 a9 a10) := by
  unfold val_main_v312 val_main_v311 val_main_v310 val_main_v309 val_main_v308 val_main_v307 val_main_v306 val_main_v305
  exact at_succ (k := 14) (s14 A) (r191 A) (r188 A) (by decide) _ _

theorem r337 (b c : Fin 16) (h : Fin 8) (p : Fin 64) (n : Fin 128) : val_main_v337 (F := Ideal) a0 a1 a2 a7 a8 a9 a10 (ix5 b c h p n) = st I (16 * b.val + c.val) h.val p.val n.val := by
  unfold val_main_v337
  refine concatenate_unit_eq _ _ _ _ _ (by rfl) ?_
  exact ⟨piece_at (at_zero I) b c h p n, piece_at (s1 A) b c h p n, piece_at (s2 A) b c h p n, piece_at (s3 A) b c h p n, piece_at (s4 A) b c h p n, piece_at (s5 A) b c h p n, piece_at (s6 A) b c h p n, piece_at (s7 A) b c h p n, piece_at (s8 A) b c h p n, piece_at (s9 A) b c h p n, piece_at (s10 A) b c h p n, piece_at (s11 A) b c h p n, piece_at (s12 A) b c h p n, piece_at (s13 A) b c h p n, piece_at (s14 A) b c h p n, piece_at (s15 A) b c h p n, trivial⟩

end Cert.ReferenceIdeal.Rows
-- ==== Proof.RefE.lean ====
/-
  The reference's outputs' rows and its result.
-/
module

public import proofs.«01_k».proof.Proof.RefD

@[expose] public section

set_option maxRecDepth 16384

noncomputable section

namespace Cert.ReferenceIdeal.Rows

open Idealize.ShloMosaic Cert.ReferenceIdeal Cert.ReferenceIdeal.Gen Cert.ReferenceIdeal.Read Cert.Layer

open Cert.KernelIdeal.Host (tri_bit sel_bit zero_int)
open Cert.KernelIdeal.Tiles (sel_word)

variable {I : Inp} {a0 : S16x2048x1024.Idx → EReal} {a1 : S1x1024.Idx → EReal} {a2 : S1x1024x2568.Idx → EReal} {a3 a4 : S1x8x64.Idx → EReal} {a5 : S1x8x128x128.Idx → EReal} {a6 : S1x8x128.Idx → EReal}
    {a7 : S1x4x1024.Idx → EReal} {a8 : S1x1024.Idx → EReal} {a9 a10 a11 : S1x8.Idx → EReal} {a12 : S1x512.Idx → EReal} {a13 : S1x1024x1024.Idx → EReal} {a14 a15 : S1x1024.Idx → EReal}
    {a16 : S1x1024x4096.Idx → EReal} {a17 : S1x4096x1024.Idx → EReal} {a18 : S1x1024.Idx → EReal} (A : Args I a0 a1 a2 a3 a4 a5 a6 a7 a8 a9 a10 a11 a12 a13 a14 a15 a16 a17 a18)

include A

theorem r337' (i : S16x16x8x64x128.Idx) : val_main_v337 (F := Ideal) a0 a1 a2 a7 a8 a9 a10 i = st I (16 * (i 0).val + (i 1).val) (i 2).val (i 3).val (i 4).val :=
  (congrArg (val_main_v337 (F := Ideal) a0 a1 a2 a7 a8 a9 a10) (show i = ix5 (i 0) (i 1) (i 2) (i 3) (i 4) from funext fun a => by fin_cases a <;> rfl)).trans
    (r337 A (i 0) (i 1) (i 2) (i 3) (i 4))

theorem r339 (i : S16x16x128x8x64.Idx) : val_main_v339 (F := Ideal) a0 a1 a2 a7 a8 a9 a10 i
    = ∑ n : Fin 128, cm I (2048 * (i 0).val + 128 * (i 1).val + (i 2).val) (i 3).val n * st I (16 * (i 0).val + (i 1).val) (i 3).val (i 4).val n := by
  rw [val_main_v339_apply, val_main_v338_apply]
  refine Finset.sum_congr rfl fun n _ => ?_
  rw [r337' A, r158 A, mul_comm]

theorem r343 (i : S16x16x128x8x64.Idx) : val_main_v343 (F := Ideal) a0 a1 a2 a7 a8 a9 a10 i = yoff I (2048 * (i 0).val + 128 * (i 1).val + (i 2).val) (i 3).val (i 4).val := by
  rw [val_main_v343_apply, val_main_v342_apply, val_main_v341_apply, val_main_v340_apply, r162 A, r339 A, Ideal.mulf_def, Ideal.hostUnary_exp_def]
  have h2 : (i 2).val < 128 := (i 2).isLt
  unfold yoff
  rw [show (2048 * (i 0).val + 128 * (i 1).val + (i 2).val) / 128 = 16 * (i 0).val + (i 1).val by omega]

theorem r349 (i : S16x16x128x8x64.Idx) : val_main_v349 (F := Ideal) a0 a1 a2 a7 a8 a9 a10 a11 i = yy I (2048 * (i 0).val + 128 * (i 1).val + (i 2).val) (64 * (i 3).val + (i 4).val) := by
  rw [val_main_v349_apply, val_main_v348_apply, val_main_v347_apply, val_main_v346_apply, val_main_v345_apply, val_main_v344_apply, val_main_v103_apply, r343 A, r180 A, r149 A, A.dsk, Ideal.mulf_def, Ideal.addf_def, Ideal.addf_def]
  have h3 : (i 3).val < 8 := (i 3).isLt
  have h4 : (i 4).val < 64 := (i 4).isLt
  unfold yy
  rw [show (64 * (i 3).val + (i 4).val) / 64 = (i 3).val by omega, show (64 * (i 3).val + (i 4).val) % 64 = (i 4).val by omega]
  refine congrArg₂ (· + ·) rfl (congrArg₂ (· * ·) (congrArg I.dsk ?_) rfl)
  show (i 3).val % 8 = (i 3).val
  omega

theorem r350 (i : S16x2048x512.Idx) : val_main_v350 (F := Ideal) a0 a1 a2 a7 a8 a9 a10 a11 i = yy I (2048 * (i 0).val + (i 1).val) (i 2).val := by
  rw [val_main_v350_apply, r349 A]
  have h0 : (i 0).val < 16 := (i 0).isLt
  have h1 : (i 1).val < 2048 := (i 1).isLt
  have h2 : (i 2).val < 512 := (i 2).isLt
  refine congrArg₂ (yy I) ?_ ?_
  · dsimp only; omega
  · dsimp only; omega

include A in
theorem r351 (i : S16x2048x512.Idx) : val_main_v351 (F := Ideal) a0 a1 a2 i = silu (proj I (2048 * (i 0).val + (i 1).val) (1024 + (i 2).val)) := by
  have e : val_main_v18 (F := Ideal) a0 a1 a2 i = proj I (2048 * (i 0).val + (i 1).val) (1024 + (i 2).val) := by
    rw [val_main_v18_apply, r15 A]
  simp only [val_main_v351_apply, val_main_call8_v0_apply, val_main_call8_v1_apply, val_main_call8_v2_apply, val_main_call8_v3_apply, val_main_call8_v4_apply, val_main_call8_v5_apply, val_main_call8_cst_apply, val_main_call8_cst_0_apply, e, Ideal.mulf_def, Ideal.addf_def, Ideal.hostDivf_def, Ideal.hostNegf_def, Ideal.negf_def, Ideal.hostUnary_exp_def, Ideal.ofBits_def]
  exact silu_word _

theorem r352 (i : S16x2048x512.Idx) : val_main_v352 (F := Ideal) a0 a1 a2 a7 a8 a9 a10 a11 i = yz I (2048 * (i 0).val + (i 1).val) (i 2).val := by
  rw [val_main_v352_apply, r350 A, r351 A]
  exact Ideal.mulf_def ..

theorem r353 (i : S16x2048x2x256.Idx) : val_main_v353 (F := Ideal) a0 a1 a2 a7 a8 a9 a10 a11 i = yz I (2048 * (i 0).val + (i 1).val) (256 * (i 2).val + (i 3).val) := by
  rw [val_main_v353_apply, r352 A]
  have h0 : (i 0).val < 16 := (i 0).isLt
  have h1 : (i 1).val < 2048 := (i 1).isLt
  have h2 : (i 2).val < 2 := (i 2).isLt
  have h3 : (i 3).val < 256 := (i 3).isLt
  refine congrArg₂ (yz I) ?_ ?_
  · dsimp only; omega
  · dsimp only; omega

theorem r355 (i : S16x2048x2.Idx) : val_main_v355 (F := Ideal) a0 a1 a2 a7 a8 a9 a10 a11 i
    = ∑ k : Fin 256, yz I (2048 * (i 0).val + (i 1).val) (256 * (i 2).val + k) * yz I (2048 * (i 0).val + (i 1).val) (256 * (i 2).val + k) := by
  rw [val_main_v355_apply, val_main_cst_26_apply, Ideal.ofBits_def, zero_word, zero_add]
  refine Finset.sum_congr rfl fun k _ => ?_
  rw [val_main_v354_apply, r353 A]
  exact Ideal.mulf_def ..

theorem r361 (i : S16x2048x2x1.Idx) : val_main_v361 (F := Ideal) a0 a1 a2 a7 a8 a9 a10 a11 i
    = Ideal.rsqrt (Ideal.div (∑ k : Fin 256, yz I (2048 * (i 0).val + (i 1).val) (256 * (i 2).val + k) * yz I (2048 * (i 0).val + (i 1).val) (256 * (i 2).val + k)) n256 + eps) := by
  rw [val_main_v361_apply, val_main_v360_apply, val_main_v358_apply, val_main_v356_apply, r355 A, val_main_v357_apply, val_main_v359_apply, val_main_cst_27_apply, val_main_cst_28_apply]
  rfl

theorem r363 (i : S16x2048x2x256.Idx) : val_main_v363 (F := Ideal) a0 a1 a2 a7 a8 a9 a10 a11 i
    = yz I (2048 * (i 0).val + (i 1).val) (256 * (i 2).val + (i 3).val)
      * Ideal.rsqrt (Ideal.div (∑ k : Fin 256, yz I (2048 * (i 0).val + (i 1).val) (256 * (i 2).val + k) * yz I (2048 * (i 0).val + (i 1).val) (256 * (i 2).val + k)) n256 + eps) := by
  rw [val_main_v363_apply, r353 A, val_main_v362_apply, r361 A]
  exact Ideal.mulf_def ..

theorem r367 (i : S16x2048x512.Idx) : val_main_v367 (F := Ideal) a0 a1 a2 a7 a8 a9 a10 a11 a12 i = ssm I (2048 * (i 0).val + (i 1).val) (i 2).val := by
  rw [val_main_v367_apply, val_main_v366_apply, val_main_v365_apply, val_main_v364_apply, val_main_v104_apply, r363 A, A.nrm, Ideal.mulf_def]
  have h0 : (i 0).val < 16 := (i 0).isLt
  have h1 : (i 1).val < 2048 := (i 1).isLt
  have h2 : (i 2).val < 512 := (i 2).isLt
  have e1 : 2048 * (idx_main_v364 i 0).val + (idx_main_v364 i 1).val = 2048 * (i 0).val + (i 1).val := by dsimp only; omega
  have e2 : (idx_main_v364 i 2).val = (i 2).val / 256 := by dsimp only; omega
  have e3 : 256 * ((i 2).val / 256) + (idx_main_v364 i 3).val = (i 2).val := by dsimp only; omega
  rw [e1, e2, e3]
  unfold ssm
  refine congrArg₂ (· * ·) rfl (congrArg I.nrm ?_)
  dsimp only
  omega

theorem r368' (b : Fin 16) (t : Fin 2048) (j : Fin 1024) : val_main_v368 (F := Ideal) a0 a1 a2 a3 a4 a5 a6 a7 a8 a9 a10 a11 a12 (ix3 b t j) = mix I (2048 * b.val + t.val) j.val := by
  unfold val_main_v368 mix
  by_cases hj : j.val < 512
  · rw [if_pos hj]
    refine (concatenate_pair_apply_left (t := S16x2048x1024) (s₁ := S16x2048x512) (s₂ := S16x2048x512) 2 _ _ concatenates_S16x2048x512_S16x2048x512_S16x2048x1024_d2 (ix3 b t j) rfl (ix3 b t (⟨j.val, hj⟩ : Fin 512)) ?_).trans (r98 A _)
    intro a; fin_cases a <;> rfl
  · have hj' : j.val - 512 < 512 := by omega
    rw [if_neg hj]
    refine (concatenate_pair_apply_right (t := S16x2048x1024) (s₁ := S16x2048x512) (s₂ := S16x2048x512) 2 _ _ concatenates_S16x2048x512_S16x2048x512_S16x2048x1024_d2 (ix3 b t j) rfl rfl (ix3 b t (⟨j.val - 512, hj'⟩ : Fin 512)) ?_ ?_).trans (r367 A _)
    · intro a ha; fin_cases a
      · rfl
      · rfl
      · exact absurd rfl ha
    · show j.val - 512 + 512 = j.val
      omega

theorem r368 (i : S16x2048x1024.Idx) : val_main_v368 (F := Ideal) a0 a1 a2 a3 a4 a5 a6 a7 a8 a9 a10 a11 a12 i = mix I (2048 * (i 0).val + (i 1).val) (i 2).val :=
  (congrArg (val_main_v368 (F := Ideal) a0 a1 a2 a3 a4 a5 a6 a7 a8 a9 a10 a11 a12) (show i = ix3 (i 0) (i 1) (i 2) from funext fun a => by fin_cases a <;> rfl)).trans (r368' A (i 0) (i 1) (i 2))

theorem r370 (i : S16x2048x1024.Idx) : val_main_v370 (F := Ideal) a0 a1 a2 a3 a4 a5 a6 a7 a8 a9 a10 a11 a12 a13 i = oo I (2048 * (i 0).val + (i 1).val) (i 2).val := by
  rw [val_main_v370_apply]
  refine Finset.sum_congr rfl fun k _ => ?_
  have hk := k.isLt
  rw [r368 A, val_main_v369_apply, A.wout]
  have h2 : (i 2).val < 1024 := (i 2).isLt
  refine congrArg₂ (· * ·) rfl (congrArg₂ I.wout ?_ ?_)
  · show (k.val * 1024 + (i 2).val) / 1024 % 1024 = k.val; omega
  · show (k.val * 1024 + (i 2).val) % 1024 = (i 2).val; omega

theorem r385 (i : S16x2048x1024.Idx) : val_main_v385 (F := Ideal) a0 a1 a2 a3 a4 a5 a6 a7 a8 a9 a10 a11 a12 a13 a14 i = x1 I (2048 * (i 0).val + (i 1).val) (i 2).val := by
  simp only [val_main_v385_apply, val_main_v384_apply, val_main_v383_apply, val_main_v382_apply, val_main_v381_apply, val_main_v380_apply, val_main_v379_apply, val_main_v378_apply, val_main_v377_apply, val_main_v376_apply, val_main_v375_apply, val_main_v374_apply, val_main_v373_apply, val_main_v372_apply, val_main_v371_apply, val_main_cst_29_apply, val_main_cst_30_apply, val_main_cst_31_apply, r370 A, A.x, A.npost, Ideal.mulf_def, Ideal.addf_def, Ideal.hostDivf_def, Ideal.hostUnary_rsqrt_def, Ideal.ofBits_def, zero_word, zero_add]
  rw [Nat.mod_eq_of_lt (show (i 2).val < 1024 from (i 2).isLt)]
  rfl

theorem r399 (i : S16x2048x1024.Idx) : val_main_v399 (F := Ideal) a0 a1 a2 a3 a4 a5 a6 a7 a8 a9 a10 a11 a12 a13 a14 a15 i = rmsF (x1 I (2048 * (i 0).val + (i 1).val)) I.npre (i 2).val := by
  simp only [val_main_v399_apply, val_main_v398_apply, val_main_v397_apply, val_main_v396_apply, val_main_v395_apply, val_main_v394_apply, val_main_v393_apply, val_main_v392_apply, val_main_v391_apply, val_main_v390_apply, val_main_v389_apply, val_main_v388_apply, val_main_v387_apply, val_main_v386_apply, val_main_cst_32_apply, val_main_cst_33_apply, val_main_cst_34_apply, r385 A, A.npre, Ideal.mulf_def, Ideal.addf_def, Ideal.hostDivf_def, Ideal.hostUnary_rsqrt_def, Ideal.ofBits_def, zero_word, zero_add]
  rw [Nat.mod_eq_of_lt (show (i 2).val < 1024 from (i 2).isLt)]
  rfl

theorem r401 (i : S16x2048x4096.Idx) : val_main_v401 (F := Ideal) a0 a1 a2 a3 a4 a5 a6 a7 a8 a9 a10 a11 a12 a13 a14 a15 a16 i
    = ∑ k : Fin 1024, rmsF (x1 I (2048 * (i 0).val + (i 1).val)) I.npre k * I.wup k (i 2).val := by
  rw [val_main_v401_apply]
  refine Finset.sum_congr rfl fun k _ => ?_
  have hk := k.isLt
  rw [r399 A, val_main_v400_apply, A.wup]
  have h2 : (i 2).val < 4096 := (i 2).isLt
  refine congrArg₂ (· * ·) rfl (congrArg₂ I.wup ?_ ?_)
  · show (k.val * 4096 + (i 2).val) / 4096 % 1024 = k.val; omega
  · show (k.val * 4096 + (i 2).val) % 4096 = (i 2).val; omega

theorem r403 (i : S16x2048x4096.Idx) : val_main_v403 (F := Ideal) a0 a1 a2 a3 a4 a5 a6 a7 a8 a9 a10 a11 a12 a13 a14 a15 a16 i = ff I (2048 * (i 0).val + (i 1).val) (i 2).val := by
  rw [val_main_v403_apply, val_main_v402_apply, val_main_call9_v0_apply, val_main_call9_cst_apply, r401 A, Ideal.mulf_def, Ideal.maximumf_def, Ideal.ofBits_def, zero_word]
  rfl

theorem r405 (i : S16x2048x1024.Idx) : val_main_v405 (F := Ideal) a0 a1 a2 a3 a4 a5 a6 a7 a8 a9 a10 a11 a12 a13 a14 a15 a16 a17 i = dn I (2048 * (i 0).val + (i 1).val) (i 2).val := by
  rw [val_main_v405_apply]
  refine Finset.sum_congr rfl fun k _ => ?_
  have hk := k.isLt
  rw [r403 A, val_main_v404_apply, A.wdown]
  have h2 : (i 2).val < 1024 := (i 2).isLt
  refine congrArg₂ (· * ·) rfl (congrArg₂ I.wdown ?_ ?_)
  · show (k.val * 1024 + (i 2).val) / 1024 % 4096 = k.val; omega
  · show (k.val * 1024 + (i 2).val) % 1024 = (i 2).val; omega

theorem r420 (i : S16x2048x1024.Idx) : val_main_v420 (F := Ideal) a0 a1 a2 a3 a4 a5 a6 a7 a8 a9 a10 a11 a12 a13 a14 a15 a16 a17 a18 i = Cert.Layer.out I (2048 * (i 0).val + (i 1).val) (i 2).val := by
  simp only [val_main_v420_apply, val_main_v419_apply, val_main_v418_apply, val_main_v417_apply, val_main_v416_apply, val_main_v415_apply, val_main_v414_apply, val_main_v413_apply, val_main_v412_apply, val_main_v411_apply, val_main_v410_apply, val_main_v409_apply, val_main_v408_apply, val_main_v407_apply, val_main_v406_apply, val_main_cst_35_apply, val_main_cst_36_apply, val_main_cst_37_apply, r385 A, r405 A, A.nffn, Ideal.mulf_def, Ideal.addf_def, Ideal.hostDivf_def, Ideal.hostUnary_rsqrt_def, Ideal.ofBits_def, zero_word, zero_add]
  rw [Nat.mod_eq_of_lt (show (i 2).val < 1024 from (i 2).isLt)]
  rfl

/-- The reference's result, by coordinates. -/
theorem r421 (i : S32768x1024.Idx) : val_main_v421 (F := Ideal) a0 a1 a2 a3 a4 a5 a6 a7 a8 a9 a10 a11 a12 a13 a14 a15 a16 a17 a18 i = Cert.Layer.out I (i 0).val (i 1).val := by
  rw [val_main_v421_apply, r420 A]
  have h0 : (i 0).val < 32768 := (i 0).isLt
  have h1 : (i 1).val < 1024 := (i 1).isLt
  refine congrArg₂ (Cert.Layer.out I) ?_ ?_
  · dsimp only; omega
  · dsimp only; omega

end Cert.ReferenceIdeal.Rows
-- ==== Proof.RefArgs.lean ====
/-
  The nineteen arrays give the arguments the reference's values are stated over.
-/
module

public import proofs.«01_k».proof.Proof.Args
public import proofs.«01_k».proof.Proof.RefE

@[expose] public section

set_option maxRecDepth 16384

noncomputable section

namespace Cert.ReferenceIdeal.Rows

open Idealize.ShloMosaic Idealize.SL.Sem Cert.ReferenceIdeal Cert.Layer

theorem one_eq (z : Fin 1) : (z : ℕ) = 0 := by omega

theorem args_of {a0 b0 : S16x2048x1024.Idx → EReal} {a1 b1 : S1x1024.Idx → EReal} {a2 b2 : S1x1024x2568.Idx → EReal} {a3 a4 b3 b4 : S1x8x64.Idx → EReal} {a5 b5 : S1x8x128x128.Idx → EReal} {a6 b6 : S1x8x128.Idx → EReal}
    {a7 b7 : S1x4x1024.Idx → EReal} {a8 b8 : S1x1024.Idx → EReal} {a9 a10 a11 b9 b10 b11 : S1x8.Idx → EReal} {a12 b12 : S1x512.Idx → EReal} {a13 b13 : S1x1024x1024.Idx → EReal} {a14 a15 b14 b15 : S1x1024.Idx → EReal}
    {a16 b16 : S1x1024x4096.Idx → EReal} {a17 b17 : S1x4096x1024.Idx → EReal} {a18 b18 : S1x1024.Idx → EReal}
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) (h18 : b18 = a18) : Args (inp a0 a1 a2 a3 a4 a5 a6 a7 a8 a9 a10 a11 a12 a13 a14 a15 a16 a17 a18) b0 b1 b2 b3 b4 b5 b6 b7 b8 b9 b10 b11 b12 b13 b14 b15 b16 b17 b18 := by
  subst h0 h1 h2 h3 h4 h5 h6 h7 h8 h9 h10 h11 h12 h13 h14 h15 h16 h17 h18
  exact
    { x := fun u => have h := (show (u 1).val < 2048 from (u 1).isLt); idx3_at (by omega) (by omega) rfl
      nmix := fun u => idx2_at (one_eq (u 0)) rfl
      win := fun u => idx3_at (one_eq (u 0)) rfl rfl
      lnw := fun u => have h := (show (u 2).val < 64 from (u 2).isLt); idx3_at (one_eq (u 0)) (by omega) (by omega)
      lnb := fun u => have h := (show (u 2).val < 64 from (u 2).isLt); idx3_at (one_eq (u 0)) (by omega) (by omega)
      ws := fun u => idx4_at (one_eq (u 0)) rfl rfl rfl
      bs := fun u => idx3_at (one_eq (u 0)) rfl rfl
      cw := fun u => idx3_at (one_eq (u 0)) rfl rfl
      cb := fun u => idx2_at (one_eq (u 0)) rfl
      dtb := fun u => idx2_at (one_eq (u 0)) rfl
      alog := fun u => idx2_at (one_eq (u 0)) rfl
      dsk := fun u => idx2_at (one_eq (u 0)) rfl
      nrm := fun u => idx2_at (one_eq (u 0)) rfl
      wout := fun u => idx3_at (one_eq (u 0)) rfl rfl
      npost := fun u => idx2_at (one_eq (u 0)) rfl
      npre := fun u => idx2_at (one_eq (u 0)) rfl
      wup := fun u => idx3_at (one_eq (u 0)) rfl rfl
      wdown := fun u => idx3_at (one_eq (u 0)) rfl rfl
      nffn := fun u => idx2_at (one_eq (u 0)) rfl }

end Cert.ReferenceIdeal.Rows
-- ==== Proof.Result.lean ====
/-
  The array the kernel leaves and the array the reference leaves are the layer's output, so they are equal.
-/
module

public import proofs.«01_k».proof.Defs
public import proofs.«01_k».proof.Proof.Steps
public import proofs.«01_k».proof.Proof.RefArgs
public import proofs.«01_k».proof.Proof.Gen.ReferenceIdeal.Run
public import Idealize.ShloMosaic.Lib.Pipeline.ValueKit.Geometry

@[expose] public section

set_option maxRecDepth 16384

noncomputable section

namespace Cert.KernelIdeal.Steps

open Idealize.ShloMosaic Idealize.SL.Sem Cert.KernelIdeal Cert.KernelIdeal.Gen Cert.Layer Cert.KernelIdeal.Tiles Cert.KernelIdeal.Host

variable (m : (ℓ : Loc nD τ sig) → Buf (Elt Ideal) ℓ) (c : Dev nD)

/-- The layer's output as an array. -/
def whole : S32768x1024.Idx → EReal := fun i => out (I m c) (i 0).val (i 1).val

theorem late : ∀ t : Fin cfg0.N, (cfg0.win 24).flush t = true → t.val = t.val - 1 + 1 := by decide +kernel

theorem final : (dats m 0 c).arrAt 24 cfg0.N = whole m c := by
  refine (dats m 0 c).arrAt_eq_of_covers 24 _ (by decide +kernel) fun t hf y => ?_
  obtain ⟨e0, e1⟩ := at24 t
  have hy : (y 0).val < 512 := (y 0).isLt
  have h := out_at m c t (t.val - 1) (late t hf) (y 0) (y 1) ⟨Nat.zero_le _, hy⟩
  show (dats m 0 c).after 24 t _ = _
  rw [after0_24]
  refine (congrArg (outsAt0 m c t.val t.isLt).1 (funext fun a => by fin_cases a <;> rfl)).trans (h.trans ?_)
  refine congrArg₂ (out (I m c)) ?_ ?_
  · show 512 * (t.val - 1) + (y 0).val = win0_24.index t 0 * 512 + 1 * (y 0).val
    rw [e0]; omega
  · show (y 1).val = win0_24.index t 1 * 1024 + 1 * (y 1).val
    rw [e1]; omega

end Cert.KernelIdeal.Steps

namespace Cert.Proof

open Idealize.ShloMosaic Idealize.SL.Sem

theorem algebraic : Cert.algebraic_KernelIdeal_ReferenceIdeal (hKernelIdeal := Cert.KernelIdeal.Gen.facts) (hReferenceIdeal := Cert.ReferenceIdeal.Gen.facts) := by
  intro m g m' g' _ hin
  refine ⟨fun c => Cert.KernelIdeal.Steps.whole m c, ?_, ?_⟩
  · exact (θ_run Cert.KernelIdeal.defs _ _).mono (fun _ h c => ⟨((h c).1 24).trans (Cert.KernelIdeal.Steps.final m c),
      ((h c).2 Cert.KernelIdeal.main_arg0 (Pipeline.mem_restRefs_of Cert.KernelIdeal.main_arg0 (by decide) (by decide))).trans (Cert.KernelIdeal.Gen.V_main_arg0 m c),
      ((h c).2 Cert.KernelIdeal.main_arg1 (Pipeline.mem_restRefs_of Cert.KernelIdeal.main_arg1 (by decide) (by decide))).trans (Cert.KernelIdeal.Gen.V_main_arg1 m c),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c),
      ((h c).2 Cert.KernelIdeal.main_arg8 (Pipeline.mem_restRefs_of Cert.KernelIdeal.main_arg8 (by decide) (by decide))).trans (Cert.KernelIdeal.Gen.V_main_arg8 m c),
      ((h c).2 Cert.KernelIdeal.main_arg9 (Pipeline.mem_restRefs_of Cert.KernelIdeal.main_arg9 (by decide) (by decide))).trans (Cert.KernelIdeal.Gen.V_main_arg9 m c),
      ((h c).2 Cert.KernelIdeal.main_arg10 (Pipeline.mem_restRefs_of Cert.KernelIdeal.main_arg10 (by decide) (by decide))).trans (Cert.KernelIdeal.Gen.V_main_arg10 m c),
      ((h c).2 Cert.KernelIdeal.main_arg11 (Pipeline.mem_restRefs_of Cert.KernelIdeal.main_arg11 (by decide) (by decide))).trans (Cert.KernelIdeal.Gen.V_main_arg11 m c),
      ((h c).2 Cert.KernelIdeal.main_arg12 (Pipeline.mem_restRefs_of Cert.KernelIdeal.main_arg12 (by decide) (by decide))).trans (Cert.KernelIdeal.Gen.V_main_arg12 m c),
      ((h c).2 Cert.KernelIdeal.main_arg13 (Pipeline.mem_restRefs_of Cert.KernelIdeal.main_arg13 (by decide) (by decide))).trans (Cert.KernelIdeal.Gen.V_main_arg13 m c),
      ((h c).2 Cert.KernelIdeal.main_arg14 (Pipeline.mem_restRefs_of Cert.KernelIdeal.main_arg14 (by decide) (by decide))).trans (Cert.KernelIdeal.Gen.V_main_arg14 m c),
      ((h c).2 Cert.KernelIdeal.main_arg15 (Pipeline.mem_restRefs_of Cert.KernelIdeal.main_arg15 (by decide) (by decide))).trans (Cert.KernelIdeal.Gen.V_main_arg15 m c),
      ((h c).2 Cert.KernelIdeal.main_arg16 (Pipeline.mem_restRefs_of Cert.KernelIdeal.main_arg16 (by decide) (by decide))).trans (Cert.KernelIdeal.Gen.V_main_arg16 m c),
      ((h c).2 Cert.KernelIdeal.main_arg17 (Pipeline.mem_restRefs_of Cert.KernelIdeal.main_arg17 (by decide) (by decide))).trans (Cert.KernelIdeal.Gen.V_main_arg17 m c),
      ((h c).2 Cert.KernelIdeal.main_arg18 (Pipeline.mem_restRefs_of Cert.KernelIdeal.main_arg18 (by decide) (by decide))).trans (Cert.KernelIdeal.Gen.V_main_arg18 m c)⟩) (Cert.KernelIdeal.Gen.run_main m g)
  · refine (θ_run Cert.ReferenceIdeal.defs _ _).mono (fun _ h c => ⟨(h c).1.trans ?_, (h c).2⟩) (Cert.ReferenceIdeal.Value.run m' g')
    obtain ⟨h0, h1, h2, h3, h4, h5, h6, h7, h8, h9, h10, h11, h12, h13, h14, h15, h16, h17, h18⟩ := hin c
    exact (Cert.ReferenceIdeal.Read.val_main_v421_eq (StableHlo.launchContents m' c)).trans
      (funext fun i => Cert.ReferenceIdeal.Rows.r421 (Cert.ReferenceIdeal.Rows.args_of h0 h1 h2 h3 h4 h5 h6 h7 h8 h9 h10 h11 h12 h13 h14 h15 h16 h17 h18) i)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdealFrame
public import proofs.«01_k».proof.Proof.Gen.ReferenceIdeal.Read
public import proofs.«01_k».proof.Proof.Gen.ReferenceIdeal.Run
public import proofs.«01_k».proof.Proof.Gen.ReferenceIdeal
public import proofs.«01_k».proof.Proof.Result
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Gen.frame m ρ, fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run m ρ),
    ⟨IdealRules.named_const.statement Cert.KernelIdeal.κ "gelu_b" .f32 0xBDD2D3E8#32 _ rfl,
      IdealRules.named_const.statement Cert.KernelIdeal.κ "gelu_a" .f32 0xC0135761#32 _ rfl,
      IdealRules.named_const.statement Cert.KernelIdeal.κ "log2e" .f32 0x3FB8AA3B#32 _ rfl,
      IdealRules.named_const.statement Cert.KernelIdeal.κ "neg_log2e" .f32 0xBFB8AA3B#32 _ rfl⟩,
    algebraic⟩

end Cert.Proof

end
